-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v71_3)) (v4 : (c : Dev Cert.KernelIdeal.nD) → Buf (Elt Ideal) ((c.tc : Thread Cert.KernelIdeal.nD Cert.KernelIdeal.τ).loc Cert.KernelIdeal.main_v71_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v71_3) = v3 c
          ∧ r.2.mem ((c.tc : Thread Cert.KernelIdeal.nD Cert.KernelIdeal.τ).loc Cert.KernelIdeal.main_v71_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)) (v3 : (c : Dev Cert.Kernel16Ideal.nD) → Buf (Elt Ideal) ((c.tc : Thread Cert.Kernel16Ideal.nD Cert.Kernel16Ideal.τ).loc Cert.Kernel16Ideal.main_v2_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_v2_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v66) = v1 c
          ∧ r.2.mem ((c.tc : Thread Cert.Reference16Ideal.nD Cert.Reference16Ideal.τ).loc Cert.Reference16Ideal.main_v65) = v2 c
          ∧ r.2.mem ((c.tc : Thread Cert.Reference16Ideal.nD Cert.Reference16Ideal.τ).loc Cert.Reference16Ideal.main_v68) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x3072 : Shape := ⟨2, ![4096, 3072]⟩
abbrev S8x4096 : Shape := ⟨2, ![8, 4096]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  bcast_S_S8x4096 : S_.BroadcastsInDim S8x4096 (![] : Fin 0 → Fin S8x4096.rank)
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S8x4096 .f32) (main_arg2 : FVec F S4096x1024 .f32) : IVec S4096x3072 1 × IVec S8x4096 1 × IVec S4096x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S8x4096 .f32 := Host.absf main_arg1
  let main_cst_0 : FVec F S_ .f32 := constant S_ .f32 0x7F800000#32
  let main_v4 : FVec F S8x4096 .f32 := broadcastInDim S8x4096 ![] bcast_S_S8x4096 main_cst_0
  let main_v5 : IVec S8x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S8x128 : Shape := ⟨2, ![8, 128]⟩
abbrev S_ : Shape := ⟨0, ![]⟩

class Facts : Prop where
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .f32) (main_arg2 : FVec F S4096x5632 .bf16) (main_arg3 : FVec F S4096x5632 .bf16) (main_arg4 : FVec F S8x128 .f32) : IVec S4096x2048 1 × IVec S5632x2048 1 × IVec S4096x5632 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S4096x5632 .bf16 := Host.absf main_arg3
  let main_cst_1 : FVec F S_ .bf16 := constant S_ .bf16 0x7F80#16
  let main_v7 : FVec F S4096x5632 .bf16 := broadcastInDim S4096x5632 ![] bcast_S_S4096x5632 main_cst_1
  let main_v8 : IVec S4096x5632 1 := cmpf .olt main_v6 main_v7
  (main_v2, main_v5, main_v8)
-- ==== Kernel.lean ====
abbrev S4096x3072 : Shape := ⟨2, ![4096, 3072]⟩
abbrev S8x4096 : Shape := ⟨2, ![8, 4096]⟩
abbrev S4096x1024 : Shape := ⟨2, ![4096, 1024]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x8x1x512 : Shape := ⟨4, ![8, 8, 1, 512]⟩
abbrev S4096x128 : Shape := ⟨2, ![4096, 128]⟩
abbrev S512x128 : Shape := ⟨2, ![512, 128]⟩
abbrev S1x1x1x512 : Shape := ⟨4, ![1, 1, 1, 512]⟩
abbrev S1x1x512 : Shape := ⟨3, ![1, 1, 512]⟩
abbrev S4096x1 : Shape := ⟨2, ![4096, 1]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 94
  | .vmem => 26
  | .smem => 0
  | _ => 0

abbrev bufTy : (tb : Table) → Fin (tcTables nBuf tb) → BufTy
  | .hbm, ⟨0, _⟩ => ⟨S4096x3072, .f32⟩
  | .hbm, ⟨1, _⟩ => ⟨S8x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S4096, .i32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S1x1x4096, .i32⟩
  | .hbm, ⟨22, _⟩ => ⟨S1x4096x1, .i32⟩
  | .hbm, ⟨23, _⟩ => ⟨S1x4096x4096, .i32⟩
  | .hbm, ⟨24, _⟩ => ⟨S1x4096x4096, .i32⟩
  | .hbm, ⟨25, _⟩ => ⟨S1x4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S4096x8x128, .f32⟩
  | .hbm, ⟨43, _⟩ => ⟨S8x4096x128, .f32⟩
  | .hbm, ⟨44, _⟩ => ⟨S4096x8x128, .f32⟩
  | .hbm, ⟨45, _⟩ => ⟨S8x4096x128, .f32⟩
  | .hbm, ⟨46, _⟩ => ⟨S4096x8x128, .f32⟩
  | .hbm, ⟨47, _⟩ => ⟨S8x4096x128, .f32⟩
  | .hbm, ⟨48, _⟩ => ⟨S4096, .i32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x1x4096, .f32⟩
  | .hbm, ⟨57, _⟩ => ⟨S8x4096x4096, .f32⟩
  | .hbm, ⟨58, _⟩ => ⟨S8x4096x4096, .f32⟩
  | .hbm, ⟨59, _⟩ => ⟨S1x1x4096, .i32⟩
  | .hbm, ⟨60, _⟩ => ⟨S1x4096x1, .i32⟩
  | .hbm, ⟨61, _⟩ => ⟨S1x4096x4096, .i32⟩
  | .hbm, ⟨62, _⟩ => ⟨S1x4096x4096, .i32⟩
  | .hbm, ⟨63, _⟩ => ⟨S1x4096x4096, .i1⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S_, .f32⟩
  | .hbm, ⟨72, _⟩ => ⟨S8x4096, .f32⟩
  | .hbm, ⟨73, _⟩ => ⟨S8x4096, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S8x4096x128, .f32⟩
  | .hbm, ⟨84, _⟩ => ⟨S4096x8x128, .f32⟩
  | .hbm, ⟨85, _⟩ => ⟨S4096x1024, .f32⟩
  | .hbm, ⟨86, _⟩ => ⟨S8x4096x1, .f32⟩
  | .hbm, ⟨87, _⟩ => ⟨S8x8x1x512, .f32⟩
  | .hbm, ⟨88, _⟩ => ⟨S4096x3072, .bf16⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S8x1x4096, .f32⟩
  | .hbm, ⟨93, _⟩ => ⟨S8x4096x1, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x4096x1, .f32⟩
  | .local _ .vmem, ⟨7, _⟩ => ⟨S1x4096x1, .f32⟩
  | .local _ .vmem, ⟨8, _⟩ => ⟨S1x1x1x512, .f32⟩
  | .local _ .vmem, ⟨9, _⟩ => ⟨S1x1x1x512, .f32⟩
  | .local _ .vmem, ⟨10, _⟩ => ⟨S1x4096x1, .f32⟩
  | .local _ .vmem, ⟨11, _⟩ => ⟨S1x4096x1, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x1x512, .f32⟩
  | .local _ .vmem, ⟨23, _⟩ => ⟨S1x1x512, .f32⟩
  | .local _ .vmem, ⟨24, _⟩ => ⟨S1x4096x1, .f32⟩
  | .local _ .vmem, ⟨25, _⟩ => ⟨S1x4096x1, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71_0 : Ref sig .tc := ⟨.hbm, 89, rfl⟩
abbrev main_v71_1 : Ref sig .tc := ⟨.hbm, 90, rfl⟩
abbrev main_v71_2 : Ref sig .tc := ⟨.hbm, 91, rfl⟩
abbrev main_v71_3 : Ref sig .tc := ⟨.hbm, 92, rfl⟩
abbrev main_v71_4 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_10 : Index := 0#32
  ![v14.toNat, 0]
def k0_off2 (i : grid0.Coords) : Fin 3 → Nat :=
  let c0_14 : Index := 0#32
  let arg1 : BitVec 32 := BitVec.ofNat 32 (i 1).val
  let c512_i32 : BitVec 32 := 512#32
  let v12 : BitVec 32 := Scalar.muli arg1 c512_i32
  let v13 : BitVec 32 := v12
  let v23 : Index := Scalar.indexCast v13
  let c0_15 : Index := 0#32
  ![0, v23.toNat, 0]
@[reducible] def k0_t1_loop (i : grid0.Coords) : Scf.Loop 32 :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.subi c8_i32 v78
  let c1_i32_34 : BitVec 32 := 1#32
  let v81 : BitVec 32 := Scalar.divsi v79 c1_i32_34
  let v82 : BitVec 32 := Scalar.muli v81 c1_i32_34
  let v83 : BitVec 32 := Scalar.addi v78 v82
  let c1_i32_35 : BitVec 32 := 1#32
  ⟨v78, v83, c1_i32_35⟩
def k0_mult2 (i : grid0.Coords) (k0_t1 : Fin (k0_t1_loop i).trips) : BitVec 32 :=
  let arg1 : BitVec 32 := BitVec.ofNat 32 (i 1).val
  let c1_i32 : BitVec 32 := 1#32
  let v78 : BitVec 32 := Scalar.addi arg1 c1_i32
  let c1_i32_35 : BitVec 32 := 1#32
  let arg15 : BitVec 32 := Scf.iv v78 c1_i32_35 k0_t1
  let c512_i32_44 : BitVec 32 := 512#32
  let v91 : BitVec 32 := Scalar.muli arg15 c512_i32_44
  v91
def k0_off3 (i : grid0.Coords) (k0_t1 : Fin (k0_t1_loop i).trips) : Fin 2 → Nat :=
  let arg1 : BitVec 32 := BitVec.ofNat 32 (i 1).val
  let c1_i32 : BitVec 32 := 1#32
  let v78 : BitVec 32 := Scalar.addi arg1 c1_i32
  let c1_i32_35 : BitVec 32 := 1#32
  let arg15 : BitVec 32 := Scf.iv v78 c1_i32_35 k0_t1
  let c512_i32_44 : BitVec 32 := 512#32
  let v91 : BitVec 32 := Scalar.muli arg15 c512_i32_44
  let v92 : BitVec 32 := v91
  let v93 : Index := Scalar.indexCast v92
  let c0_45 : Index := 0#32
  ![v93.toNat, 0]
def k0_off4 (i : grid0.Coords) (k0_t1 : Fin (k0_t1_loop i).trips) : Fin 3 → Nat :=
  let c0_49 : Index := 0#32
  let arg1 : BitVec 32 := BitVec.ofNat 32 (i 1).val
  let c1_i32 : BitVec 32 := 1#32
  let v78 : BitVec 32 := Scalar.addi arg1 c1_i32
  let c1_i32_35 : BitVec 32 := 1#32
  let arg15 : BitVec 32 := Scf.iv v78 c1_i32_35 k0_t1
  let c512_i32_44 : BitVec 32 := 512#32
  let v91 : BitVec 32 := Scalar.muli arg15 c512_i32_44
  let v92 : BitVec 32 := v91
  let v102 : Index := Scalar.indexCast v92
  let c0_50 : Index := 0#32
  ![0, v102.toNat, 0]
@[reducible] def k0_t2_loop (i : grid0.Coords) : Scf.Loop 32 :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.subi c8_i32 v78
  let c1_i32_34 : BitVec 32 := 1#32
  let v81 : BitVec 32 := Scalar.divsi v79 c1_i32_34
  let v82 : BitVec 32 := Scalar.muli v81 c1_i32_34
  let v83 : BitVec 32 := Scalar.addi v78 v82
  let v80 : BitVec 32 := Scalar.addi v78 v79
  let c1_i32_36 : BitVec 32 := 1#32
  ⟨v83, v80, c1_i32_36⟩
def k0_mult3 (i : grid0.Coords) (k0_t2 : Fin (k0_t2_loop i).trips) : BitVec 32 :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.subi c8_i32 v78
  let c1_i32_34 : BitVec 32 := 1#32
  let v81 : BitVec 32 := Scalar.divsi v79 c1_i32_34
  let v82 : BitVec 32 := Scalar.muli v81 c1_i32_34
  let v83 : BitVec 32 := Scalar.addi v78 v82
  let c1_i32_36 : BitVec 32 := 1#32
  let arg15 : BitVec 32 := Scf.iv v83 c1_i32_36 k0_t2
  let c512_i32_44 : BitVec 32 := 512#32
  let v91 : BitVec 32 := Scalar.muli arg15 c512_i32_44
  v91
def k0_off5 (i : grid0.Coords) (k0_t2 : Fin (k0_t2_loop i).trips) : Fin 2 → Nat :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.subi c8_i32 v78
  let c1_i32_34 : BitVec 32 := 1#32
  let v81 : BitVec 32 := Scalar.divsi v79 c1_i32_34
  let v82 : BitVec 32 := Scalar.muli v81 c1_i32_34
  let v83 : BitVec 32 := Scalar.addi v78 v82
  let c1_i32_36 : BitVec 32 := 1#32
  let arg15 : BitVec 32 := Scf.iv v83 c1_i32_36 k0_t2
  let c512_i32_44 : BitVec 32 := 512#32
  let v91 : BitVec 32 := Scalar.muli arg15 c512_i32_44
  let v92 : BitVec 32 := v91
  let v93 : Index := Scalar.indexCast v92
  let c0_45 : Index := 0#32
  ![v93.toNat, 0]
def k0_off6 (i : grid0.Coords) (k0_t2 : Fin (k0_t2_loop i).trips) : Fin 3 → Nat :=
  let c0_49 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.subi c8_i32 v78
  let c1_i32_34 : BitVec 32 := 1#32
  let v81 : BitVec 32 := Scalar.divsi v79 c1_i32_34
  let v82 : BitVec 32 := Scalar.muli v81 c1_i32_34
  let v83 : BitVec 32 := Scalar.addi v78 v82
  let c1_i32_36 : BitVec 32 := 1#32
  let arg15 : BitVec 32 := Scf.iv v83 c1_i32_36 k0_t2
  let c512_i32_44 : BitVec 32 := 512#32
  let v91 : BitVec 32 := Scalar.muli arg15 c512_i32_44
  let v92 : BitVec 32 := v91
  let v102 : Index := Scalar.indexCast v92
  let c0_50 : Index := 0#32
  ![0, v102.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4096x3072 : Shape := ⟨2, ![4096, 3072]⟩
abbrev S8x4096 : Shape := ⟨2, ![8, 4096]⟩
abbrev S4096x1024 : Shape := ⟨2, ![4096, 1024]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x128x4096 : Shape := ⟨3, ![8, 128, 4096]⟩

abbrev nBuf : Space → Nat
  | .hbm => 122
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S8x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S4096x8x128, .f32⟩
  | .hbm, ⟨11, _⟩ => ⟨S8x4096x128, .f32⟩
  | .hbm, ⟨12, _⟩ => ⟨S4096, .i32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S1x1x4096, .i32⟩
  | .hbm, ⟨24, _⟩ => ⟨S1x4096x1, .i32⟩
  | .hbm, ⟨25, _⟩ => ⟨S1x4096x4096, .i32⟩
  | .hbm, ⟨26, _⟩ => ⟨S1x4096x4096, .i32⟩
  | .hbm, ⟨27, _⟩ => ⟨S1x4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .i1⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x128, .f32⟩
  | .hbm, ⟨74, _⟩ => ⟨S4096x8x128, .f32⟩
  | .hbm, ⟨75, _⟩ => ⟨S4096x1024, .f32⟩
  | .hbm, ⟨76, _⟩ => ⟨S4096x8x128, .f32⟩
  | .hbm, ⟨77, _⟩ => ⟨S8x4096x128, .f32⟩
  | .hbm, ⟨78, _⟩ => ⟨S8x128x4096, .f32⟩
  | .hbm, ⟨79, _⟩ => ⟨S8x4096x128, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S8x4096x1, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S_, .f32⟩
  | .hbm, ⟨100, _⟩ => ⟨S8x4096, .f32⟩
  | .hbm, ⟨101, _⟩ => ⟨S8x1x4096, .f32⟩
  | .hbm, ⟨102, _⟩ => ⟨S_, .f32⟩
  | .hbm, ⟨103, _⟩ => ⟨S8x4096, .f32⟩
  | .hbm, ⟨104, _⟩ => ⟨S_, .f32⟩
  | .hbm, ⟨105, _⟩ => ⟨S8x4096, .f32⟩
  | .hbm, ⟨106, _⟩ => ⟨S8x4096x1, .f32⟩
  | .hbm, ⟨107, _⟩ => ⟨S_, .f32⟩
  | .hbm, ⟨108, _⟩ => ⟨S8x4096, .f32⟩
  | .hbm, ⟨109, _⟩ => ⟨S_, .f32⟩
  | .hbm, ⟨110, _⟩ => ⟨S8x4096x4096, .f32⟩
  | .hbm, ⟨111, _⟩ => ⟨S8x4096x4096, .f32⟩
  | .hbm, ⟨112, _⟩ => ⟨S8x4096x128, .f32⟩
  | .hbm, ⟨113, _⟩ => ⟨S8x4096x128, .f32⟩
  | .hbm, ⟨114, _⟩ => ⟨S4096x8x128, .f32⟩
  | .hbm, ⟨115, _⟩ => ⟨S4096x1024, .f32⟩
  | .hbm, ⟨116, _⟩ => ⟨S4096x8x128, .f32⟩
  | .hbm, ⟨117, _⟩ => ⟨S4096x1024, .f32⟩
  | .hbm, ⟨118, _⟩ => ⟨S4096x8x128, .f32⟩
  | .hbm, ⟨119, _⟩ => ⟨S4096x1024, .f32⟩
  | .hbm, ⟨120, _⟩ => ⟨S8x1x4096, .f32⟩
  | .hbm, ⟨121, _⟩ => ⟨S8x4096x1, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S8x128 : Shape := ⟨2, ![8, 128]⟩
abbrev S2x4096x5632 : Shape := ⟨3, ![2, 4096, 5632]⟩
abbrev S1024x2048 : Shape := ⟨2, ![1024, 2048]⟩
abbrev S512x2048 : Shape := ⟨2, ![512, 2048]⟩
abbrev S1024x512 : Shape := ⟨2, ![1024, 512]⟩
abbrev S2x1024x512 : Shape := ⟨3, ![2, 1024, 512]⟩
abbrev S1x1024x512 : Shape := ⟨3, ![1, 1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S8x128, .f32⟩
  | .hbm, ⟨5, _⟩ => ⟨S5632x2048, .bf16⟩
  | .hbm, ⟨6, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S8x128 : Shape := ⟨2, ![8, 128]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S8x128, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S1x4096x5632, .f32⟩
  | .hbm, ⟨37, _⟩ => ⟨S1x4096x5632, .f32⟩
  | .hbm, ⟨38, _⟩ => ⟨S2x4096x5632, .f32⟩
  | .hbm, ⟨39, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel3.lean ====
abbrev S2x4096x5632 : Shape := ⟨3, ![2, 4096, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4096x2048 : Shape := ⟨2, ![4096, 2048]⟩
abbrev S1x1024x2816 : Shape := ⟨3, ![1, 1024, 2816]⟩
abbrev S1x512x2816 : Shape := ⟨3, ![1, 512, 2816]⟩
abbrev S1024x512 : Shape := ⟨2, ![1024, 512]⟩
abbrev S1024x2816 : Shape := ⟨2, ![1024, 2816]⟩
abbrev S512x2816 : Shape := ⟨2, ![512, 2816]⟩

abbrev nBuf : Space → Nat
  | .hbm => 6
  | .vmem => 11
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S2048x4x2816, .f32⟩
  | .hbm, ⟨3, _⟩ => ⟨S4x2048x2816, .f32⟩
  | .hbm, ⟨4, _⟩ => ⟨S4x2048x2816, .bf16⟩
  | .hbm, ⟨5, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x512x2816, .bf16⟩
  | .local _ .vmem, ⟨5, _⟩ => ⟨S1x512x2816, .bf16⟩
  | .local _ .vmem, ⟨6, _⟩ => ⟨S1x512x2816, .bf16⟩
  | .local _ .vmem, ⟨7, _⟩ => ⟨S1x512x2816, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S1x4096x5632 : Shape := ⟨3, ![1, 4096, 5632]⟩
abbrev S4096x5632 : Shape := ⟨2, ![4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S2x4096x5632, .f32⟩
  | .hbm, ⟨5, _⟩ => ⟨S4096x11264, .f32⟩
  | .hbm, ⟨6, _⟩ => ⟨S1x4096x5632, .f32⟩
  | .hbm, ⟨7, _⟩ => ⟨S4096x5632, .f32⟩
  | .hbm, ⟨8, _⟩ => ⟨S1x4096x5632, .f32⟩
  | .hbm, ⟨9, _⟩ => ⟨S4096x5632, .f32⟩
  | .hbm, ⟨10, _⟩ => ⟨S4096x11264, .f32⟩
  | .hbm, ⟨11, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2048 : Shape := ⟨2, ![4096, 2048]⟩
abbrev S2x4096x5632 : Shape := ⟨3, ![2, 4096, 5632]⟩
abbrev S4x2048x2816 : Shape := ⟨3, ![4, 2048, 2816]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S2x4096x5632, .f32⟩
  | .hbm, ⟨6, _⟩ => ⟨S4096x11264, .f32⟩
  | .hbm, ⟨7, _⟩ => ⟨S1x4096x5632, .f32⟩
  | .hbm, ⟨8, _⟩ => ⟨S4096x5632, .f32⟩
  | .hbm, ⟨9, _⟩ => ⟨S1x4096x5632, .f32⟩
  | .hbm, ⟨10, _⟩ => ⟨S4096x5632, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x4x2816, .f32⟩
  | .hbm, ⟨15, _⟩ => ⟨S4x2048x2816, .f32⟩
  | .hbm, ⟨16, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S8x128, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S8x128 : Shape := ⟨2, ![8, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S8x128, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x5640 : Shape := ⟨2, ![4096, 5640]⟩
abbrev S2048x5640 : Shape := ⟨2, ![2048, 5640]⟩
abbrev S4096x4608 : Shape := ⟨2, ![4096, 4608]⟩
abbrev S4096x1024 : Shape := ⟨2, ![4096, 1024]⟩
abbrev S4096x8 : Shape := ⟨2, ![4096, 8]⟩
abbrev S_ : Shape := ⟨0, ![]⟩
abbrev S4096x120 : Shape := ⟨2, ![4096, 120]⟩
abbrev S4096x5760 : Shape := ⟨2, ![4096, 5760]⟩
abbrev S2048x4608 : Shape := ⟨2, ![2048, 4608]⟩
abbrev S2048x1024 : Shape := ⟨2, ![2048, 1024]⟩
abbrev S2048x8 : Shape := ⟨2, ![2048, 8]⟩
abbrev S2048x120 : Shape := ⟨2, ![2048, 120]⟩
abbrev S2048x5760 : Shape := ⟨2, ![2048, 5760]⟩
abbrev S4096x2048 : Shape := ⟨2, ![4096, 2048]⟩
abbrev S512x5760 : Shape := ⟨2, ![512, 5760]⟩
abbrev S1024x5760 : Shape := ⟨2, ![1024, 5760]⟩
abbrev S512x1024 : Shape := ⟨2, ![512, 1024]⟩

abbrev nBuf : Space → Nat
  | .hbm => 17
  | .vmem => 6
  | .smem => 0
  | _ => 0

abbrev bufTy : (tb : Table) → Fin (tcTables nBuf tb) → BufTy
  | .hbm, ⟨0, _⟩ => ⟨S4096x5640, .f32⟩
  | .hbm, ⟨1, _⟩ => ⟨S2048x5640, .f32⟩
  | .hbm, ⟨2, _⟩ => ⟨S4096x4608, .f32⟩
  | .hbm, ⟨3, _⟩ => ⟨S4096x1024, .f32⟩
  | .hbm, ⟨4, _⟩ => ⟨S4096x8, .f32⟩
  | .hbm, ⟨5, _⟩ => ⟨S_, .f32⟩
  | .hbm, ⟨6, _⟩ => ⟨S4096x120, .f32⟩
  | .hbm, ⟨7, _⟩ => ⟨S4096x5760, .f32⟩
  | .hbm, ⟨8, _⟩ => ⟨S4096x5760, .bf16⟩
  | .hbm, ⟨9, _⟩ => ⟨S2048x4608, .f32⟩
  | .hbm, ⟨10, _⟩ => ⟨S2048x1024, .f32⟩
  | .hbm, ⟨11, _⟩ => ⟨S2048x8, .f32⟩
  | .hbm, ⟨12, _⟩ => ⟨S_, .f32⟩
  | .hbm, ⟨13, _⟩ => ⟨S2048x120, .f32⟩
  | .hbm, ⟨14, _⟩ => ⟨S2048x5760, .f32⟩
  | .hbm, ⟨15, _⟩ => ⟨S2048x5760, .bf16⟩
  | .hbm, ⟨16, _⟩ => ⟨S4096x2048, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S1024x5760, .bf16⟩
  | .local _ .vmem, ⟨4, _⟩ => ⟨S512x1024, .f32⟩
  | .local _ .vmem, ⟨5, _⟩ => ⟨S512x1024, .f32⟩
  | _, _ => ⟨S4096x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x5760 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x5640 : Shape := ⟨2, ![4096, 5640]⟩
abbrev S2048x5640 : Shape := ⟨2, ![2048, 5640]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5640, .f32⟩
  | .hbm, ⟨1, _⟩ => ⟨S2048x5640, .f32⟩
  | .hbm, ⟨2, _⟩ => ⟨S_, .f32⟩
  | .hbm, ⟨3, _⟩ => ⟨S4096x2048, .f32⟩
  | .hbm, ⟨4, _⟩ => ⟨S4096x5640, .f32⟩
  | .hbm, ⟨5, _⟩ => ⟨S4096x2048, .f32⟩
  | _, _ => ⟨S4096x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x2048 : Shape := ⟨2, ![4096, 2048]⟩
abbrev S4096x5640 : Shape := ⟨2, ![4096, 5640]⟩
abbrev S4096x4608 : Shape := ⟨2, ![4096, 4608]⟩
abbrev S4096x1024 : Shape := ⟨2, ![4096, 1024]⟩
abbrev S4096x8 : Shape := ⟨2, ![4096, 8]⟩
abbrev S_ : Shape := ⟨0, ![]⟩
abbrev S4096x120 : Shape := ⟨2, ![4096, 120]⟩
abbrev S4096x5760 : Shape := ⟨2, ![4096, 5760]⟩
abbrev S2048x5760 : Shape := ⟨2, ![2048, 5760]⟩
abbrev S4096x512 : Shape := ⟨2, ![4096, 512]⟩
abbrev S4096x1152 : Shape := ⟨2, ![4096, 1152]⟩
abbrev S512x1152 : Shape := ⟨2, ![512, 1152]⟩

abbrev nBuf : Space → Nat
  | .hbm => 10
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5640, .f32⟩
  | .hbm, ⟨2, _⟩ => ⟨S4096x4608, .f32⟩
  | .hbm, ⟨3, _⟩ => ⟨S4096x1024, .f32⟩
  | .hbm, ⟨4, _⟩ => ⟨S4096x8, .f32⟩
  | .hbm, ⟨5, _⟩ => ⟨S_, .f32⟩
  | .hbm, ⟨6, _⟩ => ⟨S4096x120, .f32⟩
  | .hbm, ⟨7, _⟩ => ⟨S4096x5760, .f32⟩
  | .hbm, ⟨8, _⟩ => ⟨S4096x5760, .bf16⟩
  | .hbm, ⟨9, _⟩ => ⟨S2048x5760, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S4096x1152, .bf16⟩
  | .local _ .vmem, ⟨4, _⟩ => ⟨S512x1152, .bf16⟩
  | .local _ .vmem, ⟨5, _⟩ => ⟨S512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x5640 : Shape := ⟨2, ![4096, 5640]⟩
abbrev S_ : Shape := ⟨0, ![]⟩
abbrev S2048x5640 : Shape := ⟨2, ![2048, 5640]⟩
abbrev S5640x2048 : Shape := ⟨2, ![5640, 2048]⟩
abbrev S2048x4608 : Shape := ⟨2, ![2048, 4608]⟩
abbrev S2048x8 : Shape := ⟨2, ![2048, 8]⟩
abbrev S2048x1024 : Shape := ⟨2, ![2048, 1024]⟩
abbrev S2048x120 : Shape := ⟨2, ![2048, 120]⟩
abbrev S2048x5760 : Shape := ⟨2, ![2048, 5760]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5640, .f32⟩
  | .hbm, ⟨2, _⟩ => ⟨S_, .f32⟩
  | .hbm, ⟨3, _⟩ => ⟨S2048x5640, .f32⟩
  | .hbm, ⟨4, _⟩ => ⟨S4096x2048, .f32⟩
  | .hbm, ⟨5, _⟩ => ⟨S4096x5640, .f32⟩
  | .hbm, ⟨6, _⟩ => ⟨S5640x2048, .f32⟩
  | .hbm, ⟨7, _⟩ => ⟨S2048x5640, .f32⟩
  | .hbm, ⟨8, _⟩ => ⟨S2048x5640, .bf16⟩
  | .hbm, ⟨9, _⟩ => ⟨S2048x4608, .bf16⟩
  | .hbm, ⟨10, _⟩ => ⟨S2048x8, .bf16⟩
  | .hbm, ⟨11, _⟩ => ⟨S2048x1024, .bf16⟩
  | .hbm, ⟨12, _⟩ => ⟨S_, .bf16⟩
  | .hbm, ⟨13, _⟩ => ⟨S2048x120, .bf16⟩
  | .hbm, ⟨14, _⟩ => ⟨S2048x5760, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4096x5632 : Shape := ⟨2, ![4096, 5632]⟩
abbrev S1024x2048 : Shape := ⟨2, ![1024, 2048]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x4x2816, .f32⟩
  | .hbm, ⟨3, _⟩ => ⟨S4x2048x2816, .f32⟩
  | .hbm, ⟨4, _⟩ => ⟨S4x2048x2816, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S4096x5632, .bf16⟩
  | .hbm, ⟨7, _⟩ => ⟨S4096x5632, .bf16⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel11.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S2048x5640 : Shape := ⟨2, ![2048, 5640]⟩
abbrev S2048x4608 : Shape := ⟨2, ![2048, 4608]⟩
abbrev S2048x1024 : Shape := ⟨2, ![2048, 1024]⟩
abbrev S2048x8 : Shape := ⟨2, ![2048, 8]⟩
abbrev S_ : Shape := ⟨0, ![]⟩
abbrev S2048x120 : Shape := ⟨2, ![2048, 120]⟩
abbrev S2048x5760 : Shape := ⟨2, ![2048, 5760]⟩
abbrev S4096x5760 : Shape := ⟨2, ![4096, 5760]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 10
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5640, .f32⟩
  | .hbm, ⟨2, _⟩ => ⟨S2048x4608, .f32⟩
  | .hbm, ⟨3, _⟩ => ⟨S2048x1024, .f32⟩
  | .hbm, ⟨4, _⟩ => ⟨S2048x8, .f32⟩
  | .hbm, ⟨5, _⟩ => ⟨S_, .f32⟩
  | .hbm, ⟨6, _⟩ => ⟨S2048x120, .f32⟩
  | .hbm, ⟨7, _⟩ => ⟨S2048x5760, .f32⟩
  | .hbm, ⟨8, _⟩ => ⟨S2048x5760, .bf16⟩
  | .hbm, ⟨9, _⟩ => ⟨S4096x5760, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x5640 : Shape := ⟨2, ![2048, 5640]⟩
abbrev S4096x5640 : Shape := ⟨2, ![4096, 5640]⟩
abbrev S4096x4608 : Shape := ⟨2, ![4096, 4608]⟩
abbrev S4096x8 : Shape := ⟨2, ![4096, 8]⟩
abbrev S4096x1024 : Shape := ⟨2, ![4096, 1024]⟩
abbrev S_ : Shape := ⟨0, ![]⟩
abbrev S4096x120 : Shape := ⟨2, ![4096, 120]⟩
abbrev S4096x5760 : Shape := ⟨2, ![4096, 5760]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5640, .f32⟩
  | .hbm, ⟨2, _⟩ => ⟨S4096x2048, .f32⟩
  | .hbm, ⟨3, _⟩ => ⟨S4096x5640, .f32⟩
  | .hbm, ⟨4, _⟩ => ⟨S4096x4608, .f32⟩
  | .hbm, ⟨5, _⟩ => ⟨S4096x8, .f32⟩
  | .hbm, ⟨6, _⟩ => ⟨S4096x1024, .f32⟩
  | .hbm, ⟨7, _⟩ => ⟨S_, .f32⟩
  | .hbm, ⟨8, _⟩ => ⟨S4096x120, .f32⟩
  | .hbm, ⟨9, _⟩ => ⟨S4096x5760, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S512x2048 : Shape := ⟨2, ![512, 2048]⟩
abbrev S512x1 : Shape := ⟨2, ![512, 1]⟩
abbrev S512 : Shape := ⟨1, ![512]⟩

abbrev nBuf : Space → Nat
  | .hbm => 19
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S1x2048, .f32⟩
  | .hbm, ⟨16, _⟩ => ⟨S4096x2048, .f32⟩
  | .hbm, ⟨17, _⟩ => ⟨S4096x2048, .bf16⟩
  | .hbm, ⟨18, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_15 : BitVec 32 := 0#32
  let v30 : BitVec 1 := Scalar.cmpi .ne v29 c0_i32_15
  v30

def k0_cond2 (i : grid0.Coords) : BitVec 1 :=
  let arg0 : BitVec 32 := BitVec.ofNat 32 (i 0).val
  let c0_i32_16 : BitVec 32 := 0#32
  let v31 : BitVec 1 := Scalar.cmpi .sgt arg0 c0_i32_16
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S4096x2048 : Shape := ⟨2, ![4096, 2048]⟩
abbrev S2048 : Shape := ⟨1, ![2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel16.lean ====
abbrev S4096x5760 : Shape := ⟨2, ![4096, 5760]⟩
abbrev S3x512 : Shape := ⟨2, ![3, 512]⟩
abbrev S4096x512 : Shape := ⟨2, ![4096, 512]⟩
abbrev S_ : Shape := ⟨0, ![]⟩
abbrev S5x512 : Shape := ⟨2, ![5, 512]⟩
abbrev S8x512 : Shape := ⟨2, ![8, 512]⟩
abbrev S4096x128 : Shape := ⟨2, ![4096, 128]⟩
abbrev S8x128 : Shape := ⟨2, ![8, 128]⟩
abbrev S1x128 : Shape := ⟨2, ![1, 128]⟩
abbrev S512x128 : Shape := ⟨2, ![512, 128]⟩
abbrev S520x128 : Shape := ⟨2, ![520, 128]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S4096x5760, .f32⟩
  | .hbm, ⟨1, _⟩ => ⟨S3x512, .f32⟩
  | .hbm, ⟨2, _⟩ => ⟨S4096x512, .f32⟩
  | .hbm, ⟨3, _⟩ => ⟨S_, .f32⟩
  | .hbm, ⟨4, _⟩ => ⟨S5x512, .f32⟩
  | .hbm, ⟨5, _⟩ => ⟨S8x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S8x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S8x128, .f32⟩
  | .local _ .vmem, ⟨7, _⟩ => ⟨S8x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S8x128, .f32⟩
  | .local _ .vmem, ⟨17, _⟩ => ⟨S8x128, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  v10
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let v12 : Index := Scalar.indexCast v11
  let c0_9 : Index := 0#32
  ![v12.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let c8_i32_13 : BitVec 32 := 8#32
  let v21 : BitVec 32 := Scalar.subi v11 c8_i32_13
  let c0_i32_14 : BitVec 32 := 0#32
  let v22 : BitVec 32 := Scalar.maxsi v21 c0_i32_14
  v22
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let c8_i32_13 : BitVec 32 := 8#32
  let v21 : BitVec 32 := Scalar.subi v11 c8_i32_13
  let c0_i32_14 : BitVec 32 := 0#32
  let v22 : BitVec 32 := Scalar.maxsi v21 c0_i32_14
  let v23 : BitVec 32 := v22
  let v24 : Index := Scalar.indexCast v23
  let c0_15 : Index := 0#32
  ![v24.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let c8_i32_17 : BitVec 32 := 8#32
  let v31 : BitVec 32 := Scalar.subi v11 c8_i32_17
  let c0_i32_18 : BitVec 32 := 0#32
  let v32 : BitVec 32 := Scalar.maxsi v31 c0_i32_18
  v32
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let c512_i32_23 : BitVec 32 := 512#32
  let v62 : BitVec 32 := Scalar.addi v11 c512_i32_23
  let c3584_i32 : BitVec 32 := 3584#32
  let v63 : BitVec 32 := Scalar.minsi v62 c3584_i32
  v63
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let c512_i32_23 : BitVec 32 := 512#32
  let v62 : BitVec 32 := Scalar.addi v11 c512_i32_23
  let c3584_i32 : BitVec 32 := 3584#32
  let v63 : BitVec 32 := Scalar.minsi v62 c3584_i32
  let v64 : BitVec 32 := v63
  let v65 : Index := Scalar.indexCast v64
  let c0_24 : Index := 0#32
  ![v65.toNat, 0]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v10 : BitVec 32 := Scalar.muli arg10 c512_i32
  let v11 : BitVec 32 := v10
  let c512_i32_25 : BitVec 32 := 512#32
  let v72 : BitVec 32 := Scalar.addi v11 c512_i32_25
  let c3584_i32_26 : BitVec 32 := 3584#32
  let v73 : BitVec 32 := Scalar.minsi v72 c3584_i32_26
  v73
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4096x5760 : Shape := ⟨2, ![4096, 5760]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S5x512 : Shape := ⟨2, ![5, 512]⟩
abbrev S8x512 : Shape := ⟨2, ![8, 512]⟩

abbrev nBuf : Space → Nat
  | .hbm => 88
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S4098x512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S4098x512, .f32⟩
  | .hbm, ⟨61, _⟩ => ⟨S4098x512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S3x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S512, .f32⟩
  | .hbm, ⟨74, _⟩ => ⟨S_, .f32⟩
  | .hbm, ⟨75, _⟩ => ⟨S4098x512, .f32⟩
  | .hbm, ⟨76, _⟩ => ⟨S4098x512, .f32⟩
  | .hbm, ⟨77, _⟩ => ⟨S1x512, .f32⟩
  | .hbm, ⟨78, _⟩ => ⟨S_, .f32⟩
  | .hbm, ⟨79, _⟩ => ⟨S3x512, .f32⟩
  | .hbm, ⟨80, _⟩ => ⟨S3x512, .f32⟩
  | .hbm, ⟨81, _⟩ => ⟨S2x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S_, .f32⟩
  | .hbm, ⟨86, _⟩ => ⟨S5x512, .f32⟩
  | .hbm, ⟨87, _⟩ => ⟨S8x512, .f32⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Proof.Words.lean ====
module

public import proofs.«01_k».proof.Proof.Gen.Kernel.Skeleton
public import proofs.«01_k».proof.Proof.Gen.Kernel.Loops
public import proofs.«01_k».proof.Proof.Gen.Kernel.Frame
public import Idealize.ShloMosaic.Lib.WholeRead
public import Idealize.ShloMosaic.Lib.Quiescent

@[expose] public section

set_option maxRecDepth 16384

noncomputable section

/-! # The kernel's frame at any floats: the outputs are left unnamed -/

namespace Cert.AttnBwd.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose BodyObligation cellOf)

variable {F : FTy → Type} [FloatOps F]

local notation "𝕄" => MT nD τ sig Unit (Elt F) ℕ (UR sig nD τ) ℕ

/-- Whether a point is its head's first. -/
abbrev startsAt (i : grid0.Coords) : Prop := (Scalar.cmpi .ne (Scalar.extui (Scalar.cmpi .eq (BitVec.ofNat 32 (i 1).val) 0#32)) 0#32) = 1#1

set_option maxHeartbeats 1000000 in
/-- The body at any point, from any contents of the outputs. -/
theorem runs_at (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x1x512 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512 .f32) (harg13 : arg13.IsWhole) (arg14 : Memref sig .tc .vmem S1x4096x1 .f32) (harg14 : arg14.IsWhole) (x0 : Vec F S4096x128 .bf16) (x1 : Vec F S512x128 .bf16) (x2 : Vec F S512x128 .bf16) (x3 : Vec F S1x4096x1 .f32) (x4 : Vec F S1x1x1x512 .f32) (x5 : Vec F S1x4096x1 .f32) (x6 : Vec F S4096x128 .f32) (x7 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  by_cases hc0 : startsAt i
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

variable (m : (ℓ : Loc nD τ sig) → Buf (Elt F) ℓ) (ρ : Dev nD → PrngReg)

/-- The outputs, of which nothing is said. -/
def forgets (w : Fin cfg0.W) : Bool := decide (8 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Dat.unnamed (cfg := cfg0) ⟨8, h⟩ t
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem found0 (c : Dev nD) (t : Fin cfg0.N) (d) : (dats m 0 c).before 0 t d = iblk m c 0 t :=
  before0_0_of m (dats m 0 c) (A_eq m c 0) (left0 m c) t d
theorem found1 (c : Dev nD) (t : Fin cfg0.N) (d) : (dats m 0 c).before 1 t d = iblk m c 1 t :=
  before0_1_of m (dats m 0 c) (A_eq m c 1) (left1 m c) t d
theorem found2 (c : Dev nD) (t : Fin cfg0.N) (d) : (dats m 0 c).before 2 t d = iblk m c 2 t :=
  before0_2_of m (dats m 0 c) (A_eq m c 2) (left2 m c) t d
theorem found3 (c : Dev nD) (t : Fin cfg0.N) (d) : (dats m 0 c).before 3 t d = iblk m c 3 t :=
  before0_3_of m (dats m 0 c) (A_eq m c 3) (left3 m c) t d
theorem found4 (c : Dev nD) (t : Fin cfg0.N) (d) : (dats m 0 c).before 4 t d = iblk m c 4 t :=
  before0_4_of m (dats m 0 c) (A_eq m c 4) (left4 m c) t d
theorem found5 (c : Dev nD) (t : Fin cfg0.N) (d) : (dats m 0 c).before 5 t d = iblk m c 5 t :=
  before0_5_of m (dats m 0 c) (A_eq m c 5) (left5 m c) t d
theorem found6 (c : Dev nD) (t : Fin cfg0.N) (d) : (dats m 0 c).before 6 t d = iblk m c 6 t :=
  before0_6_of m (dats m 0 c) (A_eq m c 6) (left6 m c) t d
theorem found7 (c : Dev nD) (t : Fin cfg0.N) (d) : (dats m 0 c).before 7 t d = iblk m c 7 t :=
  before0_7_of m (dats m 0 c) (A_eq m c 7) (left7 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (dats m 0 c).Φ t.succ = (dats m 0 c).Φ t.castSucc from rfl,
    show (dats m 0 c).owesAt () t.succ = (dats m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  have R := runs_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (iblk m c 0 t) (iblk m c 1 t) (iblk m c 2 t) (iblk m c 3 t) (iblk m c 4 t) (iblk m c 5 t) (iblk m c 6 t) (iblk m c 7 t) Set.univ
  iapply (R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_quiet : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The program terminates, leaves its arguments as they were and every counter at zero. -/
theorem frame_words : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 7 rfl).trans ((A_eq m c 7).trans (V_main_arg2 m c))⟩, h.2⟩) (run_quiet m ρ)

end Cert.AttnBwd.Words

end
-- ==== Proof.Pay.lean ====
module

public import proofs.«01_k».proof.Proof.Gen.KernelIdeal.Skeleton
public import Idealize.ShloMosaic.PureOps.Ideal
public import Idealize.ShloMosaic.Lib.Pointwise
public import Idealize.ShloMosaic.Lib.WordCmp

@[expose] public section

set_option maxRecDepth 16384

noncomputable section

namespace Cert.AttnBwd

open Cert.KernelIdeal Cert.KernelIdeal.Gen
open Idealize.ShloMosaic
open scoped BigOperators

/-- The score's scale, the word the kernel and the reference print. -/
abbrev sc : EReal := Ideal.ofBits FTy.f32 1035273459#32

/-- Row `b` of the `n`-th block of 512 rows. -/
def row (n : ℕ) (b : Fin 512) : Fin 4096 := ⟨(512 * n + b.val) % 4096, Nat.mod_lt _ (by decide)⟩

/-- The blocks a grid point reads: the head's q, the key block's k and v, the row's cumulative gates, the columns'
cumulative gates, the rows' log-sums, the forward output and its cotangent. -/
structure Blk where
  q : Vec Ideal S4096x128 .bf16
  k : Vec Ideal S512x128 .bf16
  v : Vec Ideal S512x128 .bf16
  cq : Vec Ideal S1x4096x1 .f32
  ck : Vec Ideal S1x1x1x512 .f32
  lse : Vec Ideal S1x4096x1 .f32
  o : Vec Ideal S4096x128 .f32
  g : Vec Ideal S4096x128 .f32

/-- The unmasked weight of row `b` of row block `n` at column `c` of the point's key block. -/
def wgt (x : Blk) (n : ℕ) (b c : Fin 512) : EReal :=
  Ideal.exp ((∑ d : Fin 128, x.q (ix2 (row n b) d) * x.k (ix2 c d)) * sc
    + (x.cq (ix3 0 (row n b) 0) - x.lse (ix3 0 (row n b) 0)) - x.ck (ix4 0 0 0 c))

/-- The weight with the causal mask of the diagonal block `n = j`. -/
def wgtM (x : Blk) (j n : ℕ) (b c : Fin 512) : EReal := if n = j ∧ b < c then 0 else wgt x n b c

/-- The gradient of the scores. -/
def dsc (x : Blk) (j n : ℕ) (b c : Fin 512) : EReal :=
  wgtM x j n b c * ((∑ d : Fin 128, x.g (ix2 (row n b) d) * x.v (ix2 c d))
    - ∑ d : Fin 128, x.g (ix2 (row n b) d) * x.o (ix2 (row n b) d))

/-- The key gradient's sum over the first `m` row blocks from the diagonal. -/
def dkAt (x : Blk) (j m : ℕ) : Vec Ideal S512x128 .f32 := fun y =>
  ∑ k ∈ Finset.range m, ∑ b : Fin 512, dsc x j (j + k) b (y 0) * sc * x.q (ix2 (row (j + k) b) (y 1))

/-- The value gradient's sum over the first `m` row blocks from the diagonal. -/
def dvAt (x : Blk) (j m : ℕ) : Vec Ideal S512x128 .f32 := fun y =>
  ∑ k ∈ Finset.range m, ∑ b : Fin 512, wgtM x j (j + k) b (y 0) * x.g (ix2 (row (j + k) b) (y 1))

/-- The column gate's gradient after `m` row blocks: each block's column sum taken off. -/
def dcSum (x : Blk) (j : ℕ) (c : Fin 512) : ℕ → EReal
  | 0 => 0
  | m + 1 => dcSum x j c m - ∑ b : Fin 512, dsc x j (j + m) b c

def dcAt (x : Blk) (j m : ℕ) : Vec Ideal S1x512 .f32 := fun y => dcSum x j (y 1) m

/-- The column gate's block as it is stored. -/
def dcOut (x : Blk) (j : ℕ) : Vec Ideal S1x1x512 .f32 := fun y => dcSum x j (y 2) (8 - j)

/-- The block of a row and its place in the block. -/
def blkOf (r : Fin 4096) : ℕ := r.val / 512
def inBlk (r : Fin 4096) : Fin 512 := ⟨r.val % 512, Nat.mod_lt _ (by decide)⟩

/-- The query gradient with the row blocks `j ≤ n < j + m` increased, from the contents `g`. -/
def dqAt (x : Blk) (j m : ℕ) (g : Vec Ideal S4096x128 .f32) : Vec Ideal S4096x128 .f32 := fun y =>
  if j ≤ blkOf (y 0) ∧ blkOf (y 0) < j + m then
    g y + ∑ c : Fin 512, dsc x j (blkOf (y 0)) (inBlk (y 0)) c * sc * x.k (ix2 c (y 1))
  else g y

/-- The row gate's gradient with the row blocks `j ≤ n < j + m` increased, from the contents `g`. -/
def drAt (x : Blk) (j m : ℕ) (g : Vec Ideal S1x4096x1 .f32) : Vec Ideal S1x4096x1 .f32 := fun y =>
  if j ≤ blkOf (y 1) ∧ blkOf (y 1) < j + m then
    g y + ∑ c : Fin 512, dsc x j (blkOf (y 1)) (inBlk (y 1)) c
  else g y

/-- The point is one of the first key block. -/
abbrev startsAt (i : grid0.Coords) : Prop :=
  (Scalar.cmpi .ne (Scalar.extui (Scalar.cmpi .eq (BitVec.ofNat 32 (i 1).val) 0#32)) 0#32) = 1#1

/-! ## The payloads at an index -/

/-- The loaded blocks of 512 rows are the `n`-th of the point's columns of rows. -/
structure Rows (x : Blk) (n : ℕ) (q : Vec Ideal S512x128 .bf16) (g o : Vec Ideal S512x128 .f32) (cq lse : Vec Ideal S1x512x1 .f32) : Prop where
  q : ∀ (b : Fin 512) (d : Fin 128), q (ix2 b d) = x.q (ix2 (row n b) d)
  g : ∀ (b : Fin 512) (d : Fin 128), g (ix2 b d) = x.g (ix2 (row n b) d)
  o : ∀ (b : Fin 512) (d : Fin 128), o (ix2 b d) = x.o (ix2 (row n b) d)
  cq : ∀ b : Fin 512, cq (ix3 0 b 0) = x.cq (ix3 0 (row n b) 0)
  lse : ∀ b : Fin 512, lse (ix3 0 b 0) = x.lse (ix3 0 (row n b) 0)

/-- The values the loop reads of the point's key block. -/
structure Cols (x : Blk) (k v : FVec Ideal S512x128 .bf16) (ck : FVec Ideal S1x512 .f32) : Prop where
  k : ∀ (b : Fin 512) (d : Fin 128), k (ix2 b d) = x.k (ix2 b d)
  v : ∀ (b : Fin 512) (d : Fin 128), v (ix2 b d) = x.v (ix2 b d)
  ck : ∀ b : Fin 512, ck (ix2 0 b) = x.ck (ix4 0 0 0 b)

section Off

variable {x : Blk} {j n : ℕ} {q : Vec Ideal S512x128 .bf16} {g o : Vec Ideal S512x128 .f32} {cq lse : Vec Ideal S1x512x1 .f32}
  {k v : FVec Ideal S512x128 .bf16} {ck : FVec Ideal S1x512 .f32}

theorem pay13_at (R : Rows x n q g o cq lse) (C : Cols x k v ck) (b c : Fin 512) :
    k0_pay13 k ck q cq lse (ix2 b c) = wgt x n b c := by
  pointwise [k0_pay13, k0_pay11]
  simp only [R.q, R.cq, R.lse, C.k, C.ck, wgt]

theorem pay14_at (R : Rows x n q g o cq lse) (C : Cols x k v ck) (hn : n ≠ j) (b c : Fin 512) :
    k0_pay14 k v ck q g cq lse o (ix2 b c) = dsc x j n b c := by
  pointwise [k0_pay14, k0_pay12]
  rw [pay13_at R C]
  simp only [R.g, R.o, C.v, dsc, wgtM, hn, false_and, if_false]

theorem pay15_at (R : Rows x n q g o cq lse) (C : Cols x k v ck) (hn : n ≠ j) (b c : Fin 512) :
    k0_pay15 k v ck q g cq lse o (ix2 b c) = dsc x j n b c * sc := by
  pointwise [k0_pay15]
  rw [pay14_at R C hn]

theorem pay16_at (R : Rows x n q g o cq lse) (C : Cols x k v ck) (hn : n ≠ j) (a : Vec Ideal S512x128 .f32) (b : Fin 512) (d : Fin 128) :
    k0_pay16 k v ck q g cq lse o a (ix2 b d) = a (ix2 b d) + ∑ c : Fin 512, dsc x j n b c * sc * x.k (ix2 c d) := by
  pointwise [k0_pay16]
  simp only [pay15_at R C hn, C.k]

theorem pay2_at {s : FVec Ideal S512x512 .f32} (hs : ∀ b c, s (ix2 b c) = dsc x j n b c) (a : Vec Ideal S1x512x1 .f32) (b : Fin 512) :
    k0_pay2 s a (ix3 0 b 0) = a (ix3 0 b 0) + ∑ c : Fin 512, dsc x j n b c := by
  pointwise [k0_pay2]
  simp only [hs]

theorem pay3_eq {m : ℕ} (R : Rows x (j + m) q g o cq lse) {s : FVec Ideal S512x512 .bf16} (hs : ∀ b c, s (ix2 b c) = dsc x j (j + m) b c * sc) :
    k0_pay3 (dkAt x j m) (k0_pay11 q) s = dkAt x j (m + 1) := by
  funext y
  idx_vars y
  pointwise [k0_pay3, k0_pay11]
  simp only [dkAt, Finset.sum_range_succ, hs, R.q]
  rfl

theorem pay4_eq {m : ℕ} (R : Rows x (j + m) q g o cq lse) {s : FVec Ideal S512x512 .f32} (hs : ∀ b c, s (ix2 b c) = wgtM x j (j + m) b c) :
    k0_pay4 (dvAt x j m) (k0_pay12 g) s = dvAt x j (m + 1) := by
  funext y
  idx_vars y
  pointwise [k0_pay4, k0_pay12]
  simp only [dvAt, Finset.sum_range_succ, hs, R.g]
  rfl

theorem pay5_eq {m : ℕ} {s : FVec Ideal S512x512 .f32} (hs : ∀ b c, s (ix2 b c) = dsc x j (j + m) b c) :
    k0_pay5 (dcAt x j m) s = dcAt x j (m + 1) := by
  funext y
  idx_vars y
  pointwise [k0_pay5]
  simp only [dcAt, dcSum, hs]
  rfl

theorem pay10_eq : k0_pay10 (F := Ideal) (dcAt x j (8 - j)) = dcOut x j := by
  funext y
  idx_vars y
  pointwise [k0_pay10]
  rfl

end Off

section Diag

variable {x : Blk} {j : ℕ} {q : Vec Ideal S512x128 .bf16} {g o : Vec Ideal S512x128 .f32} {cq lse : Vec Ideal S1x512x1 .f32}
  {v : FVec Ideal S512x128 .bf16} {w : FVec Ideal S512x512 .f32}

theorem pay33_at (R : Rows x j q g o cq lse) (b c : Fin 512) :
    k0_pay33 x.k x.ck q cq lse (ix2 b c) = wgt x j b c := by
  pointwise [k0_pay33, k0_pay31, k0_pay25, k0_pay27]
  simp only [R.q, R.cq, R.lse, wgt]

theorem le_words (b c : Fin 512) : IntOp.cmpi .sle (BitVec.ofNat 32 c.val) (BitVec.ofNat 32 b.val) = (if c ≤ b then 1#1 else 0#1) := by
  have hb := b.isLt
  have hc := c.isLt
  rw [WordCmp.cmpi_sle_ofNat (by norm_num; omega) (by norm_num; omega)]
  by_cases h : c ≤ b
  · rw [if_pos h, decide_eq_true (by exact_mod_cast h)]; rfl
  · rw [if_neg h, decide_eq_false (by exact_mod_cast h)]; rfl

theorem pay34_at (hw : ∀ b c, w (ix2 b c) = wgt x j b c) (b c : Fin 512) : k0_pay34 w (ix2 b c) = wgtM x j j b c := by
  pointwise [k0_pay34]
  rw [hw, le_words, wgtM]
  by_cases h : b < c
  · rw [if_neg (by omega), if_pos ⟨rfl, h⟩]; rfl
  · rw [if_pos (by omega), if_neg (by tauto)]; rfl

theorem pay35_at (R : Rows x j q g o cq lse) (hv : ∀ (b : Fin 512) (d : Fin 128), v (ix2 b d) = x.v (ix2 b d)) (hw : ∀ b c, w (ix2 b c) = wgt x j b c) (b c : Fin 512) :
    k0_pay35 v g (k0_pay32 g) w o (ix2 b c) = dsc x j j b c := by
  pointwise [k0_pay35, k0_pay32]
  rw [pay34_at hw]
  simp only [R.g, R.o, hv, dsc]

theorem pay36_at (R : Rows x j q g o cq lse) (hv : ∀ (b : Fin 512) (d : Fin 128), v (ix2 b d) = x.v (ix2 b d)) (hw : ∀ b c, w (ix2 b c) = wgt x j b c) (b c : Fin 512) :
    k0_pay36 v g (k0_pay32 g) w o (ix2 b c) = dsc x j j b c * sc := by
  pointwise [k0_pay36]
  rw [pay35_at R hv hw]

theorem pay37_at (R : Rows x j q g o cq lse) (hv : ∀ (b : Fin 512) (d : Fin 128), v (ix2 b d) = x.v (ix2 b d)) (hw : ∀ b c, w (ix2 b c) = wgt x j b c)
    (a : Vec Ideal S512x128 .f32) (b : Fin 512) (d : Fin 128) :
    k0_pay37 (k0_pay25 x.k) v g (k0_pay32 g) w o a (ix2 b d) = a (ix2 b d) + ∑ c : Fin 512, dsc x j j b c * sc * x.k (ix2 c d) := by
  pointwise [k0_pay37, k0_pay25]
  simp only [pay36_at R hv hw]

theorem pay38_at (R : Rows x j q g o cq lse) (hv : ∀ (b : Fin 512) (d : Fin 128), v (ix2 b d) = x.v (ix2 b d)) (hw : ∀ b c, w (ix2 b c) = wgt x j b c)
    (a : Vec Ideal S1x512x1 .f32) (b : Fin 512) :
    k0_pay38 v g (k0_pay32 g) w o a (ix3 0 b 0) = a (ix3 0 b 0) + ∑ c : Fin 512, dsc x j j b c := by
  pointwise [k0_pay38]
  simp only [pay35_at R hv hw]

theorem pay39_eq (R : Rows x j q g o cq lse) (hv : ∀ (b : Fin 512) (d : Fin 128), v (ix2 b d) = x.v (ix2 b d)) (hw : ∀ b c, w (ix2 b c) = wgt x j b c) :
    k0_pay39 v k0_pay28 (k0_pay31 q) g (k0_pay32 g) w o = dkAt x j 1 := by
  funext y
  idx_vars y
  pointwise [k0_pay39, k0_pay28, k0_pay31]
  simp only [dkAt, Finset.sum_range_one, pay36_at R hv hw, R.q, zero_add, Nat.add_zero]
  rfl

theorem pay40_eq (R : Rows x j q g o cq lse) (hw : ∀ b c, w (ix2 b c) = wgt x j b c) :
    k0_pay40 k0_pay29 (k0_pay32 g) w = dvAt x j 1 := by
  funext y
  idx_vars y
  pointwise [k0_pay40, k0_pay29, k0_pay32]
  simp only [dvAt, Finset.sum_range_one, pay34_at hw, R.g, zero_add, Nat.add_zero]
  rfl

theorem pay41_eq (R : Rows x j q g o cq lse) (hv : ∀ (b : Fin 512) (d : Fin 128), v (ix2 b d) = x.v (ix2 b d)) (hw : ∀ b c, w (ix2 b c) = wgt x j b c) :
    k0_pay1 k0_pay30 (k0_pay41 v g (k0_pay32 g) w o) = dcAt x j 1 := by
  funext y
  idx_vars y
  pointwise [k0_pay1, k0_pay41, k0_pay30]
  simp only [dcAt, dcSum, pay35_at R hv hw, Nat.add_zero]
  rfl

theorem pay26_at (a : Vec Ideal S512x128 .bf16) (b : Fin 512) (d : Fin 128) : k0_pay26 a (ix2 b d) = a (ix2 b d) := by
  pointwise [k0_pay26]

theorem cols : Cols x (k0_pay25 x.k) (k0_pay26 x.v) (k0_pay27 x.ck) where
  k b d := by pointwise [k0_pay25]
  v b d := by pointwise [k0_pay26]
  ck b := by pointwise [k0_pay27]

theorem pay23_eq : k0_pay23 (F := Ideal) = fun _ => 0 := by
  funext y; idx_vars y; pointwise [k0_pay23]

theorem pay24_eq : k0_pay24 (F := Ideal) = fun _ => 0 := by
  funext y; idx_vars y; pointwise [k0_pay24]

end Diag

end Cert.AttnBwd
-- ==== Proof.Head.lean ====
module

public import proofs.«01_k».proof.Proof.Pay

@[expose] public section

noncomputable section

namespace Cert.AttnBwd

open Idealize.ShloMosaic
open scoped BigOperators

/-- One head's finite arguments: queries, keys, values and the output's cotangent by position and feature, and the cumulative
gate by position. -/
structure Head where
  Q : Fin 4096 → Fin 128 → ℝ
  K : Fin 4096 → Fin 128 → ℝ
  V : Fin 4096 → Fin 128 → ℝ
  G : Fin 4096 → Fin 128 → ℝ
  C : Fin 4096 → ℝ

/-! ## The gradient over the reals -/

/-- The scale as a real number. -/
def scR : ℝ := sc.toReal

theorem sc_eq : sc = (scR : EReal) := by
  refine (EReal.coe_toReal ?_ ?_).symm <;> simp [sc, Ideal.ofBits, Ideal.ieee, -EReal.coe_mul]

namespace Head

variable (x : Head)

/-- The score of row `r` at column `c`. -/
def S (r c : Fin 4096) : ℝ := (∑ d, x.Q r d * x.K c d) * scR + x.C r - x.C c

/-- The row's sum of exponentials over the columns it sees. -/
def Z (r : Fin 4096) : ℝ := ∑ c, if c ≤ r then Real.exp (x.S r c) else 0

/-- The attention weight. -/
def W (r c : Fin 4096) : ℝ := if c ≤ r then Real.exp (x.S r c) / x.Z r else 0

/-- The weight's cotangent. -/
def CT (r c : Fin 4096) : ℝ := ∑ d, x.G r d * x.V c d

/-- The score's gradient. -/
def DS (r c : Fin 4096) : ℝ := x.W r c * (x.CT r c - ∑ c', x.W r c' * x.CT r c')

def dQ (r : Fin 4096) (d : Fin 128) : ℝ := ∑ c, x.DS r c * scR * x.K c d
def dK (c : Fin 4096) (d : Fin 128) : ℝ := ∑ r, x.DS r c * scR * x.Q r d
def dV (c : Fin 4096) (d : Fin 128) : ℝ := ∑ r, x.W r c * x.G r d
def dCol (c : Fin 4096) : ℝ := -∑ r, x.DS r c
def dRow (r : Fin 4096) : ℝ := ∑ c, x.DS r c

theorem Z_pos (r : Fin 4096) : 0 < x.Z r := by
  refine Finset.sum_pos' (fun c _ => ?_) ⟨r, Finset.mem_univ _, ?_⟩
  · split_ifs
    · exact (Real.exp_pos _).le
    · exact le_rfl
  · rw [if_pos le_rfl]
    exact Real.exp_pos _

/-! ## The forward's terms as they are read -/

/-- The masked score, a position after the row's being at −∞. -/
def s (r c : Fin 4096) : EReal :=
  Scalar.select (IntOp.cmpi CmpIPredicate.sle (BitVec.ofNat 32 c.val) (BitVec.ofNat 32 r.val))
    ((∑ d, (x.Q r d : EReal) * (x.K c d : EReal)) * sc + (x.C r : EReal) - (x.C c : EReal)) (Ideal.ofBits FTy.f32 4286578688#32)

/-- The row's largest score. -/
def top (r : Fin 4096) : EReal :=
  Finset.fold max (Ideal.ofBits FTy.f32 4286578688#32) (fun c => x.s r c) Finset.univ

theorem ninf : Ideal.ofBits FTy.f32 4286578688#32 = ⊥ := by simp [Ideal.ofBits, Ideal.ieee]

theorem zero_word : Ideal.ofBits FTy.f32 0#32 = 0 := by simp [Ideal.ofBits, Ideal.ieee]

theorem coe_sum {n : ℕ} (f : Fin n → ℝ) : ∑ i, ((f i : ℝ) : EReal) = ((∑ i, f i : ℝ) : EReal) :=
  (map_sum (⟨⟨Real.toEReal, EReal.coe_zero⟩, EReal.coe_add⟩ : ℝ →+ EReal) f Finset.univ).symm

theorem seen_iff (r c : Fin 4096) : IntOp.cmpi CmpIPredicate.sle (BitVec.ofNat 32 c.val) (BitVec.ofNat 32 r.val) = 1 ↔ c ≤ r := by
  have hr := r.isLt
  have hc := c.isLt
  rw [Fin.le_def]
  show _ = 1#1 ↔ _
  word_cmp

theorem s_eq (r c : Fin 4096) : x.s r c = if c ≤ r then (x.S r c : EReal) else ⊥ := by
  unfold s Scalar.select
  simp only [seen_iff, ninf, sc_eq, ← EReal.coe_mul, coe_sum, ← EReal.coe_add, ← EReal.coe_sub]
  rfl

/-- The row's largest score is a real number. -/
theorem top_real (r : Fin 4096) : ∃ M : ℝ, x.top r = M := by
  have h : x.top r = Finset.univ.sup (x.s r) := by
    unfold top
    rw [ninf]
    rfl
  have hle : (x.S r r : EReal) ≤ x.top r := by
    rw [h]
    have := Finset.le_sup (f := x.s r) (Finset.mem_univ r)
    rwa [s_eq, if_pos le_rfl] at this
  have hlt : x.top r < ⊤ := by
    rw [h, Finset.sup_lt_iff (by simp)]
    intro c _
    rw [s_eq]
    split_ifs
    · exact EReal.coe_lt_top _
    · exact bot_lt_top
  exact ⟨(x.top r).toReal, (EReal.coe_toReal hlt.ne (fun hb => by rw [hb] at hle; exact absurd hle (by simp))).symm⟩

def topR (r : Fin 4096) : ℝ := (x.top_real r).choose
theorem top_eq (r : Fin 4096) : x.top r = (x.topR r : EReal) := (x.top_real r).choose_spec

/-- The exponential from the row's largest score. -/
def E (r c : Fin 4096) : ℝ := if c ≤ r then Real.exp (x.S r c - x.topR r) else 0

theorem exp_eq (r c : Fin 4096) : Ideal.exp (x.s r c - x.top r) = (x.E r c : EReal) := by
  rw [s_eq, top_eq, E]
  split_ifs
  · rw [← EReal.coe_sub, Ideal.exp_coe]
  · rw [EReal.bot_sub]
    simp

/-- The row's sum of those. -/
def L (r : Fin 4096) : ℝ := ∑ c, x.E r c

theorem L_eq (r : Fin 4096) : x.L r = x.Z r * Real.exp (-x.topR r) := by
  unfold L Z
  rw [Finset.sum_mul]
  refine Finset.sum_congr rfl fun c _ => ?_
  unfold E
  split_ifs
  · rw [sub_eq_add_neg, Real.exp_add]
  · rw [zero_mul]

theorem L_pos (r : Fin 4096) : 0 < x.L r := by
  rw [L_eq]
  exact mul_pos (x.Z_pos r) (Real.exp_pos _)

theorem E_div (r c : Fin 4096) : x.E r c / x.L r = x.W r c := by
  rw [L_eq]
  unfold E W
  split_ifs
  · rw [sub_eq_add_neg, Real.exp_add, mul_div_mul_right _ _ (Real.exp_pos _).ne']
  · rw [zero_div]

/-- The weight from the row's logarithmic sum. -/
theorem exp_log (r c : Fin 4096) (h : c ≤ r) : Real.exp (x.S r c - (x.topR r + Real.log (x.L r))) = x.W r c := by
  rw [← E_div]
  unfold E
  rw [if_pos h, ← sub_sub, Real.exp_sub _ (Real.log _), Real.exp_log (x.L_pos r)]

end Head

end Cert.AttnBwd

end
-- ==== Proof.Trips.lean ====
module

public import proofs.«01_k».proof.Proof.Pay
public import proofs.«01_k».proof.Proof.Gen.KernelIdeal.Loops
public import Idealize.ShloMosaic.Lib.WholeRead
public import Idealize.ShloMosaic.Lib.VecWindow
public import Idealize.ShloMosaic.Lib.WritesUnit
public import Idealize.ShloMosaic.Lib.LoopRemainder

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped BigOperators

/-! ## Where the blocks of rows lie -/

theorem off1 : ∀ i : grid0.Coords, k0_off1 i = ![512 * (i 1).val, 0] := by decide +kernel
theorem off2 : ∀ i : grid0.Coords, k0_off2 i = ![0, 512 * (i 1).val, 0] := by decide +kernel
theorem trips1 : ∀ i : grid0.Coords, (k0_t1_loop i).trips = 7 - (i 1).val := by decide +kernel
theorem trips2 : ∀ i : grid0.Coords, (k0_t2_loop i).trips = 0 := by decide +kernel
theorem off3 : ∀ (i : grid0.Coords) (k : Fin (k0_t1_loop i).trips), k0_off3 i k = ![512 * ((i 1).val + (k.val + 1)), 0] := by decide +kernel
theorem off4 : ∀ (i : grid0.Coords) (k : Fin (k0_t1_loop i).trips), k0_off4 i k = ![0, 512 * ((i 1).val + (k.val + 1)), 0] := by decide +kernel

theorem row_val {n : ℕ} (hn : n < 8) (b : Fin 512) : (row n b).val = 512 * n + b.val := by
  have := b.isLt
  show (512 * n + b.val) % 4096 = _
  omega

theorem row_eq (r : Fin 4096) : row (blkOf r) (inBlk r) = r := by
  have := r.isLt
  apply Fin.ext
  show (512 * (r.val / 512) + r.val % 512) % 4096 = _
  omega

theorem blkOf_lt (r : Fin 4096) : blkOf r < 8 := by
  have := r.isLt
  show r.val / 512 < 8
  omega

theorem blkOf_row {n : ℕ} (hn : n < 8) (b : Fin 512) : blkOf (row n b) = n := by
  have := b.isLt
  unfold blkOf
  rw [row_val hn]
  omega

theorem inBlk_row {n : ℕ} (hn : n < 8) (b : Fin 512) : inBlk (row n b) = b := by
  have := b.isLt
  apply Fin.ext
  show (row n b).val % 512 = _
  rw [row_val hn]
  omega

section Reads

variable {e : EltTy} {Val : EltTy → Type}

theorem ld2 {arg : Memref sig .tc .vmem S4096x128 e} (h : arg.IsWhole) (X : S4096x128.Idx → Val e) {off : Fin 2 → ℕ}
    (inb : ∀ a, off a + S512x128.size a ≤ S4096x128.size a) {n : ℕ} (hn : n < 8) (ho : off = ![512 * n, 0]) (b : Fin 512) (d : Fin 128) :
    arg.view.readAt Val (Rect.unit (s := S4096x128) off S512x128.size inb).toLoadRect (h.unread X) (ix2 b d) = X (ix2 (row n b) d) := by
  subst ho
  rw [h.readAt_unread]
  refine congrArg X ?_
  funext a
  apply Fin.ext
  have := row_val hn b
  match a with
  | ⟨0, _⟩ => show 512 * n + 1 * b.val = (row n b).val; omega
  | ⟨1, _⟩ => show 0 + 1 * d.val = d.val; omega

theorem ld3 {arg : Memref sig .tc .vmem S1x4096x1 e} (h : arg.IsWhole) (X : S1x4096x1.Idx → Val e) {off : Fin 3 → ℕ}
    (inb : ∀ a, off a + S1x512x1.size a ≤ S1x4096x1.size a) {n : ℕ} (hn : n < 8) (ho : off = ![0, 512 * n, 0]) (b : Fin 512) :
    arg.view.readAt Val (Rect.unit (s := S1x4096x1) off S1x512x1.size inb).toLoadRect (h.unread X) (ix3 0 b 0) = X (ix3 0 (row n b) 0) := by
  subst ho
  rw [h.readAt_unread]
  refine congrArg X ?_
  funext a
  apply Fin.ext
  have := row_val hn b
  match a with
  | ⟨0, _⟩ => rfl
  | ⟨1, _⟩ => show 512 * n + 1 * b.val = (row n b).val; omega
  | ⟨2, _⟩ => rfl

end Reads

/-- Block `j + m` stored over a query gradient with the blocks `j ≤ n < j + m` increased. -/
theorem st2 {arg : Memref sig .tc .vmem S4096x128 .f32} (h : arg.IsWhole) (x : Blk) (j m : ℕ) (g : Vec Ideal S4096x128 .f32) {off : Fin 2 → ℕ}
    (inb : ∀ a, off a + S512x128.size a ≤ S4096x128.size a) (hn : j + m < 8) (ho : off = ![512 * (j + m), 0])
    (f : arg.view.ty.Contents (Elt Ideal)) (L : List (View.Piece (Elt Ideal) S4096x128 .f32)) (hf : arg.view.read (Elt Ideal) (arg.view.writes (Elt Ideal) f L) = dqAt x j m g)
    (w : Vec Ideal S512x128 .f32)
    (hw : ∀ (b : Fin 512) (d : Fin 128), w (ix2 b d) = dqAt x j m g (ix2 (row (j + m) b) d) + ∑ c : Fin 512, dsc x j (j + m) b c * sc * x.k (ix2 c d)) :
    arg.view.read (Elt Ideal) (arg.view.writes (Elt Ideal) f ((⟨Rect.unit off S512x128.size inb, w⟩ : View.Piece (Elt Ideal) S4096x128 .f32) :: L)) = dqAt x j (m + 1) g := by
  funext y
  idx_vars y
  generalize y0 = r
  generalize y1 = d
  by_cases hr : blkOf r = j + m
  · have hr' : row (j + m) (inBlk r) = r := by rw [← hr]; exact row_eq r
    have hv := row_val hn (inBlk r)
    rw [View.read_writes_cons_unit_of_mem arg.view f inb w L _ (ix2 (inBlk r) d) ho (by
      intro a
      match a with
      | ⟨0, _⟩ => show r.val = 512 * (j + m) + (inBlk r).val; rw [← hv, hr']
      | ⟨1, _⟩ => show d.val = 0 + d.val; omega)]
    refine (hw _ _).trans ?_
    rw [hr']
    show dqAt x j m g (ix2 r d) + _ = dqAt x j (m + 1) g (ix2 r d)
    have e1 : dqAt x j m g (ix2 r d) = g (ix2 r d) := if_neg (by show ¬(j ≤ blkOf r ∧ blkOf r < j + m); omega)
    have e2 : dqAt x j (m + 1) g (ix2 r d) = _ := if_pos (by show j ≤ blkOf r ∧ blkOf r < j + (m + 1); omega)
    rw [e1, e2]
    show _ = _ + ∑ c : Fin 512, dsc x j (blkOf r) (inBlk r) c * sc * x.k (ix2 c d)
    rw [hr]
  · have hb := r.isLt
    rw [View.read_writes_cons_unit_of_not_mem arg.view f inb w L _ ho 0 (by
      show r.val < 512 * (j + m) ∨ 512 * (j + m) + 512 ≤ r.val
      unfold blkOf at hr; omega), hf]
    show (if j ≤ blkOf r ∧ blkOf r < j + m then _ else _) = if j ≤ blkOf r ∧ blkOf r < j + (m + 1) then _ else _
    by_cases h1 : j ≤ blkOf r ∧ blkOf r < j + m
    · rw [if_pos h1, if_pos (by omega)]
    · rw [if_neg h1, if_neg (by omega)]

/-- Block `j + m` stored over a row gate's gradient with the blocks `j ≤ n < j + m` increased. -/
theorem st3 {arg : Memref sig .tc .vmem S1x4096x1 .f32} (h : arg.IsWhole) (x : Blk) (j m : ℕ) (g : Vec Ideal S1x4096x1 .f32) {off : Fin 3 → ℕ}
    (inb : ∀ a, off a + S1x512x1.size a ≤ S1x4096x1.size a) (hn : j + m < 8) (ho : off = ![0, 512 * (j + m), 0])
    (f : arg.view.ty.Contents (Elt Ideal)) (L : List (View.Piece (Elt Ideal) S1x4096x1 .f32)) (hf : arg.view.read (Elt Ideal) (arg.view.writes (Elt Ideal) f L) = drAt x j m g)
    (w : Vec Ideal S1x512x1 .f32)
    (hw : ∀ b : Fin 512, w (ix3 0 b 0) = drAt x j m g (ix3 0 (row (j + m) b) 0) + ∑ c : Fin 512, dsc x j (j + m) b c) :
    arg.view.read (Elt Ideal) (arg.view.writes (Elt Ideal) f ((⟨Rect.unit off S1x512x1.size inb, w⟩ : View.Piece (Elt Ideal) S1x4096x1 .f32) :: L)) = drAt x j (m + 1) g := by
  funext y
  idx_vars y
  obtain rfl : y0 = 0 := Subsingleton.elim _ _
  obtain rfl : y2 = 0 := Subsingleton.elim _ _
  generalize y1 = r
  by_cases hr : blkOf r = j + m
  · have hr' : row (j + m) (inBlk r) = r := by rw [← hr]; exact row_eq r
    have hv := row_val hn (inBlk r)
    rw [View.read_writes_cons_unit_of_mem arg.view f inb w L _ (ix3 0 (inBlk r) 0) ho (by
      intro a
      match a with
      | ⟨0, _⟩ => rfl
      | ⟨1, _⟩ => show r.val = 512 * (j + m) + (inBlk r).val; rw [← hv, hr']
      | ⟨2, _⟩ => rfl)]
    refine (hw _).trans ?_
    rw [hr']
    show drAt x j m g (ix3 0 r 0) + _ = drAt x j (m + 1) g (ix3 0 r 0)
    have e1 : drAt x j m g (ix3 0 r 0) = g (ix3 0 r 0) := if_neg (by show ¬(j ≤ blkOf r ∧ blkOf r < j + m); omega)
    have e2 : drAt x j (m + 1) g (ix3 0 r 0) = _ := if_pos (by show j ≤ blkOf r ∧ blkOf r < j + (m + 1); omega)
    rw [e1, e2]
    show _ = _ + ∑ c : Fin 512, dsc x j (blkOf r) (inBlk r) c
    rw [hr]
  · have hb := r.isLt
    rw [View.read_writes_cons_unit_of_not_mem arg.view f inb w L _ ho 1 (by
      show r.val < 512 * (j + m) ∨ 512 * (j + m) + 512 ≤ r.val
      unfold blkOf at hr; omega), hf]
    show (if j ≤ blkOf r ∧ blkOf r < j + m then _ else _) = if j ≤ blkOf r ∧ blkOf r < j + (m + 1) then _ else _
    by_cases h1 : j ≤ blkOf r ∧ blkOf r < j + m
    · rw [if_pos h1, if_pos (by omega)]
    · rw [if_neg h1, if_neg (by omega)]

/-! ## One trip, and the trips before the `k`-th -/

section Trip

variable (𝒱 : Variants) (c : Dev nD) (bd : Option 𝒱.V) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x1x512 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512 .f32) (harg13 : arg13.IsWhole) (arg14 : Memref sig .tc .vmem S1x4096x1 .f32) (harg14 : arg14.IsWhole) (x : Blk) {k v : FVec Ideal S512x128 .bf16} {ck : FVec Ideal S1x512 .f32} (C : Cols x k v ck) (w : BitVec 32)
  (g10 : Vec Ideal S4096x128 .f32) (g14 : Vec Ideal S1x4096x1 .f32)

theorem rows (t : Fin (k0_t1_loop i).trips) : Rows x ((i 1).val + (t.val + 1))
    (arg2.view.readAt (Elt Ideal) (Rect.unit (s := S4096x128) (k0_off3 i t) S512x128.size (k0_off3_inb i t)).toLoadRect (harg2.unread x.q))
    (arg9.view.readAt (Elt Ideal) (Rect.unit (s := S4096x128) (k0_off3 i t) S512x128.size (k0_off3_inb i t)).toLoadRect (harg9.unread x.g))
    (arg8.view.readAt (Elt Ideal) (Rect.unit (s := S4096x128) (k0_off3 i t) S512x128.size (k0_off3_inb i t)).toLoadRect (harg8.unread x.o))
    (arg5.view.readAt (Elt Ideal) (Rect.unit (s := S1x4096x1) (k0_off4 i t) S1x512x1.size (k0_off4_inb i t)).toLoadRect (harg5.unread x.cq))
    (arg7.view.readAt (Elt Ideal) (Rect.unit (s := S1x4096x1) (k0_off4 i t) S1x512x1.size (k0_off4_inb i t)).toLoadRect (harg7.unread x.lse)) := by
  have hn : (i 1).val + (t.val + 1) < 8 := by have h := t.isLt; have e : (k0_t1_loop i).trips = _ := trips1 i; omega
  exact ⟨ld2 harg2 _ _ hn (off3 i t), ld2 harg9 _ _ hn (off3 i t), ld2 harg8 _ _ hn (off3 i t), ld3 harg5 _ _ hn (off4 i t), ld3 harg7 _ _ hn (off4 i t)⟩

include C in
theorem tripR_eq (t : Fin (k0_t1_loop i).trips) (f10 : arg10.view.ty.Contents (Elt Ideal)) (f14 : arg14.view.ty.Contents (Elt Ideal)) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) t
      (dkAt x (i 1).val (t.val + 1), dvAt x (i 1).val (t.val + 1), dcAt x (i 1).val (t.val + 1)) f10 f14
    = (dkAt x (i 1).val (t.val + 2), dvAt x (i 1).val (t.val + 2), dcAt x (i 1).val (t.val + 2)) := by
  have R := rows i arg2 harg2 arg5 harg5 arg7 harg7 arg8 harg8 arg9 harg9 x t
  have hne : (i 1).val + (t.val + 1) ≠ (i 1).val := by omega
  unfold tripR_k0_t1 trip_k0_t1
  dsimp only
  refine Prod.ext ?_ (Prod.ext ?_ ?_)
  · exact pay3_eq R (fun b c => pay15_at R C hne b c)
  · exact pay4_eq R (fun b c => (pay13_at R C b c).trans (if_neg (fun h => hne h.1)).symm)
  · exact pay5_eq (fun b c => pay14_at R C hne b c)

include C in
theorem tripL_eq (t : Fin (k0_t1_loop i).trips) (acc : FVec Ideal S512x128 .f32 × FVec Ideal S512x128 .f32 × FVec Ideal S1x512 .f32)
    (G10 : arg10.view.ty.Contents (Elt Ideal)) (G14 : arg14.view.ty.Contents (Elt Ideal)) (L10 : List (View.Piece (Elt Ideal) S4096x128 .f32)) (L14 : List (View.Piece (Elt Ideal) S1x4096x1 .f32))
    (h10 : arg10.view.read (Elt Ideal) (arg10.view.writes (Elt Ideal) G10 L10) = dqAt x (i 1).val (t.val + 1) g10)
    (h14 : arg14.view.read (Elt Ideal) (arg14.view.writes (Elt Ideal) G14 L14) = drAt x (i 1).val (t.val + 1) g14) :
    arg10.view.read (Elt Ideal) (arg10.view.writes (Elt Ideal) G10 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) t acc (arg10.view.writes (Elt Ideal) G10 L10) (arg14.view.writes (Elt Ideal) G14 L14)).1 ++ L10)) = dqAt x (i 1).val (t.val + 2) g10
    ∧ arg14.view.read (Elt Ideal) (arg14.view.writes (Elt Ideal) G14 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) t acc (arg10.view.writes (Elt Ideal) G10 L10) (arg14.view.writes (Elt Ideal) G14 L14)).2 ++ L14)) = drAt x (i 1).val (t.val + 2) g14 := by
  have R := rows i arg2 harg2 arg5 harg5 arg7 harg7 arg8 harg8 arg9 harg9 x t
  have hne : (i 1).val + (t.val + 1) ≠ (i 1).val := by omega
  have hn : (i 1).val + (t.val + 1) < 8 := by have h := t.isLt; have e : (k0_t1_loop i).trips = _ := trips1 i; omega
  unfold tripL_k0_t1 trip_k0_t1
  dsimp only
  refine ⟨st2 harg10 x _ _ g10 _ hn (off3 i t) _ _ h10 _ fun b d => ?_, st3 harg14 x _ _ g14 _ hn (off4 i t) _ _ h14 _ fun b => ?_⟩
  · refine (pay16_at R C hne _ b d).trans ?_
    rw [harg10.eq_unread h10, ld2 harg10 _ _ hn (off3 i t)]
  · refine (pay2_at (fun b c => pay14_at R C hne b c) _ b).trans ?_
    rw [harg14.eq_unread h14, ld3 harg14 _ _ hn (off4 i t)]

include C in
theorem st_eq (G10 : arg10.view.ty.Contents (Elt Ideal)) (G14 : arg14.view.ty.Contents (Elt Ideal))
    (h10 : arg10.view.read (Elt Ideal) G10 = dqAt x (i 1).val 1 g10) (h14 : arg14.view.read (Elt Ideal) G14 = drAt x (i 1).val 1 g14)
    (s : ℕ) (hs : s ≤ (k0_t1_loop i).trips) :
    let S := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) G10 G14 (dkAt x (i 1).val 1, dvAt x (i 1).val 1, dcAt x (i 1).val 1) s
    S.1 = (dkAt x (i 1).val (s + 1), dvAt x (i 1).val (s + 1), dcAt x (i 1).val (s + 1))
    ∧ arg10.view.read (Elt Ideal) (arg10.view.writes (Elt Ideal) G10 S.2.1) = dqAt x (i 1).val (s + 1) g10
    ∧ arg14.view.read (Elt Ideal) (arg14.view.writes (Elt Ideal) G14 S.2.2) = drAt x (i 1).val (s + 1) g14 := by
  induction s with
  | zero => exact ⟨rfl, h10, h14⟩
  | succ s ih =>
    obtain ⟨i1, i2, i3⟩ := ih (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) G10 G14 (dkAt x (i 1).val 1, dvAt x (i 1).val 1, dcAt x (i 1).val 1) ⟨s, by omega⟩
    intro S
    have e' : S = _ := e
    have L := tripL_eq 𝒱 c bd i arg2 harg2 arg3 harg3 arg4 harg4 arg5 harg5 arg6 harg6 arg7 harg7 arg8 harg8 arg9 harg9 arg10 harg10 arg11 harg11 arg12 harg12 arg13 harg13 arg14 harg14 x C w g10 g14 ⟨s, by omega⟩ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) G10 G14 (dkAt x (i 1).val 1, dvAt x (i 1).val 1, dcAt x (i 1).val 1) s).1 G10 G14 _ _ i2 i3
    rw [e']
    refine ⟨?_, L.1, L.2⟩
    dsimp only
    rw [i1]
    exact tripR_eq 𝒱 c bd i arg2 harg2 arg3 harg3 arg4 harg4 arg5 harg5 arg6 harg6 arg7 harg7 arg8 harg8 arg9 harg9 arg10 harg10 arg11 harg11 arg12 harg12 arg13 harg13 arg14 harg14 x C w ⟨s, by omega⟩ _ _

include C in
/-- The whole loop, from buffers that hold the diagonal block's share. -/
theorem loop_eq (f10 : arg10.view.ty.Contents (Elt Ideal)) (f14 : arg14.view.ty.Contents (Elt Ideal)) (L10 : List (View.Piece (Elt Ideal) S4096x128 .f32)) (L14 : List (View.Piece (Elt Ideal) S1x4096x1 .f32))
    (h10 : arg10.view.read (Elt Ideal) (arg10.view.writes (Elt Ideal) f10 L10) = dqAt x (i 1).val 1 g10) (h14 : arg14.view.read (Elt Ideal) (arg14.view.writes (Elt Ideal) f14 L14) = drAt x (i 1).val 1 g14)
    {init : FVec Ideal S512x128 .f32 × FVec Ideal S512x128 .f32 × FVec Ideal S1x512 .f32} (hi : init = (dkAt x (i 1).val 1, dvAt x (i 1).val 1, dcAt x (i 1).val 1)) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) (arg10.view.writes (Elt Ideal) f10 L10) (arg14.view.writes (Elt Ideal) f14 L14) init (k0_t1_loop i).trips).1 = (dkAt x (i 1).val (8 - (i 1).val), dvAt x (i 1).val (8 - (i 1).val), dcAt x (i 1).val (8 - (i 1).val))
    ∧ arg10.view.read (Elt Ideal) (arg10.view.writes (Elt Ideal) f10 ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) (arg10.view.writes (Elt Ideal) f10 L10) (arg14.view.writes (Elt Ideal) f14 L14) init (k0_t1_loop i).trips).2.1 ++ L10)) = dqAt x (i 1).val (8 - (i 1).val) g10
    ∧ arg14.view.read (Elt Ideal) (arg14.view.writes (Elt Ideal) f14 ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k v ck w (harg2.unread x.q) (harg5.unread x.cq) (harg7.unread x.lse) (harg8.unread x.o) (harg9.unread x.g) (arg10.view.writes (Elt Ideal) f10 L10) (arg14.view.writes (Elt Ideal) f14 L14) init (k0_t1_loop i).trips).2.2 ++ L14)) = drAt x (i 1).val (8 - (i 1).val) g14 := by
  subst hi
  have e : (k0_t1_loop i).trips + 1 = 8 - (i 1).val := by
    have h : (i 1).val < 8 := (i 1).isLt
    have e : (k0_t1_loop i).trips = _ := trips1 i
    omega
  rw [View.writes_append, View.writes_append, ← e]
  exact st_eq 𝒱 c bd i arg2 harg2 arg3 harg3 arg4 harg4 arg5 harg5 arg6 harg6 arg7 harg7 arg8 harg8 arg9 harg9 arg10 harg10 arg11 harg11 arg12 harg12 arg13 harg13 arg14 harg14 x C w g10 g14 _ _ h10 h14 _ (le_refl _)

theorem full3 : (arg3.view.readAt (Elt Ideal) (Rect.unit (s := S512x128) ![0, 0] S512x128.size inb_S512x128_S512x128_0_0).toLoadRect (harg3.unread x.k)) = x.k := (View.readAt_full _ _ _).trans (harg3.read_unread _)
theorem full4 : (arg4.view.readAt (Elt Ideal) (Rect.unit (s := S512x128) ![0, 0] S512x128.size inb_S512x128_S512x128_0_0).toLoadRect (harg4.unread x.v)) = x.v := (View.readAt_full _ _ _).trans (harg4.read_unread _)
theorem full6 : (arg6.view.readAt (Elt Ideal) (Rect.unit (s := S1x1x1x512) ![0, 0, 0, 0] S1x1x1x512.size inb_S1x1x1x512_S1x1x1x512_0_0_0_0).toLoadRect (harg6.unread x.ck)) = x.ck := (View.readAt_full _ _ _).trans (harg6.read_unread _)

theorem colsRead : Cols x (k0_pay25 (arg3.view.readAt (Elt Ideal) (Rect.unit (s := S512x128) ![0, 0] S512x128.size inb_S512x128_S512x128_0_0).toLoadRect (harg3.unread x.k))) (k0_pay26 (arg4.view.readAt (Elt Ideal) (Rect.unit (s := S512x128) ![0, 0] S512x128.size inb_S512x128_S512x128_0_0).toLoadRect (harg4.unread x.v))) (k0_pay27 (arg6.view.readAt (Elt Ideal) (Rect.unit (s := S1x1x1x512) ![0, 0, 0, 0] S1x1x1x512.size inb_S1x1x1x512_S1x1x1x512_0_0_0_0).toLoadRect (harg6.unread x.ck))) := by
  rw [full3, full4, full6]; exact cols

theorem rows0 : Rows x (i 1).val (arg2.view.readAt (Elt Ideal) (Rect.unit (s := S4096x128) (k0_off1 i) S512x128.size (k0_off1_inb i)).toLoadRect (harg2.unread x.q)) (arg9.view.readAt (Elt Ideal) (Rect.unit (s := S4096x128) (k0_off1 i) S512x128.size (k0_off1_inb i)).toLoadRect (harg9.unread x.g)) (arg8.view.readAt (Elt Ideal) (Rect.unit (s := S4096x128) (k0_off1 i) S512x128.size (k0_off1_inb i)).toLoadRect (harg8.unread x.o)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse)) := by
  have hn : (i 1).val < 8 := (i 1).isLt
  exact ⟨ld2 harg2 _ _ hn (off1 i), ld2 harg9 _ _ hn (off1 i), ld2 harg8 _ _ hn (off1 i), ld3 harg5 _ _ hn (off2 i), ld3 harg7 _ _ hn (off2 i)⟩

include harg8 harg9 in
theorem wgt0 (a b : Fin 512) : (k0_pay33 (arg3.view.readAt (Elt Ideal) (Rect.unit (s := S512x128) ![0, 0] S512x128.size inb_S512x128_S512x128_0_0).toLoadRect (harg3.unread x.k)) (arg6.view.readAt (Elt Ideal) (Rect.unit (s := S1x1x1x512) ![0, 0, 0, 0] S1x1x1x512.size inb_S1x1x1x512_S1x1x1x512_0_0_0_0).toLoadRect (harg6.unread x.ck)) (arg2.view.readAt (Elt Ideal) (Rect.unit (s := S4096x128) (k0_off1 i) S512x128.size (k0_off1_inb i)).toLoadRect (harg2.unread x.q)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse))) (ix2 a b) = wgt x (i 1).val a b := by
  rw [full3, full6]
  exact pay33_at (rows0 i arg2 harg2 arg5 harg5 arg7 harg7 arg8 harg8 arg9 harg9 x) a b

/-- What the loop starts from. -/
theorem init_eq : (k0_pay39 (k0_pay26 (arg4.view.readAt (Elt Ideal) (Rect.unit (s := S512x128) ![0, 0] S512x128.size inb_S512x128_S512x128_0_0).toLoadRect (harg4.unread x.v))) k0_pay28 (k0_pay31 (arg2.view.readAt (Elt Ideal) (Rect.unit (s := S4096x128) (k0_off1 i) S512x128.size (k0_off1_inb i)).toLoadRect (harg2.unread x.q))) (arg9.view.readAt (Elt Ideal) (Rect.unit (s := S4096x128) (k0_off1 i) S512x128.size (k0_off1_inb i)).toLoadRect (harg9.unread x.g)) (k0_pay32 (arg9.view.readAt (Elt Ideal) (Rect.unit (s := S4096x128) (k0_off1 i) S512x128.size (k0_off1_inb i)).toLoadRect (harg9.unread x.g))) (k0_pay33 (arg3.view.readAt (Elt Ideal) (Rect.unit (s := S512x128) ![0, 0] S512x128.size inb_S512x128_S512x128_0_0).toLoadRect (harg3.unread x.k)) (arg6.view.readAt (Elt Ideal) (Rect.unit (s := S1x1x1x512) ![0, 0, 0, 0] S1x1x1x512.size inb_S1x1x1x512_S1x1x1x512_0_0_0_0).toLoadRect (harg6.unread x.ck)) (arg2.view.readAt (Elt Ideal) (Rect.unit (s := S4096x128) (k0_off1 i) S512x128.size (k0_off1_inb i)).toLoadRect (harg2.unread x.q)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse))) (arg8.view.readAt (Elt Ideal) (Rect.unit (s := S4096x128) (k0_off1 i) S512x128.size (k0_off1_inb i)).toLoadRect (harg8.unread x.o)), k0_pay40 k0_pay29 (k0_pay32 (arg9.view.readAt (Elt Ideal) (Rect.unit (s := S4096x128) (k0_off1 i) S512x128.size (k0_off1_inb i)).toLoadRect (harg9.unread x.g))) (k0_pay33 (arg3.view.readAt (Elt Ideal) (Rect.unit (s := S512x128) ![0, 0] S512x128.size inb_S512x128_S512x128_0_0).toLoadRect (harg3.unread x.k)) (arg6.view.readAt (Elt Ideal) (Rect.unit (s := S1x1x1x512) ![0, 0, 0, 0] S1x1x1x512.size inb_S1x1x1x512_S1x1x1x512_0_0_0_0).toLoadRect (harg6.unread x.ck)) (arg2.view.readAt (Elt Ideal) (Rect.unit (s := S4096x128) (k0_off1 i) S512x128.size (k0_off1_inb i)).toLoadRect (harg2.unread x.q)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse))), k0_pay1 k0_pay30 (k0_pay41 (k0_pay26 (arg4.view.readAt (Elt Ideal) (Rect.unit (s := S512x128) ![0, 0] S512x128.size inb_S512x128_S512x128_0_0).toLoadRect (harg4.unread x.v))) (arg9.view.readAt (Elt Ideal) (Rect.unit (s := S4096x128) (k0_off1 i) S512x128.size (k0_off1_inb i)).toLoadRect (harg9.unread x.g)) (k0_pay32 (arg9.view.readAt (Elt Ideal) (Rect.unit (s := S4096x128) (k0_off1 i) S512x128.size (k0_off1_inb i)).toLoadRect (harg9.unread x.g))) (k0_pay33 (arg3.view.readAt (Elt Ideal) (Rect.unit (s := S512x128) ![0, 0] S512x128.size inb_S512x128_S512x128_0_0).toLoadRect (harg3.unread x.k)) (arg6.view.readAt (Elt Ideal) (Rect.unit (s := S1x1x1x512) ![0, 0, 0, 0] S1x1x1x512.size inb_S1x1x1x512_S1x1x1x512_0_0_0_0).toLoadRect (harg6.unread x.ck)) (arg2.view.readAt (Elt Ideal) (Rect.unit (s := S4096x128) (k0_off1 i) S512x128.size (k0_off1_inb i)).toLoadRect (harg2.unread x.q)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse))) (arg8.view.readAt (Elt Ideal) (Rect.unit (s := S4096x128) (k0_off1 i) S512x128.size (k0_off1_inb i)).toLoadRect (harg8.unread x.o))))
    = (dkAt x (i 1).val 1, dvAt x (i 1).val 1, dcAt x (i 1).val 1) := by
  have R := rows0 i arg2 harg2 arg5 harg5 arg7 harg7 arg8 harg8 arg9 harg9 x
  have H := wgt0 i arg2 harg2 arg3 harg3 arg5 harg5 arg6 harg6 arg7 harg7 arg8 harg8 arg9 harg9 x
  have hv : ∀ (b : Fin 512) (d : Fin 128), k0_pay26 (arg4.view.readAt (Elt Ideal) (Rect.unit (s := S512x128) ![0, 0] S512x128.size inb_S512x128_S512x128_0_0).toLoadRect (harg4.unread x.v)) (ix2 b d) = x.v (ix2 b d) := by rw [full4]; exact pay26_at _
  exact Prod.ext (pay39_eq R hv H) (Prod.ext (pay40_eq R H) (pay41_eq R hv H))

include harg10 in
/-- The diagonal block stored into the query gradient. -/
theorem diag10 (f : arg10.view.ty.Contents (Elt Ideal)) (L : List (View.Piece (Elt Ideal) S4096x128 .f32)) (h : arg10.view.read (Elt Ideal) (arg10.view.writes (Elt Ideal) f L) = g10)
    {p : Vec Ideal S512x128 .f32} (hp : p = arg10.view.readAt (Elt Ideal) (Rect.unit (s := S4096x128) (k0_off1 i) S512x128.size (k0_off1_inb i)).toLoadRect (arg10.view.writes (Elt Ideal) f L)) :
    arg10.view.read (Elt Ideal) (arg10.view.writes (Elt Ideal) f ((⟨Rect.unit (k0_off1 i) S512x128.size (k0_off1_inb i), k0_pay37 (k0_pay25 (arg3.view.readAt (Elt Ideal) (Rect.unit (s := S512x128) ![0, 0] S512x128.size inb_S512x128_S512x128_0_0).toLoadRect (harg3.unread x.k))) (k0_pay26 (arg4.view.readAt (Elt Ideal) (Rect.unit (s := S512x128) ![0, 0] S512x128.size inb_S512x128_S512x128_0_0).toLoadRect (harg4.unread x.v))) (arg9.view.readAt (Elt Ideal) (Rect.unit (s := S4096x128) (k0_off1 i) S512x128.size (k0_off1_inb i)).toLoadRect (harg9.unread x.g)) (k0_pay32 (arg9.view.readAt (Elt Ideal) (Rect.unit (s := S4096x128) (k0_off1 i) S512x128.size (k0_off1_inb i)).toLoadRect (harg9.unread x.g))) (k0_pay33 (arg3.view.readAt (Elt Ideal) (Rect.unit (s := S512x128) ![0, 0] S512x128.size inb_S512x128_S512x128_0_0).toLoadRect (harg3.unread x.k)) (arg6.view.readAt (Elt Ideal) (Rect.unit (s := S1x1x1x512) ![0, 0, 0, 0] S1x1x1x512.size inb_S1x1x1x512_S1x1x1x512_0_0_0_0).toLoadRect (harg6.unread x.ck)) (arg2.view.readAt (Elt Ideal) (Rect.unit (s := S4096x128) (k0_off1 i) S512x128.size (k0_off1_inb i)).toLoadRect (harg2.unread x.q)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse))) (arg8.view.readAt (Elt Ideal) (Rect.unit (s := S4096x128) (k0_off1 i) S512x128.size (k0_off1_inb i)).toLoadRect (harg8.unread x.o)) p⟩ : View.Piece (Elt Ideal) S4096x128 .f32) :: L)) = dqAt x (i 1).val 1 g10 := by
  subst hp
  have hn : (i 1).val < 8 := (i 1).isLt
  have R := rows0 i arg2 harg2 arg5 harg5 arg7 harg7 arg8 harg8 arg9 harg9 x
  have H := wgt0 i arg2 harg2 arg3 harg3 arg5 harg5 arg6 harg6 arg7 harg7 arg8 harg8 arg9 harg9 x
  have hv : ∀ (b : Fin 512) (d : Fin 128), k0_pay26 (arg4.view.readAt (Elt Ideal) (Rect.unit (s := S512x128) ![0, 0] S512x128.size inb_S512x128_S512x128_0_0).toLoadRect (harg4.unread x.v)) (ix2 b d) = x.v (ix2 b d) := by rw [full4]; exact pay26_at _
  have e0 : dqAt x (i 1).val 0 g10 = g10 := funext fun y => if_neg (by omega)
  refine st2 harg10 x _ 0 g10 _ hn (off1 i) f L (h.trans e0.symm) _ fun b d => ?_
  rw [e0]
  refine ((congrArg (fun K => k0_pay37 (k0_pay25 K) _ _ _ _ _ _ (ix2 b d)) (full3 arg3 harg3 x)).trans (pay37_at R hv H _ b d)).trans ?_
  rw [harg10.eq_unread h, ld2 harg10 _ _ hn (off1 i)]
  rfl

include harg14 in
/-- The diagonal block stored into the row gate's gradient. -/
theorem diag14 (f : arg14.view.ty.Contents (Elt Ideal)) (L : List (View.Piece (Elt Ideal) S1x4096x1 .f32)) (h : arg14.view.read (Elt Ideal) (arg14.view.writes (Elt Ideal) f L) = g14)
    {p : Vec Ideal S1x512x1 .f32} (hp : p = arg14.view.readAt (Elt Ideal) (Rect.unit (s := S1x4096x1) (k0_off2 i) S1x512x1.size (k0_off2_inb i)).toLoadRect (arg14.view.writes (Elt Ideal) f L)) :
    arg14.view.read (Elt Ideal) (arg14.view.writes (Elt Ideal) f ((⟨Rect.unit (k0_off2 i) S1x512x1.size (k0_off2_inb i), k0_pay38 (k0_pay26 (arg4.view.readAt (Elt Ideal) (Rect.unit (s := S512x128) ![0, 0] S512x128.size inb_S512x128_S512x128_0_0).toLoadRect (harg4.unread x.v))) (arg9.view.readAt (Elt Ideal) (Rect.unit (s := S4096x128) (k0_off1 i) S512x128.size (k0_off1_inb i)).toLoadRect (harg9.unread x.g)) (k0_pay32 (arg9.view.readAt (Elt Ideal) (Rect.unit (s := S4096x128) (k0_off1 i) S512x128.size (k0_off1_inb i)).toLoadRect (harg9.unread x.g))) (k0_pay33 (arg3.view.readAt (Elt Ideal) (Rect.unit (s := S512x128) ![0, 0] S512x128.size inb_S512x128_S512x128_0_0).toLoadRect (harg3.unread x.k)) (arg6.view.readAt (Elt Ideal) (Rect.unit (s := S1x1x1x512) ![0, 0, 0, 0] S1x1x1x512.size inb_S1x1x1x512_S1x1x1x512_0_0_0_0).toLoadRect (harg6.unread x.ck)) (arg2.view.readAt (Elt Ideal) (Rect.unit (s := S4096x128) (k0_off1 i) S512x128.size (k0_off1_inb i)).toLoadRect (harg2.unread x.q)) (arg5.view.readAt (Elt Ideal) (Rect.unit (s := S1x4096x1) (k0_off2 i) S1x512x1.size (k0_off2_inb i)).toLoadRect (harg5.unread x.cq)) (arg7.view.readAt (Elt Ideal) (Rect.unit (s := S1x4096x1) (k0_off2 i) S1x512x1.size (k0_off2_inb i)).toLoadRect (harg7.unread x.lse))) (arg8.view.readAt (Elt Ideal) (Rect.unit (s := S4096x128) (k0_off1 i) S512x128.size (k0_off1_inb i)).toLoadRect (harg8.unread x.o)) p⟩ : View.Piece (Elt Ideal) S1x4096x1 .f32) :: L)) = drAt x (i 1).val 1 g14 := by
  subst hp
  have hn : (i 1).val < 8 := (i 1).isLt
  have R := rows0 i arg2 harg2 arg5 harg5 arg7 harg7 arg8 harg8 arg9 harg9 x
  have H := wgt0 i arg2 harg2 arg3 harg3 arg5 harg5 arg6 harg6 arg7 harg7 arg8 harg8 arg9 harg9 x
  have hv : ∀ (b : Fin 512) (d : Fin 128), k0_pay26 (arg4.view.readAt (Elt Ideal) (Rect.unit (s := S512x128) ![0, 0] S512x128.size inb_S512x128_S512x128_0_0).toLoadRect (harg4.unread x.v)) (ix2 b d) = x.v (ix2 b d) := by rw [full4]; exact pay26_at _
  have e0 : drAt x (i 1).val 0 g14 = g14 := funext fun y => if_neg (by omega)
  refine st3 harg14 x _ 0 g14 _ hn (off2 i) f L (h.trans e0.symm) _ fun b => ?_
  rw [e0]
  refine (pay38_at R hv H _ b).trans ?_
  rw [harg14.eq_unread h, ld3 harg14 _ _ hn (off2 i)]
  rfl

end Trip

end Cert.AttnBwd
-- ==== Proof.RunA.lean ====
module

public import proofs.«01_k».proof.Proof.Trips

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body at a point of the first key block. -/
theorem runA (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x1x512 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512 .f32) (harg13 : arg13.IsWhole) (arg14 : Memref sig .tc .vmem S1x4096x1 .f32) (harg14 : arg14.IsWhole) (hc0 : startsAt i) (x : Blk) :
      ∀ (E : Set ℕ) (K : PUnit → sProp 𝕄),
        iprop(owns (c : Thread nD τ) arg2 fullShare x.q ∗ owns (c : Thread nD τ) arg3 fullShare x.k ∗ owns (c : Thread nD τ) arg4 fullShare x.v ∗ owns (c : Thread nD τ) arg5 fullShare x.cq ∗ owns (c : Thread nD τ) arg6 fullShare x.ck ∗ owns (c : Thread nD τ) arg7 fullShare x.lse ∗ owns (c : Thread nD τ) arg8 fullShare x.o ∗ owns (c : Thread nD τ) arg9 fullShare x.g ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x.q ∗ owns (c : Thread nD τ) arg3 fullShare x.k ∗ owns (c : Thread nD τ) arg4 fullShare x.v ∗ owns (c : Thread nD τ) arg5 fullShare x.cq ∗ owns (c : Thread nD τ) arg6 fullShare x.ck ∗ owns (c : Thread nD τ) arg7 fullShare x.lse ∗ owns (c : Thread nD τ) arg8 fullShare x.o ∗ owns (c : Thread nD τ) arg9 fullShare x.g ∗ owns (c : Thread nD τ) arg10 fullShare (dqAt x (i 1).val (8 - (i 1).val) (fun _ => 0)) ∗ owns (c : Thread nD τ) arg11 fullShare (dkAt x (i 1).val (8 - (i 1).val)) ∗ owns (c : Thread nD τ) arg12 fullShare (dvAt x (i 1).val (8 - (i 1).val)) ∗ owns (c : Thread nD τ) arg13 fullShare (dcOut x (i 1).val) ∗ owns (c : Thread nD τ) arg14 fullShare (drAt x (i 1).val (8 - (i 1).val) (fun _ => 0))) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    have D10 := diag10 i arg2 harg2 arg3 harg3 arg4 harg4 arg5 harg5 arg6 harg6 arg7 harg7 arg8 harg8 arg9 harg9 arg10 harg10 x (fun _ => 0) arg10.view.junk [⟨Rect.unit (s := S4096x128) ![0, 0] S4096x128.size inb_S4096x128_S4096x128_0_0, k0_pay23 (F := Ideal)⟩] ((View.read_writes_full _ _ _ _ _).trans pay23_eq) rfl
    have D14 := diag14 i arg2 harg2 arg3 harg3 arg4 harg4 arg5 harg5 arg6 harg6 arg7 harg7 arg8 harg8 arg9 harg9 arg14 harg14 x (fun _ => 0) arg14.view.junk [⟨Rect.unit (s := S1x4096x1) ![0, 0, 0] S1x4096x1.size inb_S1x4096x1_S1x4096x1_0_0_0, k0_pay24 (F := Ideal)⟩] ((View.read_writes_full _ _ _ _ _).trans pay24_eq) rfl
    have S := loop_eq Variants.none c none i arg2 harg2 arg3 harg3 arg4 harg4 arg5 harg5 arg6 harg6 arg7 harg7 arg8 harg8 arg9 harg9 arg10 harg10 arg11 harg11 arg12 harg12 arg13 harg13 arg14 harg14 x (colsRead arg3 harg3 arg4 harg4 arg6 harg6 x) (Scalar.addi (BitVec.ofNat 32 (i 1).val) 1#32) (fun _ => 0) (fun _ => 0) _ _ _ _ D10 D14 (init_eq i arg2 harg2 arg3 harg3 arg4 harg4 arg5 harg5 arg6 harg6 arg7 harg7 arg8 harg8 arg9 harg9 x)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      exact S.2.1
    isplitl [H9]
    · iexists _; isplitr; swap; · iexact H9
      ipureintro
      exact (View.read_writes_full _ _ _ _ _).trans (congrArg (fun z => z.1) S.1)
    isplitl [H10]
    · iexists _; isplitr; swap; · iexact H10
      ipureintro
      exact (View.read_writes_full _ _ _ _ _).trans (congrArg (fun z => z.2.1) S.1)
    isplitl [H11]
    · iexists _; isplitr; swap; · iexact H11
      ipureintro
      exact (View.read_writes_full _ _ _ _ _).trans ((congrArg (fun z => k0_pay10 (F := Ideal) z.2.2) S.1).trans pay10_eq)
    iexists _; isplitr; swap; · iexact H12
    ipureintro
    exact S.2.2

end Cert.AttnBwd
-- ==== Proof.RunB.lean ====
module

public import proofs.«01_k».proof.Proof.Trips

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body at a point of a later key block. -/
theorem runB (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x1x512 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512 .f32) (harg13 : arg13.IsWhole) (arg14 : Memref sig .tc .vmem S1x4096x1 .f32) (harg14 : arg14.IsWhole) (hc0 : ¬ startsAt i) (x : Blk) (g10 : Vec Ideal S4096x128 .f32) (g14 : Vec Ideal S1x4096x1 .f32) :
      ∀ (E : Set ℕ) (K : PUnit → sProp 𝕄),
        iprop(owns (c : Thread nD τ) arg2 fullShare x.q ∗ owns (c : Thread nD τ) arg3 fullShare x.k ∗ owns (c : Thread nD τ) arg4 fullShare x.v ∗ owns (c : Thread nD τ) arg5 fullShare x.cq ∗ owns (c : Thread nD τ) arg6 fullShare x.ck ∗ owns (c : Thread nD τ) arg7 fullShare x.lse ∗ owns (c : Thread nD τ) arg8 fullShare x.o ∗ owns (c : Thread nD τ) arg9 fullShare x.g ∗ owns (c : Thread nD τ) arg10 fullShare g10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare g14
            ∗ (iprop(owns (c : Thread nD τ) arg2 fullShare x.q ∗ owns (c : Thread nD τ) arg3 fullShare x.k ∗ owns (c : Thread nD τ) arg4 fullShare x.v ∗ owns (c : Thread nD τ) arg5 fullShare x.cq ∗ owns (c : Thread nD τ) arg6 fullShare x.ck ∗ owns (c : Thread nD τ) arg7 fullShare x.lse ∗ owns (c : Thread nD τ) arg8 fullShare x.o ∗ owns (c : Thread nD τ) arg9 fullShare x.g ∗ owns (c : Thread nD τ) arg10 fullShare (dqAt x (i 1).val (8 - (i 1).val) g10) ∗ owns (c : Thread nD τ) arg11 fullShare (dkAt x (i 1).val (8 - (i 1).val)) ∗ owns (c : Thread nD τ) arg12 fullShare (dvAt x (i 1).val (8 - (i 1).val)) ∗ owns (c : Thread nD τ) arg13 fullShare (dcOut x (i 1).val) ∗ owns (c : Thread nD τ) arg14 fullShare (drAt x (i 1).val (8 - (i 1).val) g14)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12
    have D10 := diag10 i arg2 harg2 arg3 harg3 arg4 harg4 arg5 harg5 arg6 harg6 arg7 harg7 arg8 harg8 arg9 harg9 arg10 harg10 x g10 (harg10.unread g10) [] hf8 rfl
    have D14 := diag14 i arg2 harg2 arg3 harg3 arg4 harg4 arg5 harg5 arg6 harg6 arg7 harg7 arg8 harg8 arg9 harg9 arg14 harg14 x g14 (harg14.unread g14) [] hf12 rfl
    have S := loop_eq Variants.none c none i arg2 harg2 arg3 harg3 arg4 harg4 arg5 harg5 arg6 harg6 arg7 harg7 arg8 harg8 arg9 harg9 arg10 harg10 arg11 harg11 arg12 harg12 arg13 harg13 arg14 harg14 x (colsRead arg3 harg3 arg4 harg4 arg6 harg6 x) (Scalar.addi (BitVec.ofNat 32 (i 1).val) 1#32) g10 g14 _ _ _ _ D10 D14 (init_eq i arg2 harg2 arg3 harg3 arg4 harg4 arg5 harg5 arg6 harg6 arg7 harg7 arg8 harg8 arg9 harg9 x)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      exact S.2.1
    isplitl [H9]
    · iexists _; isplitr; swap; · iexact H9
      ipureintro
      exact (View.read_writes_full _ _ _ _ _).trans (congrArg (fun z => z.1) S.1)
    isplitl [H10]
    · iexists _; isplitr; swap; · iexact H10
      ipureintro
      exact (View.read_writes_full _ _ _ _ _).trans (congrArg (fun z => z.2.1) S.1)
    isplitl [H11]
    · iexists _; isplitr; swap; · iexact H11
      ipureintro
      exact (View.read_writes_full _ _ _ _ _).trans ((congrArg (fun z => k0_pay10 (F := Ideal) z.2.2) S.1).trans pay10_eq)
    iexists _; isplitr; swap; · iexact H12
    ipureintro
    exact S.2.2

end Cert.AttnBwd
-- ==== Proof.Launch.lean ====
module

public import proofs.«01_k».proof.Proof.RunA
public import proofs.«01_k».proof.Proof.RunB
public import proofs.«01_k».proof.Proof.Gen.KernelIdeal.Frame
public import Idealize.ShloMosaic.Lib.Claim
public import Idealize.ShloMosaic.Lib.Quiescent

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the points leave -/

/-- The blocks point `t` reads. -/
abbrev blk (c : Dev nD) (t : Fin cfg0.N) : Blk :=
  ⟨iblk m c 0 t, iblk m c 1 t, iblk m c 2 t, iblk m c 3 t, iblk m c 4 t, iblk m c 5 t, iblk m c 6 t, iblk m c 7 t⟩

/-- The point of head `h` and key block `j`. -/
def pt (h j : ℕ) : Fin cfg0.N := ⟨(8 * h + j) % 64, lt_of_lt_of_eq (Nat.mod_lt _ (by decide)) (show cfg0.N = 64 from N_0).symm⟩

theorem lt64 (t : Fin cfg0.N) : t.val < 64 := lt_of_lt_of_eq t.isLt (show cfg0.N = 64 from N_0)

theorem pt_eq (t : Fin cfg0.N) : pt (t.val / 8) (t.val % 8) = t := by
  have := lt64 t
  exact Fin.ext (show (8 * (t.val / 8) + t.val % 8) % 64 = t.val by omega)

/-- A head's query gradient after its first `n` key blocks. -/
def dqUp (X : ℕ → Blk) : ℕ → Vec Ideal S4096x128 .f32
  | 0 => fun _ => 0
  | j + 1 => dqAt (X j) j (8 - j) (dqUp X j)

/-- A head's row gate's gradient after its first `n` key blocks. -/
def drUp (X : ℕ → Blk) : ℕ → Vec Ideal S1x4096x1 .f32
  | 0 => fun _ => 0
  | j + 1 => drAt (X j) j (8 - j) (drUp X j)

/-- The blocks of head `h`, by key block. -/
abbrev headBlk (c : Dev nD) (h : ℕ) : ℕ → Blk := fun j => blk m c (pt h j)

theorem coord1 (t : Fin cfg0.N) : (grid0.coords t 1).val = t.val % 8 :=
  (Pipeline.Grid.coords_val t 1 (by decide) rfl : (grid0.coords t 1).val = t.val / 1 % 8).trans (by rw [Nat.div_one])

theorem starts_iff (t : Fin cfg0.N) : startsAt (grid0.coords t) ↔ t.val % 8 = 0 := by
  have h : t.val % 8 < 8 := Nat.mod_lt _ (by decide)
  simp only [startsAt, coord1]
  word_cmp

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqUp (headBlk m c (t.val / 8)) (t.val % 8 + 1)
    | ⟨9, _⟩ => dkAt (blk m c t) (t.val % 8) (8 - t.val % 8)
    | ⟨10, _⟩ => dvAt (blk m c t) (t.val % 8) (8 - t.val % 8)
    | ⟨11, _⟩ => dcOut (blk m c t) (t.val % 8)
    | ⟨12, _⟩ => drUp (headBlk m c (t.val / 8)) (t.val % 8 + 1)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = dqUp (headBlk m c (t.val / 8)) (t.val % 8 + 1) := by dsimp only [dats]
theorem left9 (c : Dev nD) (t : Fin cfg0.N) : (dats m 0 c).after 9 t = dkAt (blk m c t) (t.val % 8) (8 - t.val % 8) := by dsimp only [dats]
theorem left10 (c : Dev nD) (t : Fin cfg0.N) : (dats m 0 c).after 10 t = dvAt (blk m c t) (t.val % 8) (8 - t.val % 8) := by dsimp only [dats]
theorem left11 (c : Dev nD) (t : Fin cfg0.N) : (dats m 0 c).after 11 t = dcOut (blk m c t) (t.val % 8) := by dsimp only [dats]
theorem left12 (c : Dev nD) (t : Fin cfg0.N) : (dats m 0 c).after 12 t = drUp (headBlk m c (t.val / 8)) (t.val % 8 + 1) := by dsimp only [dats]

theorem found0 (c : Dev nD) (t : Fin cfg0.N) (d) : (dats m 0 c).before 0 t d = iblk m c 0 t :=
  before0_0_of m (dats m 0 c) (A_eq m c 0) (left0 m c) t d
theorem found1 (c : Dev nD) (t : Fin cfg0.N) (d) : (dats m 0 c).before 1 t d = iblk m c 1 t :=
  before0_1_of m (dats m 0 c) (A_eq m c 1) (left1 m c) t d
theorem found2 (c : Dev nD) (t : Fin cfg0.N) (d) : (dats m 0 c).before 2 t d = iblk m c 2 t :=
  before0_2_of m (dats m 0 c) (A_eq m c 2) (left2 m c) t d
theorem found3 (c : Dev nD) (t : Fin cfg0.N) (d) : (dats m 0 c).before 3 t d = iblk m c 3 t :=
  before0_3_of m (dats m 0 c) (A_eq m c 3) (left3 m c) t d
theorem found4 (c : Dev nD) (t : Fin cfg0.N) (d) : (dats m 0 c).before 4 t d = iblk m c 4 t :=
  before0_4_of m (dats m 0 c) (A_eq m c 4) (left4 m c) t d
theorem found5 (c : Dev nD) (t : Fin cfg0.N) (d) : (dats m 0 c).before 5 t d = iblk m c 5 t :=
  before0_5_of m (dats m 0 c) (A_eq m c 5) (left5 m c) t d
theorem found6 (c : Dev nD) (t : Fin cfg0.N) (d) : (dats m 0 c).before 6 t d = iblk m c 6 t :=
  before0_6_of m (dats m 0 c) (A_eq m c 6) (left6 m c) t d
theorem found7 (c : Dev nD) (t : Fin cfg0.N) (d) : (dats m 0 c).before 7 t d = iblk m c 7 t :=
  before0_7_of m (dats m 0 c) (A_eq m c 7) (left7 m c) t d

theorem flushed_before (w : Fin cfg0.W) (h8 : ∀ t : Fin cfg0.N, (cfg0.win w).flush t = true ↔ t.val % 8 = 7) (t : Fin cfg0.N) (ht : t.val % 8 ≠ 0) :
    (cfg0.win w).flush ⟨t.val - 1, Nat.lt_of_le_of_lt (Nat.sub_le _ _) t.isLt⟩ = false :=
  Bool.eq_false_iff.mpr fun h => by have := (h8 _).mp h; dsimp only at this; omega

/-- A later point of a head finds what the point before left. -/
theorem found8 (c : Dev nD) (t : Fin cfg0.N) (ht : t.val % 8 ≠ 0) (d) : (dats m 0 c).before 8 t d = dqUp (headBlk m c (t.val / 8)) (t.val % 8) := by
  rw [(dats m 0 c).before_out_kept 8 rfl t (fun h => ht (by rw [h])) (flushed_before 8 flush0_8 t ht) (fun _ => rfl) (fun _ _ => rfl) d, left8]
  have e1 : (t.val - 1) / 8 = t.val / 8 := by omega
  have e2 : (t.val - 1) % 8 + 1 = t.val % 8 := by omega
  show dqUp (headBlk m c ((t.val - 1) / 8)) ((t.val - 1) % 8 + 1) = _
  rw [e1, e2]

/-- A later point of a head finds what the point before left. -/
theorem found12 (c : Dev nD) (t : Fin cfg0.N) (ht : t.val % 8 ≠ 0) (d) : (dats m 0 c).before 12 t d = drUp (headBlk m c (t.val / 8)) (t.val % 8) := by
  rw [(dats m 0 c).before_out_kept 12 rfl t (fun h => ht (by rw [h])) (flushed_before 12 flush0_12 t ht) (fun _ => rfl) (fun _ _ => rfl) d, left12]
  have e1 : (t.val - 1) / 8 = t.val / 8 := by omega
  have e2 : (t.val - 1) % 8 + 1 = t.val % 8 := by omega
  show drUp (headBlk m c ((t.val - 1) / 8)) ((t.val - 1) % 8 + 1) = _
  rw [e1, e2]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem dq_first (c : Dev nD) (t : Fin cfg0.N) (h : t.val % 8 = 0) :
    dqUp (headBlk m c (t.val / 8)) (t.val % 8 + 1) = dqAt (blk m c t) (t.val % 8) (8 - t.val % 8) (fun _ => 0) := by
  have e := pt_eq t
  rw [h] at e
  simp only [h, dqUp, headBlk, e]
theorem dr_first (c : Dev nD) (t : Fin cfg0.N) (h : t.val % 8 = 0) :
    drUp (headBlk m c (t.val / 8)) (t.val % 8 + 1) = drAt (blk m c t) (t.val % 8) (8 - t.val % 8) (fun _ => 0) := by
  have e := pt_eq t
  rw [h] at e
  simp only [h, drUp, headBlk, e]
theorem dq_later (c : Dev nD) (t : Fin cfg0.N) :
    dqUp (headBlk m c (t.val / 8)) (t.val % 8 + 1) = dqAt (blk m c t) (t.val % 8) (8 - t.val % 8) (dqUp (headBlk m c (t.val / 8)) (t.val % 8)) := by
  simp only [dqUp, headBlk, pt_eq]
theorem dr_later (c : Dev nD) (t : Fin cfg0.N) :
    drUp (headBlk m c (t.val / 8)) (t.val % 8 + 1) = drAt (blk m c t) (t.val % 8) (8 - t.val % 8) (drUp (headBlk m c (t.val / 8)) (t.val % 8)) := by
  simp only [drUp, headBlk, pt_eq]

set_option maxHeartbeats 4000000 in
/-- The body's triple at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [found0, found1, found2, found3, found4, found5, found6, found7]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12]
  by_cases h0 : t.val % 8 = 0
  · rw [dq_first m c t h0, dr_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have R := runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) ((starts_iff t).mpr h0) (blk m c t) Set.univ
    rw [coord1 t] at R
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [dq_later m c t, dr_later m c t]
    simp only [found8 m c t h0, found12 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have R := runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (fun h => h0 ((starts_iff t).mp h)) (blk m c t) (dqUp (headBlk m c (t.val / 8)) (t.val % 8)) (drUp (headBlk m c (t.val / 8)) (t.val % 8)) Set.univ
    rw [coord1 t] at R
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
theorem run_quiet : θ_run defs (onTc (τ := τ) (main (F := Ideal))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_quiet m ρ)

/-- The program terminates, leaves its arguments as they were and every counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.AttnBwd
-- ==== Proof.Sums.lean ====
module

public import proofs.«01_k».proof.Proof.Head
public import proofs.«01_k».proof.Proof.Launch
public import Idealize.ShloMosaic.Lib.Pipeline.ValueKit

@[expose] public section

noncomputable section

namespace Cert.AttnBwd

open Cert.KernelIdeal Cert.KernelIdeal.Gen
open Idealize.ShloMosaic
open scoped BigOperators

/-! ## The blocks' sums are the head's -/

theorem row_val' {n : ℕ} (hn : n < 8) (b : Fin 512) : (row n b).val = 512 * n + b.val :=
  show (512 * n + b.val) % 4096 = _ from Nat.mod_eq_of_lt (by omega)

theorem row_blk (r : Fin 4096) : row (blkOf r) (inBlk r) = r :=
  Fin.ext (by have := r.isLt; show (512 * (r.val / 512) + r.val % 512) % 4096 = r.val; omega)

/-- A sum over positions, block by block. -/
theorem sum_rows (f : Fin 4096 → ℝ) : ∑ r, f r = ∑ n ∈ Finset.range 8, ∑ b : Fin 512, f (row n b) := by
  rw [← Fin.sum_univ_eq_sum_range (fun n => ∑ b : Fin 512, f (row n b)) 8]
  have h := Fin.sum_univ_univ_mul_add 8 512 (fun l => f ⟨l % 4096, Nat.mod_lt _ (by decide)⟩)
  rw [show (∑ r, f r) = ∑ l : Fin (8 * 512), f ⟨l.val % 4096, Nat.mod_lt _ (by decide)⟩ from
    Finset.sum_congr rfl fun r _ => congrArg f (Fin.ext (Nat.mod_eq_of_lt r.isLt).symm), ← h]
  refine Finset.sum_congr rfl fun n _ => Finset.sum_congr rfl fun b _ => congrArg f (Fin.ext ?_)
  show (n.val * 512 + b.val) % 4096 = (512 * n.val + b.val) % 4096
  rw [mul_comm]

/-- The sum over the positions from block `j` on, where the earlier ones add nothing. -/
theorem sum_from {j : ℕ} (hj : j < 8) (f : Fin 4096 → ℝ) (hf : ∀ n < j, ∀ b, f (row n b) = 0) :
    ∑ k ∈ Finset.range (8 - j), ∑ b : Fin 512, f (row (j + k) b) = ∑ r, f r := by
  have e := Finset.sum_range_add (fun n => ∑ b : Fin 512, f (row n b)) j (8 - j)
  rw [show j + (8 - j) = 8 by omega] at e
  rw [sum_rows, e, Finset.sum_eq_zero (s := Finset.range j), zero_add]
  intro n hn
  exact Finset.sum_eq_zero fun b _ => hf n (Finset.mem_range.mp hn) b

/-- A coercion of a range's sum. -/
theorem coe_sum_range (n : ℕ) (f : ℕ → ℝ) : ∑ i ∈ Finset.range n, ((f i : ℝ) : EReal) = ((∑ i ∈ Finset.range n, f i : ℝ) : EReal) :=
  (map_sum (⟨⟨Real.toEReal, EReal.coe_zero⟩, EReal.coe_add⟩ : ℝ →+ EReal) f _).symm

/-- The blocks are the head's arrays at key block `j`. -/
structure Holds (X : Blk) (x : Head) (j : ℕ) : Prop where
  q : ∀ r d, X.q (ix2 r d) = (x.Q r d : EReal)
  k : ∀ b d, X.k (ix2 b d) = (x.K (row j b) d : EReal)
  v : ∀ b d, X.v (ix2 b d) = (x.V (row j b) d : EReal)
  cq : ∀ r, X.cq (ix3 0 r 0) = (x.C r : EReal)
  ck : ∀ b, X.ck (ix4 0 0 0 b) = (x.C (row j b) : EReal)
  lse : ∀ r, X.lse (ix3 0 r 0) = ((x.topR r + Real.log (x.L r) : ℝ) : EReal)
  o : ∀ r d, X.o (ix2 r d) = ((∑ c, x.W r c * x.V c d : ℝ) : EReal)
  g : ∀ r d, X.g (ix2 r d) = (x.G r d : EReal)

namespace Head

theorem W_zero (x : Head) {r c : Fin 4096} (h : r < c) : x.W r c = 0 := if_neg (not_le.mpr h)
theorem DS_zero (x : Head) {r c : Fin 4096} (h : r < c) : x.DS r c = 0 := by
  unfold DS
  rw [W_zero x h, zero_mul]

theorem before {n j : ℕ} (hj : j < 8) (h : n < j) (b c : Fin 512) : row n b < row j c := by
  rw [Fin.lt_def, row_val' (by omega), row_val' hj]
  omega

/-- The row's product with the forward output is its weighted sum of cotangents. -/
theorem out_dot (x : Head) (r : Fin 4096) : ∑ d, x.G r d * ∑ c, x.W r c * x.V c d = ∑ c, x.W r c * x.CT r c := by
  unfold CT
  simp only [Finset.mul_sum]
  rw [Finset.sum_comm]
  exact Finset.sum_congr rfl fun c _ => Finset.sum_congr rfl fun d _ => by ring

end Head

variable {X : Blk} {x : Head} {j : ℕ}

theorem wgt_eq (H : Holds X x j) (n : ℕ) (b c : Fin 512) (hc : row j c ≤ row n b) : wgt X n b c = (x.W (row n b) (row j c) : EReal) := by
  unfold wgt
  simp only [H.q, H.k, H.cq, H.lse, H.ck, sc_eq, ← EReal.coe_mul, Head.coe_sum, ← EReal.coe_sub, ← EReal.coe_add, Ideal.exp_coe]
  rw [← Head.exp_log x _ _ hc]
  congr 2
  unfold Head.S
  ring

theorem wgtM_eq (H : Holds X x j) {n : ℕ} (hj : j ≤ n) (hn : n < 8) (b c : Fin 512) : wgtM X j n b c = (x.W (row n b) (row j c) : EReal) := by
  unfold wgtM
  split_ifs with h
  · rw [x.W_zero, EReal.coe_zero]
    rw [Fin.lt_def, row_val' hn, row_val' (by omega)]
    have := Fin.lt_def.mp h.2
    omega
  · refine wgt_eq H n b c ?_
    rw [Fin.le_def, row_val' hn, row_val' (by omega)]
    rcases Nat.lt_or_ge j n with e | e
    · omega
    · have : n = j := by omega
      have h' : ¬ b < c := fun hb => h ⟨this, hb⟩
      rw [Fin.lt_def] at h'
      omega

theorem dsc_eq (H : Holds X x j) {n : ℕ} (hj : j ≤ n) (hn : n < 8) (b c : Fin 512) : dsc X j n b c = (x.DS (row n b) (row j c) : EReal) := by
  unfold dsc
  rw [wgtM_eq H hj hn]
  simp only [H.g, H.v, H.o, ← EReal.coe_mul, Head.coe_sum, ← EReal.coe_sub]
  rw [x.out_dot]
  rfl

theorem dk_eq (H : Holds X x j) (hj : j < 8) (c : Fin 512) (d : Fin 128) : dkAt X j (8 - j) (ix2 c d) = (x.dK (row j c) d : EReal) := by
  show ∑ k ∈ Finset.range (8 - j), ∑ b : Fin 512, dsc X j (j + k) b c * sc * X.q (ix2 (row (j + k) b) d) = _
  rw [Finset.sum_congr rfl fun k hk => Finset.sum_congr rfl fun b _ => by
    rw [dsc_eq H (Nat.le_add_right j k) (by have := Finset.mem_range.mp hk; omega), H.q, sc_eq, ← EReal.coe_mul, ← EReal.coe_mul]]
  simp only [Head.coe_sum]
  rw [coe_sum_range, sum_from hj (fun r => x.DS r (row j c) * scR * x.Q r d) fun n hn b => by
    rw [x.DS_zero (Head.before hj hn b c), zero_mul, zero_mul]]
  rfl

theorem dv_eq (H : Holds X x j) (hj : j < 8) (c : Fin 512) (d : Fin 128) : dvAt X j (8 - j) (ix2 c d) = (x.dV (row j c) d : EReal) := by
  show ∑ k ∈ Finset.range (8 - j), ∑ b : Fin 512, wgtM X j (j + k) b c * X.g (ix2 (row (j + k) b) d) = _
  rw [Finset.sum_congr rfl fun k hk => Finset.sum_congr rfl fun b _ => by
    rw [wgtM_eq H (Nat.le_add_right j k) (by have := Finset.mem_range.mp hk; omega), H.g, ← EReal.coe_mul]]
  simp only [Head.coe_sum]
  rw [coe_sum_range, sum_from hj (fun r => x.W r (row j c) * x.G r d) fun n hn b => by
    rw [x.W_zero (Head.before hj hn b c), zero_mul]]
  rfl

theorem dcSum_eq (H : Holds X x j) (c : Fin 512) : ∀ m : ℕ, m + j ≤ 8 →
    dcSum X j c m = ((-∑ k ∈ Finset.range m, ∑ b : Fin 512, x.DS (row (j + k) b) (row j c) : ℝ) : EReal)
  | 0, _ => by simp [dcSum]
  | m + 1, h => by
    rw [dcSum, dcSum_eq H c m (by omega), Finset.sum_congr rfl fun b _ => dsc_eq H (Nat.le_add_right j m) (by omega) b c, Head.coe_sum,
      ← EReal.coe_sub, Finset.sum_range_succ, neg_add]
    rfl

theorem dc_eq (H : Holds X x j) (hj : j < 8) (c : Fin 512) : dcOut X j (ix3 0 0 c) = (x.dCol (row j c) : EReal) := by
  show dcSum X j c (8 - j) = _
  rw [dcSum_eq H c (8 - j) (by omega), sum_from hj (fun r => x.DS r (row j c)) fun n hn b => x.DS_zero (Head.before hj hn b c)]
  rfl

/-- The key blocks up to `m` of a row's sum over columns. -/
theorem sum_upto (r : Fin 4096) (f : Fin 4096 → ℝ) (hf : ∀ c, r < c → f c = 0) :
    ∑ j ∈ Finset.range 8, (if j ≤ blkOf r then ∑ c : Fin 512, f (row j c) else 0) = ∑ c, f c := by
  rw [sum_rows]
  refine Finset.sum_congr rfl fun j hj => ?_
  have hj := Finset.mem_range.mp hj
  split_ifs with h
  · rfl
  · refine (Finset.sum_eq_zero fun c _ => hf _ ?_).symm
    rw [Fin.lt_def, row_val' hj]
    have : ¬ j ≤ r.val / 512 := h
    omega

variable {Xs : ℕ → Blk} (Hs : ∀ j < 8, Holds (Xs j) x j)

theorem blk_lt (r : Fin 4096) : blkOf r < 8 := by
  show r.val / 512 < 8
  omega

include Hs in
theorem dqUp_eq (r : Fin 4096) (d : Fin 128) : ∀ m : ℕ, m ≤ 8 → dqUp Xs m (ix2 r d)
    = ((∑ j ∈ Finset.range m, (if j ≤ blkOf r then ∑ c : Fin 512, x.DS r (row j c) * scR * x.K (row j c) d else 0) : ℝ) : EReal)
  | 0, _ => by simp [dqUp]
  | m + 1, h => by
    have hb := blk_lt r
    show (if m ≤ blkOf r ∧ blkOf r < m + (8 - m) then
      dqUp Xs m (ix2 r d) + ∑ c : Fin 512, dsc (Xs m) m (blkOf r) (inBlk r) c * sc * (Xs m).k (ix2 c d) else dqUp Xs m (ix2 r d)) = _
    rw [dqUp_eq r d m (by omega), Finset.sum_range_succ]
    by_cases hm : m ≤ blkOf r
    · rw [if_pos ⟨hm, by omega⟩, if_pos hm, Finset.sum_congr rfl fun (c : Fin 512) _ => by
        rw [dsc_eq (Hs m (by omega)) hm hb, (Hs m (by omega)).k, row_blk, sc_eq, ← EReal.coe_mul, ← EReal.coe_mul], Head.coe_sum, ← EReal.coe_add]
    · rw [if_neg fun e => hm e.1, if_neg hm, add_zero]

include Hs in
theorem dq_eq (r : Fin 4096) (d : Fin 128) : dqUp Xs 8 (ix2 r d) = (x.dQ r d : EReal) := by
  rw [dqUp_eq Hs r d 8 le_rfl, sum_upto r (fun c => x.DS r c * scR * x.K c d) fun c hc => by rw [x.DS_zero hc, zero_mul, zero_mul]]
  rfl

include Hs in
theorem drUp_eq (r : Fin 4096) : ∀ m : ℕ, m ≤ 8 → drUp Xs m (ix3 0 r 0)
    = ((∑ j ∈ Finset.range m, (if j ≤ blkOf r then ∑ c : Fin 512, x.DS r (row j c) else 0) : ℝ) : EReal)
  | 0, _ => by simp [drUp]
  | m + 1, h => by
    have hb := blk_lt r
    show (if m ≤ blkOf r ∧ blkOf r < m + (8 - m) then
      drUp Xs m (ix3 0 r 0) + ∑ c : Fin 512, dsc (Xs m) m (blkOf r) (inBlk r) c else drUp Xs m (ix3 0 r 0)) = _
    rw [drUp_eq r m (by omega), Finset.sum_range_succ]
    by_cases hm : m ≤ blkOf r
    · rw [if_pos ⟨hm, by omega⟩, if_pos hm, Finset.sum_congr rfl fun (c : Fin 512) _ => by
        rw [dsc_eq (Hs m (by omega)) hm hb, row_blk], Head.coe_sum, ← EReal.coe_add]
    · rw [if_neg fun e => hm e.1, if_neg hm, add_zero]

include Hs in
theorem dr_eq (r : Fin 4096) : drUp Xs 8 (ix3 0 r 0) = (x.dRow r : EReal) := by
  rw [drUp_eq Hs r 8 le_rfl, sum_upto r (fun c => x.DS r c) fun c hc => x.DS_zero hc]
  rfl

end Cert.AttnBwd

end
-- ==== Proof.Stages.lean ====
module

public import proofs.«01_k».proof.Proof.Gen.ReferenceIdeal
public import Idealize.ShloMosaic.Lib.Pointwise

@[expose] public section

set_option maxRecDepth 16384

noncomputable section

namespace Cert.AttnBwd.Host

open Cert.ReferenceIdeal Cert.ReferenceIdeal.Gen
open Idealize.ShloMosaic
open scoped BigOperators

/-! The host's operations in stages, each read at an index of arrays it is given. -/

/-- The heads of 1024 columns. -/
def heads (a : FVec Ideal S4096x1024 .f32) : FVec Ideal S8x4096x128 .f32 :=
  transpose S8x4096x128 [1, 0, 2] (shapeCast S4096x8x128 a shapeCasts_S4096x1024_S4096x8x128) transposes_S4096x8x128_S8x4096x128_1_0_2

/-- The columns of the heads. -/
def flat (a : FVec Ideal S8x4096x128 .f32) : FVec Ideal S4096x1024 .f32 :=
  shapeCast S4096x1024 (transpose S4096x8x128 [1, 0, 2] a transposes_S8x4096x128_S4096x8x128_1_0_2) shapeCasts_S4096x8x128_S4096x1024

def colQ (a : FVec Ideal S4096x3072 .f32) : FVec Ideal S4096x1024 .f32 :=
  extractStridedSlice S4096x1024 ![0, 0] a slices_S4096x3072_S4096x1024_0_0
def colK (a : FVec Ideal S4096x3072 .f32) : FVec Ideal S4096x1024 .f32 :=
  extractStridedSlice S4096x1024 ![0, 1024] a slices_S4096x3072_S4096x1024_0_1024
def colV (a : FVec Ideal S4096x3072 .f32) : FVec Ideal S4096x1024 .f32 :=
  extractStridedSlice S4096x1024 ![0, 2048] a slices_S4096x3072_S4096x1024_0_2048

/-- Column `c` is not after row `r`. -/
def mask : IVec S8x4096x4096 1 :=
  broadcastInDim S8x4096x4096 ![0, 1, 2] bcast_S1x4096x4096_S8x4096x4096_0_1_2
    (cmpi .sle (broadcastInDim S1x4096x4096 ![0, 1, 2] bcast_S1x1x4096_S1x4096x4096_0_1_2 (broadcastInDim S1x1x4096 ![2] bcast_S4096_S1x1x4096_2 (iotaInDim S4096 32 0)))
      (broadcastInDim S1x4096x4096 ![0, 1, 2] bcast_S1x4096x1_S1x4096x4096_0_1_2 (broadcastInDim S1x4096x1 ![1] bcast_S4096_S1x4096x1_1 (iotaInDim S4096 32 0))))

/-- Rows' products with columns, by head. -/
def dots (a b : FVec Ideal S8x4096x128 .f32) : FVec Ideal S8x4096x4096 .f32 :=
  Host.dotGeneral dot_S8x4096x128_S8x4096x128_S8x4096x4096_2_2_1_1_0_0 none a b

/-- One number for each row, along its columns. -/
def across (l : FVec Ideal S8x4096x1 .f32) : FVec Ideal S8x4096x4096 .f32 :=
  broadcastInDim S8x4096x4096 ![0, 1, 2] bcast_S8x4096x1_S8x4096x4096_0_1_2 l

def column (l : FVec Ideal S8x4096 .f32) : FVec Ideal S8x4096x1 .f32 :=
  broadcastInDim S8x4096x1 ![0, 1] bcast_S8x4096_S8x4096x1_0_1 l

def scores (q k : FVec Ideal S8x4096x128 .f32) (cum : FVec Ideal S8x4096 .f32) : FVec Ideal S8x4096x4096 .f32 :=
  select mask
    (subf (addf (mulf (dots q k) (broadcastInDim S8x4096x4096 ![] bcast_S_S8x4096x4096 (constant S_ .f32 0x3DB504F3#32))) (across (column cum)))
      (broadcastInDim S8x4096x4096 ![0, 1, 2] bcast_S8x1x4096_S8x4096x4096_0_1_2 (broadcastInDim S8x1x4096 ![0, 2] bcast_S8x4096_S8x1x4096_0_2 cum)))
    (broadcastInDim S8x4096x4096 ![] bcast_S_S8x4096x4096 (id (constant S_ .f32 0xFF800000#32)))

def largest (s : FVec Ideal S8x4096x4096 .f32) : FVec Ideal S8x4096 .f32 :=
  Host.reduce FloatOps.maximumf s (constant S_ .f32 0xFF800000#32) reducesTo_S8x4096x4096_S8x4096_d2 h_S_

def largest' (s : FVec Ideal S8x4096x4096 .f32) : FVec Ideal S8x4096 .f32 :=
  maximumf (broadcastInDim S8x4096 ![] bcast_S_S8x4096 (constant S_ .f32 0xFF800000#32)) (largest s)

def exps (s : FVec Ideal S8x4096x4096 .f32) (t : FVec Ideal S8x4096x1 .f32) : FVec Ideal S8x4096x4096 .f32 :=
  Host.exp (subf s (across t))

def rowSum (e : FVec Ideal S8x4096x4096 .f32) : FVec Ideal S8x4096 .f32 :=
  Host.reduceAdd e (constant S_ .f32 0x00000000#32) reducesTo_S8x4096x4096_S8x4096_d2 h_S_

def colSum (e : FVec Ideal S8x4096x4096 .f32) : FVec Ideal S8x4096 .f32 :=
  Host.reduceAdd e (constant S_ .f32 0x00000000#32) reducesTo_S8x4096x4096_S8x4096_d1 h_S_

def upright (t : FVec Ideal S8x4096 .f32) : FVec Ideal S8x4096x1 .f32 := shapeCast S8x4096x1 t shapeCasts_S8x4096_S8x4096x1

def sumOne (t : FVec Ideal S8x4096x1 .f32) : FVec Ideal S8x4096 .f32 :=
  Host.reduceAdd t (constant S_ .f32 0x00000000#32) reducesTo_S8x4096x1_S8x4096_d2 h_S_

def weights (e : FVec Ideal S8x4096x4096 .f32) (l : FVec Ideal S8x4096x1 .f32) : FVec Ideal S8x4096x4096 .f32 := Host.divf e (across l)

def invSq (l : FVec Ideal S8x4096x1 .f32) : FVec Ideal S8x4096x1 .f32 :=
  Host.divf (broadcastInDim S8x4096x1 ![] bcast_S_S8x4096x1 (constant S_ .f32 0x3F800000#32)) (mulf l l)

/-- What the row's sum's cotangent adds along the row. -/
def sumCt (ct e : FVec Ideal S8x4096x4096 .f32) (l : FVec Ideal S8x4096x1 .f32) : FVec Ideal S8x4096 .f32 :=
  sumOne (Host.negf (upright (rowSum (mulf (mulf ct (across (invSq l))) e))))

def dScores (ct e : FVec Ideal S8x4096x4096 .f32) (l : FVec Ideal S8x4096x1 .f32) (t : FVec Ideal S8x4096 .f32) : FVec Ideal S8x4096x4096 .f32 :=
  select mask (mulf (addf (Host.divf ct (across l)) (broadcastInDim S8x4096x4096 ![0, 1] bcast_S8x4096_S8x4096x4096_0_1 t)) e)
    (broadcastInDim S8x4096x4096 ![] bcast_S_S8x4096x4096 (constant S_ .f32 0x00000000#32))

def scaled (s : FVec Ideal S8x4096x4096 .f32) : FVec Ideal S8x4096x4096 .f32 :=
  mulf s (broadcastInDim S8x4096x4096 ![] bcast_S_S8x4096x4096 (constant S_ .f32 0x3DB504F3#32))

/-- Rows of weights with rows of features. -/
def rowsBy (w : FVec Ideal S8x4096x4096 .f32) (a : FVec Ideal S8x4096x128 .f32) : FVec Ideal S8x4096x128 .f32 :=
  Host.dotGeneral dot_S8x4096x4096_S8x4096x128_S8x4096x128_2_1_1_2_0_0 none w a

/-- Columns of weights with rows of features. -/
def colsBy (w : FVec Ideal S8x4096x4096 .f32) (a : FVec Ideal S8x4096x128 .f32) : FVec Ideal S8x4096x128 .f32 :=
  Host.dotGeneral dot_S8x4096x4096_S8x4096x128_S8x4096x128_1_1_2_2_0_0 none w a

def valuesBy (g : FVec Ideal S8x4096x128 .f32) (w : FVec Ideal S8x4096x4096 .f32) : FVec Ideal S8x4096x128 .f32 :=
  transpose S8x4096x128 [0, 2, 1] (Host.dotGeneral dot_S8x4096x128_S8x4096x4096_S8x128x4096_1_1_2_2_0_0 none g w) transposes_S8x128x4096_S8x4096x128_0_2_1

/-- One number for each column. -/
def colOut (s : FVec Ideal S8x4096x4096 .f32) : FVec Ideal S8x1x4096 .f32 :=
  broadcastInDim S8x1x4096 ![0, 2] bcast_S8x4096_S8x1x4096_0_2
    (Host.reduceAdd (shapeCast S8x1x4096 (colSum (Host.negf s)) shapeCasts_S8x4096_S8x1x4096) (constant S_ .f32 0x00000000#32) reducesTo_S8x1x4096_S8x4096_d1 h_S_)

def rowOut (s : FVec Ideal S8x4096x4096 .f32) : FVec Ideal S8x4096x1 .f32 := column (sumOne (upright (rowSum s)))

end Cert.AttnBwd.Host

end
-- ==== Proof.StagesAt.lean ====
module

public import proofs.«01_k».proof.Proof.Stages

@[expose] public section

set_option maxRecDepth 16384

noncomputable section

namespace Cert.AttnBwd.Host

open Cert.ReferenceIdeal Cert.ReferenceIdeal.Gen
open Idealize.ShloMosaic
open scoped BigOperators

theorem heads_at (a : FVec Ideal S4096x1024 .f32) (h : Fin 8) (r : Fin 4096) (d : Fin 128) :
    heads a (ix3 h r d) = a (ix2 r ⟨h.val * 128 + d.val, by omega⟩) := by
  pointwise [heads]

theorem flat_at (a : FVec Ideal S8x4096x128 .f32) (r : Fin 4096) (y : Fin 1024) :
    flat a (ix2 r y) = a (ix3 ⟨y.val / 128, by omega⟩ r ⟨y.val % 128, by omega⟩) := by
  pointwise [flat]

theorem colQ_at (a : FVec Ideal S4096x3072 .f32) (r : Fin 4096) (y : Fin 1024) : colQ a (ix2 r y) = a (ix2 r ⟨y.val, by omega⟩) := by
  pointwise [colQ]
theorem colK_at (a : FVec Ideal S4096x3072 .f32) (r : Fin 4096) (y : Fin 1024) : colK a (ix2 r y) = a (ix2 r ⟨1024 + y.val, by omega⟩) := by
  pointwise [colK]
theorem colV_at (a : FVec Ideal S4096x3072 .f32) (r : Fin 4096) (y : Fin 1024) : colV a (ix2 r y) = a (ix2 r ⟨2048 + y.val, by omega⟩) := by
  pointwise [colV]

theorem mask_at (h : Fin 8) (r c : Fin 4096) :
    mask (ix3 h r c) = IntOp.cmpi CmpIPredicate.sle (BitVec.ofNat 32 c.val) (BitVec.ofNat 32 r.val) := by
  pointwise [mask]

theorem dots_at (a b : FVec Ideal S8x4096x128 .f32) (h : Fin 8) (r c : Fin 4096) :
    dots a b (ix3 h r c) = ∑ d : Fin 128, a (ix3 h r d) * b (ix3 h c d) := by
  pointwise [dots]

theorem across_at (l : FVec Ideal S8x4096x1 .f32) (h : Fin 8) (r c : Fin 4096) : across l (ix3 h r c) = l (ix3 h r 0) := by
  pointwise [across]

theorem column_at (l : FVec Ideal S8x4096 .f32) (h : Fin 8) (r : Fin 4096) : column l (ix3 h r 0) = l (ix2 h r) := by
  pointwise [column]

theorem scores_at (q k : FVec Ideal S8x4096x128 .f32) (cum : FVec Ideal S8x4096 .f32) (h : Fin 8) (r c : Fin 4096) :
    scores q k cum (ix3 h r c) = Scalar.select (IntOp.cmpi CmpIPredicate.sle (BitVec.ofNat 32 c.val) (BitVec.ofNat 32 r.val))
      ((∑ d : Fin 128, q (ix3 h r d) * k (ix3 h c d)) * Ideal.ofBits FTy.f32 1035273459#32 + cum (ix2 h r) - cum (ix2 h c))
      (Ideal.ofBits FTy.f32 4286578688#32) := by
  pointwise [scores]
  rw [mask_at, dots_at, across_at, column_at]
  rfl

theorem largest_at (s : FVec Ideal S8x4096x4096 .f32) (h : Fin 8) (r : Fin 4096) :
    largest s (ix2 h r) = Finset.fold max (Ideal.ofBits FTy.f32 4286578688#32) (fun c => s (ix3 h r c)) Finset.univ := by
  pointwise [largest]

theorem larger_at (u t : FVec Ideal S8x4096 .f32) (h : Fin 8) (r : Fin 4096) : maximumf u t (ix2 h r) = max (u (ix2 h r)) (t (ix2 h r)) := rfl

theorem least_at (i : S8x4096.Idx) :
    broadcastInDim S8x4096 ![] bcast_S_S8x4096 (constant (F := Ideal) S_ .f32 0xFF800000#32) i = Ideal.ofBits FTy.f32 4286578688#32 := rfl

theorem largest'_at (s : FVec Ideal S8x4096x4096 .f32) (h : Fin 8) (r : Fin 4096) :
    largest' s (ix2 h r) = max (Ideal.ofBits FTy.f32 4286578688#32) (largest s (ix2 h r)) := by
  unfold largest'
  rw [larger_at, least_at]

theorem exps_at (s : FVec Ideal S8x4096x4096 .f32) (t : FVec Ideal S8x4096x1 .f32) (h : Fin 8) (r c : Fin 4096) :
    exps s t (ix3 h r c) = Ideal.exp (s (ix3 h r c) - t (ix3 h r 0)) := by
  pointwise [exps]
  rw [across_at]

theorem rowSum_at (e : FVec Ideal S8x4096x4096 .f32) (h : Fin 8) (r : Fin 4096) : rowSum e (ix2 h r) = ∑ c : Fin 4096, e (ix3 h r c) := by
  pointwise [rowSum]

theorem colSum_at (e : FVec Ideal S8x4096x4096 .f32) (h : Fin 8) (c : Fin 4096) : colSum e (ix2 h c) = ∑ r : Fin 4096, e (ix3 h r c) := by
  pointwise [colSum]

theorem upright_at (t : FVec Ideal S8x4096 .f32) (h : Fin 8) (r : Fin 4096) : upright t (ix3 h r 0) = t (ix2 h r) := by
  pointwise [upright]

theorem sumOne_at (t : FVec Ideal S8x4096x1 .f32) (h : Fin 8) (r : Fin 4096) : sumOne t (ix2 h r) = t (ix3 h r 0) := by
  pointwise [sumOne]
  exact Fin.sum_univ_one (fun x => t (ix3 h r x))

theorem weights_at (e : FVec Ideal S8x4096x4096 .f32) (l : FVec Ideal S8x4096x1 .f32) (h : Fin 8) (r c : Fin 4096) :
    weights e l (ix3 h r c) = Ideal.div (e (ix3 h r c)) (l (ix3 h r 0)) := by
  pointwise [weights]
  rw [across_at]

theorem invSq_at (l : FVec Ideal S8x4096x1 .f32) (h : Fin 8) (r : Fin 4096) :
    invSq l (ix3 h r 0) = Ideal.div (Ideal.ofBits FTy.f32 1065353216#32) (l (ix3 h r 0) * l (ix3 h r 0)) := by
  pointwise [invSq]

theorem sumCt_at (ct e : FVec Ideal S8x4096x4096 .f32) (l : FVec Ideal S8x4096x1 .f32) (h : Fin 8) (r : Fin 4096) :
    sumCt ct e l (ix2 h r) = -∑ c : Fin 4096, ct (ix3 h r c) * invSq l (ix3 h r 0) * e (ix3 h r c) := by
  unfold sumCt
  rw [sumOne_at]
  pointwise
  rw [upright_at, rowSum_at]
  refine congrArg _ (Finset.sum_congr rfl fun c _ => ?_)
  pointwise
  rw [across_at]

theorem dScores_at (ct e : FVec Ideal S8x4096x4096 .f32) (l : FVec Ideal S8x4096x1 .f32) (t : FVec Ideal S8x4096 .f32) (h : Fin 8) (r c : Fin 4096) :
    dScores ct e l t (ix3 h r c) = Scalar.select (IntOp.cmpi CmpIPredicate.sle (BitVec.ofNat 32 c.val) (BitVec.ofNat 32 r.val))
      ((Ideal.div (ct (ix3 h r c)) (l (ix3 h r 0)) + t (ix2 h r)) * e (ix3 h r c)) (Ideal.ofBits FTy.f32 0#32) := by
  pointwise [dScores]
  rw [mask_at, across_at]

theorem scaled_at (s : FVec Ideal S8x4096x4096 .f32) (h : Fin 8) (r c : Fin 4096) :
    scaled s (ix3 h r c) = s (ix3 h r c) * Ideal.ofBits FTy.f32 1035273459#32 := by
  pointwise [scaled]

theorem rowsBy_at (w : FVec Ideal S8x4096x4096 .f32) (a : FVec Ideal S8x4096x128 .f32) (h : Fin 8) (r : Fin 4096) (d : Fin 128) :
    rowsBy w a (ix3 h r d) = ∑ c : Fin 4096, w (ix3 h r c) * a (ix3 h c d) := by
  pointwise [rowsBy]

theorem colsBy_at (w : FVec Ideal S8x4096x4096 .f32) (a : FVec Ideal S8x4096x128 .f32) (h : Fin 8) (c : Fin 4096) (d : Fin 128) :
    colsBy w a (ix3 h c d) = ∑ r : Fin 4096, w (ix3 h r c) * a (ix3 h r d) := by
  pointwise [colsBy]

theorem valuesBy_at (g : FVec Ideal S8x4096x128 .f32) (w : FVec Ideal S8x4096x4096 .f32) (h : Fin 8) (c : Fin 4096) (d : Fin 128) :
    valuesBy g w (ix3 h c d) = ∑ r : Fin 4096, g (ix3 h r d) * w (ix3 h r c) := by
  pointwise [valuesBy]

theorem colOut_at (s : FVec Ideal S8x4096x4096 .f32) (h : Fin 8) (c : Fin 4096) : colOut s (ix3 h 0 c) = ∑ r : Fin 4096, -s (ix3 h r c) := by
  pointwise [colOut]
  rw [colSum_at]
  pointwise
  exact Fin.sum_univ_one (fun _ => ∑ r : Fin 4096, -s (ix3 h r c))

theorem rowOut_at (s : FVec Ideal S8x4096x4096 .f32) (h : Fin 8) (r : Fin 4096) : rowOut s (ix3 h r 0) = ∑ c : Fin 4096, s (ix3 h r c) := by
  unfold rowOut
  rw [column_at, sumOne_at, upright_at, rowSum_at]

end Cert.AttnBwd.Host

end
-- ==== Proof.RefVal.lean ====
module

public import proofs.«01_k».proof.Proof.Head
public import proofs.«01_k».proof.Proof.StagesAt
public import proofs.«01_k».proof.Proof.Gen.ReferenceIdeal.Run

@[expose] public section

set_option maxRecDepth 16384

noncomputable section

namespace Cert.AttnBwd.Host

open Cert.ReferenceIdeal Cert.ReferenceIdeal.Gen Cert.ReferenceIdeal.Value
open Idealize.ShloMosaic Idealize.ShloMosaic.TcCoe
open scoped BigOperators

theorem one_word : Ideal.ofBits FTy.f32 1065353216#32 = ((1 : ℝ) : EReal) := by
  have e : (8388608 : ℝ) * (2 ^ 23)⁻¹ = 1 := by norm_num
  simp [Ideal.ofBits, Ideal.ieee, -EReal.coe_mul, e]

section Terms

variable (a : FVec Ideal S4096x3072 .f32) (cum : FVec Ideal S8x4096 .f32) (g : FVec Ideal S4096x1024 .f32)

/-- The masked scores, their exponentials from the row's largest, the exponentials' sums, the weights' cotangents, and the scores'
gradients, of the arguments. -/
def rS : FVec Ideal S8x4096x4096 .f32 := scores (heads (colQ a)) (heads (colK a)) cum
def rE : FVec Ideal S8x4096x4096 .f32 := exps (rS a cum) (column (largest' (rS a cum)))
def rL : FVec Ideal S8x4096x1 .f32 := column (rowSum (rE a cum))
def rCt : FVec Ideal S8x4096x4096 .f32 := dots (heads g) (heads (colV a))
def rDs : FVec Ideal S8x4096x4096 .f32 := dScores (rCt a g) (rE a cum) (rL a cum) (sumCt (rCt a g) (rE a cum) (rL a cum))

/-! ## Finite arguments -/

variable (A : S4096x3072.Idx → ℝ) (C : S8x4096.Idx → ℝ) (G : S4096x1024.Idx → ℝ)

/-- Head `h` of finite arguments. -/
def headOf (h : Fin 8) : Head where
  Q r d := A (ix2 r ⟨h.val * 128 + d.val, by omega⟩)
  K r d := A (ix2 r ⟨1024 + (h.val * 128 + d.val), by omega⟩)
  V r d := A (ix2 r ⟨2048 + (h.val * 128 + d.val), by omega⟩)
  G r d := G (ix2 r ⟨h.val * 128 + d.val, by omega⟩)
  C r := C (ix2 h r)

variable {a cum g A C G}
variable (hA : ∀ i, a i = (A i : EReal)) (hC : ∀ i, cum i = (C i : EReal)) (hG : ∀ i, g i = (G i : EReal))

include hA in
theorem q_at (h : Fin 8) (r : Fin 4096) (d : Fin 128) : heads (colQ a) (ix3 h r d) = ((headOf A C G h).Q r d : EReal) := by
  rw [heads_at, colQ_at, hA]; rfl
include hA in
theorem k_at (h : Fin 8) (r : Fin 4096) (d : Fin 128) : heads (colK a) (ix3 h r d) = ((headOf A C G h).K r d : EReal) := by
  rw [heads_at, colK_at, hA]; rfl
include hA in
theorem v_at (h : Fin 8) (r : Fin 4096) (d : Fin 128) : heads (colV a) (ix3 h r d) = ((headOf A C G h).V r d : EReal) := by
  rw [heads_at, colV_at, hA]; rfl
include hG in
theorem g_at (h : Fin 8) (r : Fin 4096) (d : Fin 128) : heads g (ix3 h r d) = ((headOf A C G h).G r d : EReal) := by
  rw [heads_at, hG]; rfl

include hA hC in
theorem rS_at (h : Fin 8) (r c : Fin 4096) : rS a cum (ix3 h r c) = (headOf A C G h).s r c := by
  unfold rS
  rw [scores_at]
  simp only [q_at (C := C) (G := G) hA, k_at (C := C) (G := G) hA, hC]
  rfl

include hA hC in
theorem top_at (h : Fin 8) (r : Fin 4096) : largest (rS a cum) (ix2 h r) = (headOf A C G h).top r := by
  rw [largest_at]
  simp only [rS_at (G := G) hA hC]
  rfl

include hA hC in
theorem rE_at (h : Fin 8) (r c : Fin 4096) : rE a cum (ix3 h r c) = ((headOf A C G h).E r c : EReal) := by
  unfold rE
  rw [exps_at, column_at, largest'_at, top_at (G := G) hA hC, rS_at (G := G) hA hC, Head.ninf, max_bot_left, Head.exp_eq]

include hA hC in
theorem rL_at (h : Fin 8) (r : Fin 4096) : rL a cum (ix3 h r 0) = ((headOf A C G h).L r : EReal) := by
  unfold rL
  rw [column_at, rowSum_at]
  simp only [rE_at (G := G) hA hC, Head.coe_sum]
  rfl

include hA hG in
theorem rCt_at (h : Fin 8) (r c : Fin 4096) : rCt a g (ix3 h r c) = ((headOf A C G h).CT r c : EReal) := by
  unfold rCt
  rw [dots_at]
  simp only [g_at (A := A) (C := C) hG, v_at (C := C) (G := G) hA, ← EReal.coe_mul, Head.coe_sum]
  rfl

include hA hC hG in
theorem sumCt_val (h : Fin 8) (r : Fin 4096) :
    sumCt (rCt a g) (rE a cum) (rL a cum) (ix2 h r) = ((-∑ c, (headOf A C G h).CT r c * (1 / ((headOf A C G h).L r * (headOf A C G h).L r)) * (headOf A C G h).E r c : ℝ) : EReal) := by
  have hL := ((headOf A C G h).L_pos r).ne'
  rw [sumCt_at, invSq_at]
  simp only [rCt_at (C := C) hA hG, rE_at (G := G) hA hC, rL_at (G := G) hA hC, one_word, ← EReal.coe_mul]
  rw [Ideal.div_coe (mul_ne_zero hL hL), ← EReal.coe_mul, one_mul]
  simp only [← EReal.coe_mul, Head.coe_sum, ← EReal.coe_neg]

include hA hC hG in
/-- The scores' gradient. -/
theorem rDs_at (h : Fin 8) (r c : Fin 4096) : rDs a cum g (ix3 h r c) = ((headOf A C G h).DS r c : EReal) := by
  have hL := ((headOf A C G h).L_pos r).ne'
  unfold rDs
  rw [dScores_at, sumCt_val hA hC hG, rCt_at (C := C) hA hG, rE_at (G := G) hA hC, rL_at (G := G) hA hC, Ideal.div_coe hL,
    ← EReal.coe_mul, ← EReal.coe_add, ← EReal.coe_mul]
  unfold Scalar.select
  simp only [Head.seen_iff, Head.zero_word]
  unfold Head.DS
  by_cases hc : c ≤ r
  · rw [if_pos hc]
    congr 1
    simp only [← Head.E_div]
    have e : ∑ c', (headOf A C G h).CT r c' * (1 / ((headOf A C G h).L r * (headOf A C G h).L r)) * (headOf A C G h).E r c'
        = (∑ c', (headOf A C G h).E r c' / (headOf A C G h).L r * (headOf A C G h).CT r c') / (headOf A C G h).L r := by
      rw [Finset.sum_div]
      refine Finset.sum_congr rfl fun c' _ => ?_
      field_simp
    rw [e]
    field_simp
    ring
  · rw [if_neg hc, Head.W, if_neg hc, zero_mul, EReal.coe_zero]

end Terms

section Results

variable (m : (ℓ : Loc nD τ sig) → Buf (Elt Ideal) ℓ) (c : Dev nD)

abbrev arg0 : FVec Ideal S4096x3072 .f32 := m ((c.tc : Thread nD τ).loc main_arg0)
abbrev arg1 : FVec Ideal S8x4096 .f32 := m ((c.tc : Thread nD τ).loc main_arg1)
abbrev arg2 : FVec Ideal S4096x1024 .f32 := m ((c.tc : Thread nD τ).loc main_arg2)

theorem ref_q : res_out0 m c = flat (rowsBy (scaled (rDs (arg0 m c) (arg1 m c) (arg2 m c))) (heads (colK (arg0 m c)))) := by
  unfold res_out0 res_main_v90
  rfl
theorem ref_k : res_out1 m c = flat (colsBy (scaled (rDs (arg0 m c) (arg1 m c) (arg2 m c))) (heads (colQ (arg0 m c)))) := by
  unfold res_out1 res_main_v88
  rfl
theorem ref_v : res_out2 m c = flat (valuesBy (heads (arg2 m c)) (weights (rE (arg0 m c) (arg1 m c)) (rL (arg0 m c) (arg1 m c)))) := by
  unfold res_out2 res_main_v86
  rfl
theorem ref_cols : res_out3 m c = colOut (rDs (arg0 m c) (arg1 m c) (arg2 m c)) := by
  unfold res_out3 res_main_v91
  rfl
theorem ref_rows : res_out4 m c = rowOut (rDs (arg0 m c) (arg1 m c) (arg2 m c)) := by
  unfold res_out4 res_main_v92
  rfl

variable {m c} {A : S4096x3072.Idx → ℝ} {C : S8x4096.Idx → ℝ} {G : S4096x1024.Idx → ℝ}
variable (hA : ∀ i, arg0 m c i = (A i : EReal)) (hC : ∀ i, arg1 m c i = (C i : EReal)) (hG : ∀ i, arg2 m c i = (G i : EReal))

include hA hC hG

theorem ref_q_at (r : Fin 4096) (y : Fin 1024) :
    res_out0 m c (ix2 r y) = ((headOf A C G ⟨y.val / 128, by omega⟩).dQ r ⟨y.val % 128, by omega⟩ : EReal) := by
  rw [ref_q, flat_at, rowsBy_at]
  simp only [scaled_at, rDs_at hA hC hG, k_at (C := C) (G := G) hA]
  simp only [show Ideal.ofBits FTy.f32 1035273459#32 = (scR : EReal) from sc_eq, ← EReal.coe_mul, Head.coe_sum]
  rfl

theorem ref_k_at (r : Fin 4096) (y : Fin 1024) :
    res_out1 m c (ix2 r y) = ((headOf A C G ⟨y.val / 128, by omega⟩).dK r ⟨y.val % 128, by omega⟩ : EReal) := by
  rw [ref_k, flat_at, colsBy_at]
  simp only [scaled_at, rDs_at hA hC hG, q_at (C := C) (G := G) hA]
  simp only [show Ideal.ofBits FTy.f32 1035273459#32 = (scR : EReal) from sc_eq, ← EReal.coe_mul, Head.coe_sum]
  rfl

theorem ref_v_at (r : Fin 4096) (y : Fin 1024) :
    res_out2 m c (ix2 r y) = ((headOf A C G ⟨y.val / 128, by omega⟩).dV r ⟨y.val % 128, by omega⟩ : EReal) := by
  rw [ref_v, flat_at, valuesBy_at]
  simp only [weights_at, g_at (A := A) (C := C) hG, rE_at (G := G) hA hC, rL_at (G := G) hA hC]
  rw [Finset.sum_congr rfl fun r' _ => by
    rw [Ideal.div_coe ((headOf A C G ⟨y.val / 128, by omega⟩).L_pos r').ne', ← EReal.coe_mul, mul_one_div, Head.E_div, ← EReal.coe_mul, mul_comm]]
  rw [Head.coe_sum]
  rfl

theorem ref_cols_at (h : Fin 8) (r : Fin 4096) : res_out3 m c (ix3 h 0 r) = ((headOf A C G h).dCol r : EReal) := by
  rw [ref_cols, colOut_at]
  simp only [rDs_at hA hC hG, ← EReal.coe_neg, Head.coe_sum]
  rw [Finset.sum_neg_distrib]
  rfl

theorem ref_rows_at (h : Fin 8) (r : Fin 4096) : res_out4 m c (ix3 h r 0) = ((headOf A C G h).dRow r : EReal) := by
  rw [ref_rows, rowOut_at]
  simp only [rDs_at hA hC hG, Head.coe_sum]
  rfl

end Results

end Cert.AttnBwd.Host

end
-- ==== Proof.Entry.lean ====
module

public import proofs.«01_k».proof.Proof.RefVal
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.AttnBwd.Entry

open Cert.KernelIdeal Cert.KernelIdeal.Gen Cert.AttnBwd.Host
open Idealize.ShloMosaic Idealize.ShloMosaic.TcCoe
open scoped BigOperators

variable (m : (ℓ : Loc nD τ sig) → Buf (Elt Ideal) ℓ) (c : Dev nD)

abbrev arg0 : FVec Ideal S4096x3072 .f32 := m ((c.tc : Thread nD τ).loc main_arg0)
abbrev arg1 : FVec Ideal S8x4096 .f32 := m ((c.tc : Thread nD τ).loc main_arg1)
abbrev arg2 : FVec Ideal S4096x1024 .f32 := m ((c.tc : Thread nD τ).loc main_arg2)

/-- The rows' log-sums. -/
def logSum (s : FVec Ideal Cert.ReferenceIdeal.S8x4096x4096 .f32) : FVec Ideal Cert.ReferenceIdeal.S8x4096x1 .f32 :=
  addf (column (largest s)) (Host.log (column (rowSum (exps s (column (largest s))))))

theorem entry_lse : V m c main_v31 = logSum (rS (arg0 m c) (arg1 m c)) := by
  simp only [V, List.flatten_cons, List.flatten_nil, List.append_nil, StableHlo.after_append]
  entry_read
  rfl

theorem entry_out : V m c main_v67
    = flat (rowsBy (weights (rE (arg0 m c) (arg1 m c)) (rL (arg0 m c) (arg1 m c))) (heads (colV (arg0 m c)))) := by
  simp only [V, List.flatten_cons, List.flatten_nil, List.append_nil, StableHlo.after_append]
  entry_read
  rfl

theorem entry_qkv (i : S4096x3072.Idx) : (V m c main_v70 : FVec Ideal S4096x3072 .bf16) i = arg0 m c i := by
  simp only [V, List.flatten_cons, List.flatten_nil, List.append_nil, StableHlo.after_append]
  entry_read
  rfl

theorem entry_cq (h : Fin 8) (r : Fin 4096) : (V m c main_v68 : FVec Ideal S8x4096x1 .f32) (ix3 h r 0) = arg1 m c (ix2 h r) := by
  simp only [V, List.flatten_cons, List.flatten_nil, List.append_nil, StableHlo.after_append]
  entry_read
  pointwise

theorem entry_ck (h j : Fin 8) (b : Fin 512) :
    (V m c main_v69 : FVec Ideal S8x8x1x512 .f32) (ix4 h j 0 b) = arg1 m c (ix2 h ⟨512 * j.val + b.val, by omega⟩) := by
  simp only [V, List.flatten_cons, List.flatten_nil, List.append_nil, StableHlo.after_append]
  entry_read
  pointwise
  blk_ext

end Cert.AttnBwd.Entry

end
-- ==== Proof.Blocks.lean ====
module

public import proofs.«01_k».proof.Proof.Sums
public import proofs.«01_k».proof.Proof.Entry

@[expose] public section

set_option maxRecDepth 16384

noncomputable section

namespace Cert.AttnBwd.Host

open Cert.ReferenceIdeal Cert.ReferenceIdeal.Gen
open Idealize.ShloMosaic
open scoped BigOperators

variable {a : FVec Ideal S4096x3072 .f32} {cum : FVec Ideal S8x4096 .f32}
variable {A : S4096x3072.Idx → ℝ} {C : S8x4096.Idx → ℝ} (G : S4096x1024.Idx → ℝ)
variable (hA : ∀ i, a i = (A i : EReal)) (hC : ∀ i, cum i = (C i : EReal))

include hA hC in
/-- The forward output's columns. -/
theorem out_at (r : Fin 4096) (h : Fin 8) (d : Fin 128) :
    flat (rowsBy (weights (rE a cum) (rL a cum)) (heads (colV a))) (ix2 r ⟨h.val * 128 + d.val, by omega⟩)
      = ((∑ c, (headOf A C G h).W r c * (headOf A C G h).V c d : ℝ) : EReal) := by
  have e : (⟨(h.val * 128 + d.val) / 128, by omega⟩ : Fin 8) = h := Fin.ext (by show (h.val * 128 + d.val) / 128 = h.val; omega)
  have e' : (⟨(h.val * 128 + d.val) % 128, by omega⟩ : Fin 128) = d := Fin.ext (by show (h.val * 128 + d.val) % 128 = d.val; omega)
  rw [flat_at, e, e', rowsBy_at]
  simp only [weights_at, v_at (C := C) (G := G) hA, rE_at (G := G) hA hC, rL_at (G := G) hA hC,
    Ideal.div_coe ((headOf A C G h).L_pos r).ne', ← EReal.coe_mul, mul_one_div, Head.E_div, Head.coe_sum]

theorem plus_at (u v : FVec Ideal S8x4096x1 .f32) (h : Fin 8) (r : Fin 4096) : addf u v (ix3 h r 0) = u (ix3 h r 0) + v (ix3 h r 0) := rfl
theorem log_at (u : FVec Ideal S8x4096x1 .f32) (h : Fin 8) (r : Fin 4096) : Host.log u (ix3 h r 0) = Ideal.log (u (ix3 h r 0)) := rfl

include hA hC in
theorem lse_at (h : Fin 8) (r : Fin 4096) : Entry.logSum (rS a cum) (ix3 h r 0)
    = (((headOf A C G h).topR r + Real.log ((headOf A C G h).L r) : ℝ) : EReal) := by
  have hL : ¬ ∑ c, (headOf A C G h).E r c ≤ 0 := not_le.mpr ((headOf A C G h).L_pos r)
  unfold Entry.logSum
  rw [plus_at, log_at, column_at, column_at, rowSum_at, top_at (G := G) hA hC]
  simp only [exps_at, column_at, top_at (G := G) hA hC, rS_at (G := G) hA hC, Head.exp_eq, Head.coe_sum]
  rw [Ideal.log_coe, if_neg hL, Head.top_eq, ← EReal.coe_add, Head.L]

end Cert.AttnBwd.Host

namespace Cert.AttnBwd

open Cert.KernelIdeal Cert.KernelIdeal.Gen Cert.AttnBwd.Host
open Idealize.ShloMosaic Idealize.ShloMosaic.TcCoe
open scoped BigOperators

/-! ## Where the blocks lie -/

theorem ix_q : ∀ t : Fin cfg0.N, win0_0.index t = ![0, t.val / 8] := by decide +kernel
theorem ix_k : ∀ t : Fin cfg0.N, win0_1.index t = ![t.val % 8, 8 + t.val / 8] := by decide +kernel
theorem ix_v : ∀ t : Fin cfg0.N, win0_2.index t = ![t.val % 8, 16 + t.val / 8] := by decide +kernel
theorem ix_cq : ∀ t : Fin cfg0.N, win0_3.index t = ![t.val / 8, 0, 0] := by decide +kernel
theorem ix_ck : ∀ t : Fin cfg0.N, win0_4.index t = ![t.val / 8, t.val % 8, 0, 0] := by decide +kernel
theorem ix_lse : ∀ t : Fin cfg0.N, win0_5.index t = ![t.val / 8, 0, 0] := by decide +kernel
theorem ix_o : ∀ t : Fin cfg0.N, win0_6.index t = ![0, t.val / 8] := by decide +kernel
theorem ix_g : ∀ t : Fin cfg0.N, win0_7.index t = ![0, t.val / 8] := by decide +kernel

theorem pt_val {h j : ℕ} (hh : h < 8) (hj : j < 8) : (pt h j).val = 8 * h + j := Nat.mod_eq_of_lt (by omega)
theorem pt_div {h j : ℕ} (hh : h < 8) (hj : j < 8) : (pt h j).val / 8 = h := by rw [pt_val hh hj]; omega
theorem pt_mod {h j : ℕ} (hh : h < 8) (hj : j < 8) : (pt h j).val % 8 = j := by rw [pt_val hh hj]; omega

variable {h j : ℕ} (hh : h < 8) (hj : j < 8)

include hh hj

theorem read_q (X : FVec Ideal S4096x3072 .bf16) (r : Fin 4096) (d : Fin 128) : ((cfg0.win 0).blk (pt h j)).view.read (Elt Ideal) X (ix2 r d) = X (ix2 r ⟨h * 128 + d.val, by omega⟩) := by
  have e := pt_div hh hj
  blk_ext [ix_q (pt h j)]
theorem read_k (X : FVec Ideal S4096x3072 .bf16) (b : Fin 512) (d : Fin 128) : ((cfg0.win 1).blk (pt h j)).view.read (Elt Ideal) X (ix2 b d) = X (ix2 (row j b) ⟨1024 + (h * 128 + d.val), by omega⟩) := by
  have e := pt_div hh hj
  have e' := pt_mod hh hj
  have er := row_val' hj b
  blk_ext [ix_k (pt h j)]
theorem read_v (X : FVec Ideal S4096x3072 .bf16) (b : Fin 512) (d : Fin 128) : ((cfg0.win 2).blk (pt h j)).view.read (Elt Ideal) X (ix2 b d) = X (ix2 (row j b) ⟨2048 + (h * 128 + d.val), by omega⟩) := by
  have e := pt_div hh hj
  have e' := pt_mod hh hj
  have er := row_val' hj b
  blk_ext [ix_v (pt h j)]
theorem read_cq (X : FVec Ideal S8x4096x1 .f32) (r : Fin 4096) : ((cfg0.win 3).blk (pt h j)).view.read (Elt Ideal) X (ix3 0 r 0) = X (ix3 ⟨h, hh⟩ r 0) := by
  have e := pt_div hh hj
  blk_ext [ix_cq (pt h j)]
theorem read_ck (X : FVec Ideal S8x8x1x512 .f32) (b : Fin 512) : ((cfg0.win 4).blk (pt h j)).view.read (Elt Ideal) X (ix4 0 0 0 b) = X (ix4 ⟨h, hh⟩ ⟨j, hj⟩ 0 b) := by
  have e := pt_div hh hj
  have e' := pt_mod hh hj
  blk_ext [ix_ck (pt h j)]
theorem read_lse (X : FVec Ideal S8x4096x1 .f32) (r : Fin 4096) : ((cfg0.win 5).blk (pt h j)).view.read (Elt Ideal) X (ix3 0 r 0) = X (ix3 ⟨h, hh⟩ r 0) := by
  have e := pt_div hh hj
  blk_ext [ix_lse (pt h j)]
theorem read_o (X : FVec Ideal S4096x1024 .f32) (r : Fin 4096) (d : Fin 128) : ((cfg0.win 6).blk (pt h j)).view.read (Elt Ideal) X (ix2 r d) = X (ix2 r ⟨h * 128 + d.val, by omega⟩) := by
  have e := pt_div hh hj
  blk_ext [ix_o (pt h j)]
theorem read_g (X : FVec Ideal S4096x1024 .f32) (r : Fin 4096) (d : Fin 128) : ((cfg0.win 7).blk (pt h j)).view.read (Elt Ideal) X (ix2 r d) = X (ix2 r ⟨h * 128 + d.val, by omega⟩) := by
  have e := pt_div hh hj
  blk_ext [ix_g (pt h j)]

variable {m : (ℓ : Loc nD τ sig) → Buf (Elt Ideal) ℓ} {c : Dev nD}

theorem blk_q (r : Fin 4096) (d : Fin 128) : (blk m c (pt h j)).q (ix2 r d) = (V m c main_v70 : FVec Ideal S4096x3072 .bf16) (ix2 r ⟨h * 128 + d.val, by omega⟩) := read_q hh hj (V m c main_v70) r d
theorem blk_k (b : Fin 512) (d : Fin 128) : (blk m c (pt h j)).k (ix2 b d) = (V m c main_v70 : FVec Ideal S4096x3072 .bf16) (ix2 (row j b) ⟨1024 + (h * 128 + d.val), by omega⟩) := read_k hh hj (V m c main_v70) b d
theorem blk_v (b : Fin 512) (d : Fin 128) : (blk m c (pt h j)).v (ix2 b d) = (V m c main_v70 : FVec Ideal S4096x3072 .bf16) (ix2 (row j b) ⟨2048 + (h * 128 + d.val), by omega⟩) := read_v hh hj (V m c main_v70) b d
theorem blk_cq (r : Fin 4096) : (blk m c (pt h j)).cq (ix3 0 r 0) = (V m c main_v68 : FVec Ideal S8x4096x1 .f32) (ix3 ⟨h, hh⟩ r 0) := read_cq hh hj (V m c main_v68) r
theorem blk_ck (b : Fin 512) : (blk m c (pt h j)).ck (ix4 0 0 0 b) = (V m c main_v69 : FVec Ideal S8x8x1x512 .f32) (ix4 ⟨h, hh⟩ ⟨j, hj⟩ 0 b) := read_ck hh hj (V m c main_v69) b
theorem blk_lse (r : Fin 4096) : (blk m c (pt h j)).lse (ix3 0 r 0) = (V m c main_v31 : FVec Ideal S8x4096x1 .f32) (ix3 ⟨h, hh⟩ r 0) := read_lse hh hj (V m c main_v31) r
theorem blk_o (r : Fin 4096) (d : Fin 128) : (blk m c (pt h j)).o (ix2 r d) = (V m c main_v67 : FVec Ideal S4096x1024 .f32) (ix2 r ⟨h * 128 + d.val, by omega⟩) := read_o hh hj (V m c main_v67) r d
theorem blk_g (r : Fin 4096) (d : Fin 128) : (blk m c (pt h j)).g (ix2 r d) = (V m c main_arg2 : FVec Ideal S4096x1024 .f32) (ix2 r ⟨h * 128 + d.val, by omega⟩) := read_g hh hj (V m c main_arg2) r d

variable {A : S4096x3072.Idx → ℝ} {C : S8x4096.Idx → ℝ} {G : S4096x1024.Idx → ℝ}
variable (hA : ∀ i, Entry.arg0 m c i = (A i : EReal)) (hC : ∀ i, Entry.arg1 m c i = (C i : EReal)) (hG : ∀ i, Entry.arg2 m c i = (G i : EReal))

include hA hC hG in
/-- The blocks a point reads are its head's arrays. -/
theorem holds : Holds (blk m c (pt h j)) (headOf A C G ⟨h, hh⟩) j where
  q r d := by rw [blk_q hh hj, Entry.entry_qkv, hA]; rfl
  k b d := by rw [blk_k hh hj, Entry.entry_qkv, hA]; rfl
  v b d := by rw [blk_v hh hj, Entry.entry_qkv, hA]; rfl
  cq r := by rw [blk_cq hh hj, Entry.entry_cq, hC]; rfl
  ck b := by
    rw [blk_ck hh hj, Entry.entry_ck, hC]
    show _ = ((C (ix2 ⟨h, hh⟩ (row j b)) : ℝ) : EReal)
    congr 3
    exact Fin.ext (row_val' hj b).symm
  lse r := by rw [blk_lse hh hj, Entry.entry_lse, lse_at G hA hC]
  o r d := by rw [blk_o hh hj, Entry.entry_out]; exact out_at G hA hC r ⟨h, hh⟩ d
  g r d := by rw [blk_g hh hj, V_main_arg2]; exact hG _

end Cert.AttnBwd

end
-- ==== Proof.Final.lean ====
module

public import proofs.«01_k».proof.Proof.Blocks

@[expose] public section

set_option maxRecDepth 16384

noncomputable section

namespace Cert.AttnBwd

open Cert.KernelIdeal Cert.KernelIdeal.Gen Cert.AttnBwd.Host
open Idealize.ShloMosaic Idealize.ShloMosaic.TcCoe
open scoped BigOperators

section Out

variable (A : S4096x3072.Idx → ℝ) (C : S8x4096.Idx → ℝ) (G : S4096x1024.Idx → ℝ)

/-- The head and the feature of a column. -/
def headIx (y : Fin 1024) : Fin 8 := ⟨y.val / 128, by omega⟩
def featIx (y : Fin 1024) : Fin 128 := ⟨y.val % 128, by omega⟩

/-- The five gradients over the reals, as arrays. -/
def outQ : FVec Ideal S4096x1024 .f32 := fun z => ((headOf A C G (headIx (z 1))).dQ (z 0) (featIx (z 1)) : EReal)
def outK : FVec Ideal S4096x1024 .f32 := fun z => ((headOf A C G (headIx (z 1))).dK (z 0) (featIx (z 1)) : EReal)
def outV : FVec Ideal S4096x1024 .f32 := fun z => ((headOf A C G (headIx (z 1))).dV (z 0) (featIx (z 1)) : EReal)
def outCol : FVec Ideal S8x1x4096 .f32 := fun z => ((headOf A C G (z 0)).dCol (z 2) : EReal)
def outRow : FVec Ideal S8x4096x1 .f32 := fun z => ((headOf A C G (z 0)).dRow (z 1) : EReal)

variable {A C G}

theorem ix_of (z : S4096x1024.Idx) {h : Fin 8} {r : Fin 4096} {d : Fin 128} (h0 : (z 0).val = r.val) (h1 : (z 1).val = h.val * 128 + d.val) :
    z 0 = r ∧ headIx (z 1) = h ∧ featIx (z 1) = d :=
  ⟨Fin.ext h0, Fin.ext (by show (z 1).val / 128 = h.val; omega), Fin.ext (by show (z 1).val % 128 = d.val; omega)⟩

theorem outQ_of (z : S4096x1024.Idx) {h : Fin 8} {r : Fin 4096} {d : Fin 128} (h0 : (z 0).val = r.val) (h1 : (z 1).val = h.val * 128 + d.val) :
    outQ A C G z = ((headOf A C G h).dQ r d : EReal) := by
  obtain ⟨e0, e1, e2⟩ := ix_of z h0 h1
  unfold outQ
  rw [e0, e1, e2]
theorem outK_of (z : S4096x1024.Idx) {h : Fin 8} {r : Fin 4096} {d : Fin 128} (h0 : (z 0).val = r.val) (h1 : (z 1).val = h.val * 128 + d.val) :
    outK A C G z = ((headOf A C G h).dK r d : EReal) := by
  obtain ⟨e0, e1, e2⟩ := ix_of z h0 h1
  unfold outK
  rw [e0, e1, e2]
theorem outV_of (z : S4096x1024.Idx) {h : Fin 8} {r : Fin 4096} {d : Fin 128} (h0 : (z 0).val = r.val) (h1 : (z 1).val = h.val * 128 + d.val) :
    outV A C G z = ((headOf A C G h).dV r d : EReal) := by
  obtain ⟨e0, e1, e2⟩ := ix_of z h0 h1
  unfold outV
  rw [e0, e1, e2]
theorem outCol_of (z : S8x1x4096.Idx) {h : Fin 8} {r : Fin 4096} (h0 : (z 0).val = h.val) (h1 : (z 2).val = r.val) :
    outCol A C G z = ((headOf A C G h).dCol r : EReal) := by
  unfold outCol
  rw [show z 0 = h from Fin.ext h0, show z 2 = r from Fin.ext h1]
theorem outRow_of (z : S8x4096x1.Idx) {h : Fin 8} {r : Fin 4096} (h0 : (z 0).val = h.val) (h1 : (z 1).val = r.val) :
    outRow A C G z = ((headOf A C G h).dRow r : EReal) := by
  unfold outRow
  rw [show z 0 = h from Fin.ext h0, show z 1 = r from Fin.ext h1]

end Out

/-! ## The arrays after the run -/

theorem ix_dq : ∀ t : Fin cfg0.N, win0_8.index t = ![0, t.val / 8] := by decide +kernel
theorem ix_dk : ∀ t : Fin cfg0.N, win0_9.index t = ![t.val % 8, t.val / 8] := by decide +kernel
theorem ix_dv : ∀ t : Fin cfg0.N, win0_10.index t = ![t.val % 8, t.val / 8] := by decide +kernel
theorem ix_dc : ∀ t : Fin cfg0.N, win0_11.index t = ![t.val / 8, 0, t.val % 8] := by decide +kernel
theorem ix_dr : ∀ t : Fin cfg0.N, win0_12.index t = ![t.val / 8, 0, 0] := by decide +kernel

variable {m : (ℓ : Loc nD τ sig) → Buf (Elt Ideal) ℓ} {c : Dev nD}
variable {A : S4096x3072.Idx → ℝ} {C : S8x4096.Idx → ℝ} {G : S4096x1024.Idx → ℝ}
variable (hA : ∀ i, Entry.arg0 m c i = (A i : EReal)) (hC : ∀ i, Entry.arg1 m c i = (C i : EReal)) (hG : ∀ i, Entry.arg2 m c i = (G i : EReal))

include hA hC hG

theorem holds_at (t : Fin cfg0.N) : Holds (blk m c t) (headOf A C G ⟨t.val / 8, by have := lt64 t; omega⟩) (t.val % 8) := by
  have := lt64 t
  have h := holds (m := m) (c := c) (h := t.val / 8) (j := t.val % 8) (by omega) (by omega) hA hC hG
  rwa [pt_eq] at h

theorem holds_all (t : Fin cfg0.N) : ∀ j < 8, Holds (headBlk m c (t.val / 8) j) (headOf A C G ⟨t.val / 8, by have := lt64 t; omega⟩) j :=
  fun j hj => holds (m := m) (c := c) (by have := lt64 t; omega) hj hA hC hG

theorem final_dq : (dats m 0 c).arrAt 8 cfg0.N = outQ A C G := by
  refine (dats m 0 c).arrAt_eq_of_covers 8 _ (by decide +kernel) fun t hf y => ?_
  have h7 := (flush0_8 t).mp hf
  have ht := lt64 t
  rw [left8, h7]
  idx_vars y
  refine (dq_eq (holds_all hA hC hG t) y0 y1).trans (outQ_of _ ?_ ?_).symm <;> blk_simp [ix_dq t]

theorem final_dk : (dats m 0 c).arrAt 9 cfg0.N = outK A C G := by
  refine (dats m 0 c).arrAt_eq_of_covers 9 _ (by decide +kernel) fun t hf y => ?_
  have ht := lt64 t
  rw [left9]
  idx_vars y
  have e := row_val' (n := t.val % 8) (by omega) y0
  refine (dk_eq (holds_at hA hC hG t) (by omega) y0 y1).trans (outK_of _ ?_ ?_).symm <;> blk_simp [ix_dk t]
  omega

theorem final_dv : (dats m 0 c).arrAt 10 cfg0.N = outV A C G := by
  refine (dats m 0 c).arrAt_eq_of_covers 10 _ (by decide +kernel) fun t hf y => ?_
  have ht := lt64 t
  rw [left10]
  idx_vars y
  have e := row_val' (n := t.val % 8) (by omega) y0
  refine (dv_eq (holds_at hA hC hG t) (by omega) y0 y1).trans (outV_of _ ?_ ?_).symm <;> blk_simp [ix_dv t]
  omega

theorem final_dc : (dats m 0 c).arrAt 11 cfg0.N = outCol A C G := by
  refine (dats m 0 c).arrAt_eq_of_covers 11 _ (by decide +kernel) fun t hf y => ?_
  have ht := lt64 t
  rw [left11]
  idx_vars y
  obtain rfl : y0 = 0 := Subsingleton.elim _ _
  obtain rfl : y1 = 0 := Subsingleton.elim _ _
  have e := row_val' (n := t.val % 8) (by omega) y2
  refine (dc_eq (holds_at hA hC hG t) (by omega) y2).trans (outCol_of _ ?_ ?_).symm <;> blk_simp [ix_dc t]
  · rfl
  · omega

theorem final_dr : (dats m 0 c).arrAt 12 cfg0.N = outRow A C G := by
  refine (dats m 0 c).arrAt_eq_of_covers 12 _ (by decide +kernel) fun t hf y => ?_
  have h7 := (flush0_12 t).mp hf
  have ht := lt64 t
  rw [left12, h7]
  idx_vars y
  obtain rfl : y0 = 0 := Subsingleton.elim _ _
  obtain rfl : y2 = 0 := Subsingleton.elim _ _
  refine (dr_eq (holds_all hA hC hG t) y1).trans (outRow_of _ ?_ ?_).symm <;> blk_simp [ix_dr t]
  rfl

end Cert.AttnBwd

end
-- ==== Proof.Alg.lean ====
module

public import proofs.«01_k».proof.Defs
public import proofs.«01_k».proof.Proof.Final
public import Idealize.ShloMosaic.Lib.Claim
public import proofs.«01_k».proof.Proof.Gen.ReferenceIdeal.Run

@[expose] public section

set_option maxRecDepth 16384

noncomputable section

namespace Cert.AttnBwd

open Idealize.ShloMosaic Idealize.ShloMosaic.TcCoe Idealize.SL.Sem
open Cert.AttnBwd.Host

/-! ## What the precondition says -/

theorem inf_word : Ideal.ofBits FTy.f32 2139095040#32 = ⊤ := by simp [Ideal.ofBits, Ideal.ieee]

theorem real_of_lt {x : EReal} (h : Ideal.cmp .olt (max x (-x)) ⊤ = 1#1) : x = (x.toReal : EReal) := by
  have h' : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) (fun e => ?_)).symm
  · rw [e] at h'
    exact absurd h' (by simp)
  · rw [e] at h'
    exact absurd h' (by simp)

theorem preFacts : Cert.Pre_finite.Facts := ⟨by decide, by decide, by decide⟩

section Real

variable [Cert.Pre_finite.Facts] (a : FVec Ideal Cert.Pre_finite.S4096x3072 .f32) (b : FVec Ideal Cert.Pre_finite.S8x4096 .f32) (g : FVec Ideal Cert.Pre_finite.S4096x1024 .f32)

theorem real0 (h : (Cert.Pre_finite.fn a b g).1 = fun _ => 1#1) (i : Cert.Pre_finite.S4096x3072.Idx) : a i = ((a i).toReal : EReal) := by
  have e : Ideal.cmp .olt (max (a i) (-(a i))) (Ideal.ofBits FTy.f32 2139095040#32) = 1#1 := congrFun h i
  rw [inf_word] at e
  exact real_of_lt e
theorem real1 (h : (Cert.Pre_finite.fn a b g).2.1 = fun _ => 1#1) (i : Cert.Pre_finite.S8x4096.Idx) : b i = ((b i).toReal : EReal) := by
  have e : Ideal.cmp .olt (max (b i) (-(b i))) (Ideal.ofBits FTy.f32 2139095040#32) = 1#1 := congrFun h i
  rw [inf_word] at e
  exact real_of_lt e
theorem real2 (h : (Cert.Pre_finite.fn a b g).2.2 = fun _ => 1#1) (i : Cert.Pre_finite.S4096x1024.Idx) : g i = ((g i).toReal : EReal) := by
  have e : Ideal.cmp .olt (max (g i) (-(g i))) (Ideal.ofBits FTy.f32 2139095040#32) = 1#1 := congrFun h i
  rw [inf_word] at e
  exact real_of_lt e

end Real

theorem ref_outs {m : (ℓ : Loc Cert.ReferenceIdeal.nD Cert.ReferenceIdeal.τ Cert.ReferenceIdeal.sig) → Buf (Elt Ideal) ℓ} {c : Dev Cert.ReferenceIdeal.nD}
    {A : Cert.ReferenceIdeal.S4096x3072.Idx → ℝ} {C : Cert.ReferenceIdeal.S8x4096.Idx → ℝ} {G : Cert.ReferenceIdeal.S4096x1024.Idx → ℝ}
    (hA : ∀ i, Host.arg0 m c i = (A i : EReal)) (hC : ∀ i, Host.arg1 m c i = (C i : EReal)) (hG : ∀ i, Host.arg2 m c i = (G i : EReal)) :
    Cert.ReferenceIdeal.Value.res_out0 m c = outQ A C G ∧ Cert.ReferenceIdeal.Value.res_out1 m c = outK A C G ∧ Cert.ReferenceIdeal.Value.res_out2 m c = outV A C G
    ∧ Cert.ReferenceIdeal.Value.res_out3 m c = outCol A C G ∧ Cert.ReferenceIdeal.Value.res_out4 m c = outRow A C G := by
  refine ⟨?_, ?_, ?_, ?_, ?_⟩ <;> funext y <;> idx_vars y
  · exact ref_q_at hA hC hG y0 y1
  · exact ref_k_at hA hC hG y0 y1
  · exact ref_v_at hA hC hG y0 y1
  · obtain rfl : y1 = 0 := Subsingleton.elim _ _
    exact ref_cols_at hA hC hG y0 y2
  · obtain rfl : y2 = 0 := Subsingleton.elim _ _
    exact ref_rows_at hA hC hG y0 y1

/-! ## The kernel's run and the reference's -/

section Left

open Cert.KernelIdeal Cert.KernelIdeal.Gen

variable {m : (ℓ : Loc nD τ sig) → Buf (Elt Ideal) ℓ} {r : PUnit × MemSt nD τ sig (Elt Ideal)} (h : Pipeline.FramePost cfgs (dats m) 0 (V m) r) (c : Dev nD)
variable {A : S4096x3072.Idx → ℝ} {C : S8x4096.Idx → ℝ} {G : S4096x1024.Idx → ℝ}
variable (hA : ∀ i, Entry.arg0 m c i = (A i : EReal)) (hC : ∀ i, Entry.arg1 m c i = (C i : EReal)) (hG : ∀ i, Entry.arg2 m c i = (G i : EReal))

include h hA hC hG

theorem left_dq : r.2.mem ((c.tc : Thread nD τ).loc main_v71_0) = outQ A C G := by
  have e := (h c).1 8
  rw [final_dq hA hC hG] at e
  exact e
theorem left_dk : r.2.mem ((c.tc : Thread nD τ).loc main_v71_1) = outK A C G := by
  have e := (h c).1 9
  rw [final_dk hA hC hG] at e
  exact e
theorem left_dv : r.2.mem ((c.tc : Thread nD τ).loc main_v71_2) = outV A C G := by
  have e := (h c).1 10
  rw [final_dv hA hC hG] at e
  exact e
theorem left_dc : r.2.mem ((c.tc : Thread nD τ).loc main_v71_3) = outCol A C G := by
  have e := (h c).1 11
  rw [final_dc hA hC hG] at e
  exact e
theorem left_dr : r.2.mem ((c.tc : Thread nD τ).loc main_v71_4) = outRow A C G := by
  have e := (h c).1 12
  rw [final_dr hA hC hG] at e
  exact e

end Left

theorem run_values {m : (ℓ : Loc Cert.KernelIdeal.nD Cert.KernelIdeal.τ Cert.KernelIdeal.sig) → Buf (Elt Ideal) ℓ} (ρ : Dev Cert.KernelIdeal.nD → PrngReg)
    {A : Dev Cert.KernelIdeal.nD → Cert.KernelIdeal.S4096x3072.Idx → ℝ} {C : Dev Cert.KernelIdeal.nD → Cert.KernelIdeal.S8x4096.Idx → ℝ} {G : Dev Cert.KernelIdeal.nD → Cert.KernelIdeal.S4096x1024.Idx → ℝ}
    (hA : ∀ c i, Entry.arg0 m c i = (A c i : EReal)) (hC : ∀ c i, Entry.arg1 m c i = (C c i : EReal)) (hG : ∀ c i, Entry.arg2 m c i = (G c i : EReal)) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v71_0) = outQ (A c) (C c) (G c)
      ∧ r.2.mem ((c.tc : Thread Cert.KernelIdeal.nD Cert.KernelIdeal.τ).loc Cert.KernelIdeal.main_v71_1) = outK (A c) (C c) (G c)
      ∧ r.2.mem ((c.tc : Thread Cert.KernelIdeal.nD Cert.KernelIdeal.τ).loc Cert.KernelIdeal.main_v71_2) = outV (A c) (C c) (G c)
      ∧ r.2.mem ((c.tc : Thread Cert.KernelIdeal.nD Cert.KernelIdeal.τ).loc Cert.KernelIdeal.main_v71_3) = outCol (A c) (C c) (G c)
      ∧ r.2.mem ((c.tc : Thread Cert.KernelIdeal.nD Cert.KernelIdeal.τ).loc Cert.KernelIdeal.main_v71_4) = outRow (A c) (C c) (G c)) :=
  (θ_run Cert.KernelIdeal.defs _ _).mono (fun _ h c => ⟨left_dq h c (hA c) (hC c) (hG c), left_dk h c (hA c) (hC c) (hG c), left_dv h c (hA c) (hC c) (hG c),
    left_dc h c (hA c) (hC c) (hG c), left_dr h c (hA c) (hC c) (hG c)⟩) (run_main m ρ)

theorem algebraic : Cert.algebraic_KernelIdeal_ReferenceIdeal_pre_finite (hKernelIdeal := Cert.KernelIdeal.Gen.facts) (hReferenceIdeal := Cert.ReferenceIdeal.Gen.facts) (hPre_finite := preFacts) := by
  intro m ρ m' ρ' hpre hargs
  let A := fun (c : Dev Cert.KernelIdeal.nD) (i : Cert.KernelIdeal.S4096x3072.Idx) => (Entry.arg0 m c i).toReal
  let C := fun (c : Dev Cert.KernelIdeal.nD) (i : Cert.KernelIdeal.S8x4096.Idx) => (Entry.arg1 m c i).toReal
  let G := fun (c : Dev Cert.KernelIdeal.nD) (i : Cert.KernelIdeal.S4096x1024.Idx) => (Entry.arg2 m c i).toReal
  have hA : ∀ c i, Entry.arg0 m c i = (A c i : EReal) := fun c i => letI := preFacts; real0 _ _ _ (hpre c).1 i
  have hC : ∀ c i, Entry.arg1 m c i = (C c i : EReal) := fun c i => letI := preFacts; real1 _ _ _ (hpre c).2.1 i
  have hG : ∀ c i, Entry.arg2 m c i = (G c i : EReal) := fun c i => letI := preFacts; real2 _ _ _ (hpre c).2.2 i
  refine ⟨fun c => outQ (A c) (C c) (G c), fun c => outK (A c) (C c) (G c), fun c => outV (A c) (C c) (G c), fun c => outCol (A c) (C c) (G c), fun c => outRow (A c) (C c) (G c), ?_, ?_⟩
  · exact (θ_run Cert.KernelIdeal.defs _ _).mono (fun _ h c => ⟨(h.1 c).1, (h.1 c).2.1, (h.1 c).2.2.1, (h.1 c).2.2.2.1, (h.1 c).2.2.2.2, (h.2.1 c).1, (h.2.1 c).2.1, (h.2.1 c).2.2⟩)
      (θ_run_and (run_values ρ hA hC hG) (frame_ideal m ρ))
  · refine (θ_run Cert.ReferenceIdeal.defs _ _).mono (fun _ h c => ?_) (Cert.ReferenceIdeal.Value.run (F := Ideal) m' ρ')
    have O := ref_outs (m := m') (c := c) (A := A c) (C := C c) (G := G c)
      (fun i => (congrFun (hargs c).1 i).trans (hA c i)) (fun i => (congrFun (hargs c).2.1 i).trans (hC c i)) (fun i => (congrFun (hargs c).2.2 i).trans (hG c i))
    obtain ⟨h0, h1, h2, h3, h4, h5⟩ := h c
    exact ⟨h0.trans O.1, h1.trans O.2.1, h2.trans O.2.2.1, h3.trans O.2.2.2.1, h4.trans O.2.2.2.2, h5⟩

end Cert.AttnBwd

end
-- ==== Proof.Dwout.lean ====
/- The gradient of a feed-forward half's output weight, one block of columns and rows per grid point, is that of
   `0.5 * (act @ w)`: over the extended reals a nonnegative finite factor passes through the sum. -/
module

public import proofs.«01_k».proof.Defs
public import proofs.«01_k».proof.Proof.Gen.Kernel5Ideal.Value
public import proofs.«01_k».proof.Proof.Gen.Reference5Ideal.Run
public import Idealize.ShloMosaic.Lib.Claim
public import Idealize.ShloMosaic.Lib.Pipeline.ValueKit

@[expose] public section

set_option maxRecDepth 16384

noncomputable section

namespace Cert.Dwout

open Idealize.ShloMosaic Idealize.ShloMosaic.TcCoe Idealize.SL.Sem
open scoped BigOperators

theorem half_word : Ideal.ofBits FTy.f32 0x3F000000#32 = ((1 / 2 : ℝ) : EReal) := by
  have e : (8388608 : ℝ) * (2 ^ 24)⁻¹ = 1 / 2 := by norm_num
  simp only [← e, EReal.coe_mul]
  simp [Ideal.ofBits, Ideal.ieee]

/-- A nonnegative finite factor passes through a finite sum of extended reals. -/
theorem sum_scale {ι : Type} (s : Finset ι) (f : ι → EReal) {r : ℝ} (h : 0 ≤ r) : (∑ i ∈ s, f i) * (r : EReal) = ∑ i ∈ s, f i * (r : EReal) := by
  classical
  induction s using Finset.induction_on with
  | empty => simp
  | insert a s ha ih => rw [Finset.sum_insert ha, Finset.sum_insert ha, ← ih, EReal.right_distrib_of_nonneg_of_ne_top (by exact_mod_cast h) (EReal.coe_ne_top r)]

section Left

open Cert.Kernel5Ideal Cert.Kernel5Ideal.Gen

/-- The gradient at a row and a column. -/
def grad (a : FVec Ideal S4096x5632 .bf16) (g : FVec Ideal S4096x2048 .bf16) : FVec Ideal S5632x2048 .bf16 := fun z =>
  ∑ t : Fin 4096, a (ix2 t (z 0)) * g (ix2 t (z 1)) * ((1 / 2 : ℝ) : EReal)

theorem pay_at (v0 : FVec Ideal S4096x512 .bf16) (v1 : FVec Ideal S4096x1024 .bf16) (p : Fin 512) (q : Fin 1024) :
    k0_pay1 v0 v1 (ix2 p q) = ∑ t : Fin 4096, v0 (ix2 t p) * v1 (ix2 t q) * ((1 / 2 : ℝ) : EReal) := by
  unfold k0_pay1
  pointwise
  rw [half_word, sum_scale _ _ (by norm_num)]

variable (m : (ℓ : Loc nD τ sig) → Buf (Elt Ideal) ℓ) (c : Dev nD)

theorem ix_a : ∀ t : Fin cfg0.N, win0_0.index t = ![0, t.val / 2] := by decide +kernel
theorem ix_g : ∀ t : Fin cfg0.N, win0_1.index t = ![0, t.val % 2] := by decide +kernel
theorem ix_o : ∀ t : Fin cfg0.N, win0_2.index t = ![t.val / 2, t.val % 2] := by decide +kernel

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  rw [after0_2]
  idx_vars y
  frame_out
  refine (pay_at _ _ y0 y1).trans ?_
  unfold grad
  refine Finset.sum_congr rfl fun k _ => ?_
  blk_point [iblk, V, ix_a t, ix_g t, ix_o t]

end Left

section Right

open Cert.Reference5Ideal Cert.Reference5Ideal.Gen

theorem ref_eq (a : FVec Ideal S4096x5632 .bf16) (g : FVec Ideal S4096x2048 .bf16) :
    truncf .bf16 (transpose S5632x2048 [1, 0] (Host.dotGeneral dot_S4096x2048_S4096x5632_S2048x5632_0_0_1_1_n_n none
      (mulf (broadcastInDim S4096x2048 ![] bcast_S_S4096x2048 (constant S_ .f32 0x3F000000#32)) (extf .f32 g bitsLt_bf16_f32)) (extf .f32 a bitsLt_bf16_f32))
      transposes_S2048x5632_S5632x2048_1_0) bitsLt_bf16_f32 = grad a g := by
  funext z
  idx_vars z
  unfold grad
  pointwise
  refine Finset.sum_congr rfl fun k _ => ?_
  rw [half_word, mul_comm _ (g (ix2 k z1)), mul_right_comm, mul_comm (g (ix2 k z1))]

end Right

theorem algebraic : Cert.algebraic_Kernel5Ideal_Reference5Ideal (hKernel5Ideal := Cert.Kernel5Ideal.Gen.facts) (hReference5Ideal := Cert.Reference5Ideal.Gen.facts) := by
  intro m ρ m' ρ' _ hargs
  refine ⟨fun c => grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun _ h c => ?_) (Cert.Kernel5Ideal.Value.run_blocks (F := Ideal) m ρ)
    obtain ⟨h0, h1⟩ := h c
    rw [final] at h0
    exact ⟨h0, h1⟩
  · refine (θ_run Cert.Reference5Ideal.defs _ _).mono (fun _ h c => ?_) (Cert.Reference5Ideal.Value.run (F := Ideal) m' ρ')
    obtain ⟨h0, h1⟩ := h c
    rw [ref_eq, (hargs c).1, (hargs c).2] at h0
    exact ⟨h0, h1⟩

end Cert.Dwout

end
-- ==== Proof.Dz.lean ====
/- The gradients of a feed-forward half's two factors: the activation's cotangent tile by tile against SwiGLU's two
   derivatives, with the logistic taken through the hyperbolic tangent, are those of `0.5 * (swiglu(zg, zu) @ w_out)`. -/
module

public import proofs.«01_k».proof.Defs
public import proofs.«01_k».proof.Proof.Alg
public import proofs.«01_k».proof.Proof.Dwout
public import proofs.«01_k».proof.Proof.Gen.Kernel2Ideal.Value
public import proofs.«01_k».proof.Proof.Gen.Reference2Ideal.Run
public import Idealize.ShloMosaic.Lib.Claim
public import Idealize.ShloMosaic.Lib.Pipeline.ValueKit

@[expose] public section

set_option maxRecDepth 16384

noncomputable section

namespace Cert.Dz

open Idealize.ShloMosaic Idealize.ShloMosaic.TcCoe Idealize.SL.Sem
open scoped BigOperators

/-! ## The logistic, two ways -/

/-- The logistic through the hyperbolic tangent. -/
def sg (z : EReal) : EReal := ((1 / 2 : ℝ) : EReal) * Ideal.tanh (((1 / 2 : ℝ) : EReal) * z) + ((1 / 2 : ℝ) : EReal)

/-- The logistic of a real number. -/
def lg (x : ℝ) : ℝ := 1 / (1 + Real.exp (-x))

theorem lg_tanh (x : ℝ) : 1 / 2 * Real.tanh (1 / 2 * x) + 1 / 2 = lg x := by
  unfold lg
  rw [Real.tanh_eq_sinh_div_cosh, Real.sinh_eq, Real.cosh_eq]
  have h : Real.exp (-x) = Real.exp (-(1 / 2 * x)) * Real.exp (-(1 / 2 * x)) := by rw [← Real.exp_add]; congr 1; ring
  have h' : Real.exp (1 / 2 * x) * Real.exp (-(1 / 2 * x)) = 1 := by rw [← Real.exp_add]; simp
  have p := Real.exp_pos (1 / 2 * x)
  have n := Real.exp_pos (-(1 / 2 * x))
  rw [h]
  generalize Real.exp (1 / 2 * x) = a at *
  generalize Real.exp (-(1 / 2 * x)) = b at *
  field_simp
  nlinarith

theorem sg_coe (x : ℝ) : sg (x : EReal) = (lg x : EReal) := by
  rw [← lg_tanh]
  rfl

theorem sg_top : sg ⊤ = 1 := by
  unfold sg
  rw [EReal.coe_mul_top_of_pos (by norm_num)]
  show ((1 / 2 : ℝ) : EReal) * 1 + ((1 / 2 : ℝ) : EReal) = 1
  rw [mul_one, ← EReal.coe_add]
  norm_num

theorem sg_bot : sg ⊥ = 0 := by
  unfold sg
  rw [EReal.coe_mul_bot_of_pos (by norm_num)]
  show ((1 / 2 : ℝ) : EReal) * (((-1 : ℝ)) : EReal) + ((1 / 2 : ℝ) : EReal) = 0
  rw [← EReal.coe_mul, ← EReal.coe_add]
  norm_num

theorem sg_eq (z : EReal) : Ideal.div 1 (1 + Ideal.exp (-z)) = sg z := by
  unfold Ideal.div
  induction z with
  | bot =>
    rw [sg_bot, EReal.neg_bot, show Ideal.exp ⊤ = ⊤ from rfl, EReal.add_top_of_ne_bot (by decide), if_neg (by decide), EReal.inv_top, mul_zero]
  | top =>
    rw [sg_top, EReal.neg_top, show Ideal.exp ⊥ = 0 from rfl, add_zero, if_neg one_ne_zero, one_mul]
    exact (EReal.coe_inv 1).symm.trans (by rw [inv_one]; rfl)
  | coe x =>
    have h : (1 : EReal) + Ideal.exp (-(x : EReal)) = ((1 + Real.exp (-x) : ℝ) : EReal) := rfl
    have p : 1 + Real.exp (-x) ≠ 0 := by positivity
    rw [sg_coe, h, if_neg (by exact_mod_cast p), one_mul, ← EReal.coe_inv]
    unfold lg
    rw [one_div]

/-- SwiGLU's first derivative, as one product and as a sum of two. -/
theorem slope (x : ℝ) (z : EReal) : (x : EReal) * sg z + z * (x : EReal) * (sg z * (1 - sg z)) = (x : EReal) * (sg z * (1 + z * (1 - sg z))) := by
  have one : (1 : EReal) = ((1 : ℝ) : EReal) := rfl
  induction z with
  | bot => rw [sg_bot]; simp
  | top =>
    rw [sg_top]
    have e : (1 : EReal) - 1 = 0 := by rw [one, ← EReal.coe_sub, sub_self]; rfl
    rw [e]
    simp
  | coe y =>
    rw [sg_coe, one, ← EReal.coe_sub]
    simp only [← EReal.coe_mul, ← EReal.coe_add]
    congr 1
    ring

/-! ## The kernel's array -/

section Left

open Cert.Kernel2Ideal Cert.Kernel2Ideal.Gen

/-- The activation's cotangent. -/
def da (dy : FVec Ideal S4096x2048 .bf16) (w : FVec Ideal S5632x2048 .f32) (r : Fin 4096) (j : Fin 5632) : EReal :=
  ((1 / 2 : ℝ) : EReal) * ∑ e : Fin 2048, dy (ix2 r e) * w (ix2 j e)

/-- The two factors' cotangents. -/
def grad (dy : FVec Ideal S4096x2048 .bf16) (w : FVec Ideal S5632x2048 .f32) (zg zu : FVec Ideal S4096x5632 .bf16) : FVec Ideal S2x4096x5632 .bf16 := fun z =>
  if (z 0).val = 0 then
    da dy w (z 1) (z 2) * zu (ix2 (z 1) (z 2)) * (sg (zg (ix2 (z 1) (z 2))) * (1 + zg (ix2 (z 1) (z 2)) * (1 - sg (zg (ix2 (z 1) (z 2))))))
  else da dy w (z 1) (z 2) * (zg (ix2 (z 1) (z 2)) * sg (zg (ix2 (z 1) (z 2))))

variable (v0 : FVec Ideal S1024x2048 .bf16) (v1 : FVec Ideal S512x2048 .bf16) (v6 v8 : FVec Ideal S1024x512 .bf16) (p : Fin 1024) (q : Fin 512)

theorem pay1_at : k0_pay1 (F := Ideal) v0 v1 (ix2 p q) = ((1 / 2 : ℝ) : EReal) * ∑ e : Fin 2048, v0 (ix2 p e) * v1 (ix2 q e) := by
  unfold k0_pay1
  pointwise
  rw [Dwout.half_word]

theorem pay2_at : k0_pay2 (F := Ideal) v6 (ix2 p q) = v6 (ix2 p q) := by
  unfold k0_pay2
  pointwise

theorem pay3_at : k0_pay3 (F := Ideal) v6 (ix2 p q) = sg (v6 (ix2 p q)) := by
  unfold k0_pay3 sg
  pointwise
  rw [Dwout.half_word, pay2_at]

theorem pay4_at : k0_pay4 (F := Ideal) v0 v1 v6 v8 (ix3 0 p q)
    = ((1 / 2 : ℝ) : EReal) * (∑ e : Fin 2048, v0 (ix2 p e) * v1 (ix2 q e)) * v8 (ix2 p q) * (sg (v6 (ix2 p q)) * (1 + v6 (ix2 p q) * (1 - sg (v6 (ix2 p q))))) := by
  unfold k0_pay4
  pointwise
  rw [pay1_at, pay2_at, pay3_at]

theorem pay5_at : k0_pay5 (F := Ideal) v0 v1 v6 (ix3 0 p q)
    = ((1 / 2 : ℝ) : EReal) * (∑ e : Fin 2048, v0 (ix2 p e) * v1 (ix2 q e)) * (v6 (ix2 p q) * sg (v6 (ix2 p q))) := by
  unfold k0_pay5
  pointwise
  rw [pay1_at, pay2_at, pay3_at]

variable (m : (ℓ : Loc nD τ sig) → Buf (Elt Ideal) ℓ) (c : Dev nD)

abbrev arg0 : FVec Ideal S4096x2048 .bf16 := m ((c.tc : Thread nD τ).loc main_arg0)
abbrev arg1 : FVec Ideal S5632x2048 .f32 := m ((c.tc : Thread nD τ).loc main_arg1)
abbrev arg2 : FVec Ideal S4096x5632 .bf16 := m ((c.tc : Thread nD τ).loc main_arg2)
abbrev arg3 : FVec Ideal S4096x5632 .bf16 := m ((c.tc : Thread nD τ).loc main_arg3)

theorem entry_w (j : Fin 5632) (e : Fin 2048) : (V m c main_v0 : FVec Ideal S5632x2048 .bf16) (ix2 j e) = arg1 m c (ix2 j e) := by
  simp only [V, List.flatten_cons, List.flatten_nil, List.append_nil, StableHlo.after_append]
  entry_read
  pointwise

theorem ix_dy : ∀ t : Fin cfg0.N, win0_0.index t = ![t.val / 11, 0] := by decide +kernel
theorem ix_w : ∀ t : Fin cfg0.N, win0_1.index t = ![t.val % 11, 0] := by decide +kernel
theorem ix_g : ∀ t : Fin cfg0.N, win0_2.index t = ![t.val / 11, t.val % 11] := by decide +kernel
theorem ix_u : ∀ t : Fin cfg0.N, win0_3.index t = ![t.val / 11, t.val % 11] := by decide +kernel
theorem ix_o : ∀ t : Fin cfg0.N, win0_4.index t = ![0, t.val / 11, t.val % 11] := by decide +kernel
theorem lt44 (t : Fin cfg0.N) : t.val < 44 := lt_of_lt_of_eq t.isLt N_0

theorem blk_dy (t : Fin cfg0.N) (p : Fin 1024) (e : Fin 2048) : (iblk m c 0 t : FVec Ideal S1024x2048 .bf16) (ix2 p e)
    = arg0 m c (ix2 ⟨t.val / 11 * 1024 + p.val, by have := lt44 t; omega⟩ e) := by
  blk_ext! [iblk, V, ix_dy t]

theorem blk_w (t : Fin cfg0.N) (q : Fin 512) (e : Fin 2048) : (iblk m c 1 t : FVec Ideal S512x2048 .bf16) (ix2 q e)
    = arg1 m c (ix2 ⟨t.val % 11 * 512 + q.val, by omega⟩ e) := by
  have h : (iblk m c 1 t : FVec Ideal S512x2048 .bf16) (ix2 q e) = (V m c main_v0 : FVec Ideal S5632x2048 .bf16) (ix2 ⟨t.val % 11 * 512 + q.val, by omega⟩ e) := by
    blk_ext! [iblk, ix_w t]
  exact h.trans (entry_w m c _ e)

theorem blk_g (t : Fin cfg0.N) (p : Fin 1024) (q : Fin 512) : (iblk m c 2 t : FVec Ideal S1024x512 .bf16) (ix2 p q)
    = arg2 m c (ix2 ⟨t.val / 11 * 1024 + p.val, by have := lt44 t; omega⟩ ⟨t.val % 11 * 512 + q.val, by omega⟩) := by
  blk_ext! [iblk, V, ix_g t]

theorem blk_u (t : Fin cfg0.N) (p : Fin 1024) (q : Fin 512) : (iblk m c 3 t : FVec Ideal S1024x512 .bf16) (ix2 p q)
    = arg3 m c (ix2 ⟨t.val / 11 * 1024 + p.val, by have := lt44 t; omega⟩ ⟨t.val % 11 * 512 + q.val, by omega⟩) := by
  blk_ext! [iblk, V, ix_u t]

theorem grad0 (dy : FVec Ideal S4096x2048 .bf16) (w : FVec Ideal S5632x2048 .f32) (zg zu : FVec Ideal S4096x5632 .bf16) (r : Fin 4096) (j : Fin 5632) :
    grad dy w zg zu (ix3 0 r j) = da dy w r j * zu (ix2 r j) * (sg (zg (ix2 r j)) * (1 + zg (ix2 r j) * (1 - sg (zg (ix2 r j))))) := rfl

theorem grad1 (dy : FVec Ideal S4096x2048 .bf16) (w : FVec Ideal S5632x2048 .f32) (zg zu : FVec Ideal S4096x5632 .bf16) (r : Fin 4096) (j : Fin 5632) :
    grad dy w zg zu (ix3 1 r j) = da dy w r j * (zg (ix2 r j) * sg (zg (ix2 r j))) := rfl

theorem point0 (t : Fin cfg0.N) (p : Fin 1024) (q : Fin 512) : k0_pay4 (F := Ideal) (iblk m c 0 t) (iblk m c 1 t) (iblk m c 2 t) (iblk m c 3 t) (ix3 0 p q)
    = grad (arg0 m c) (arg1 m c) (arg2 m c) (arg3 m c) (ix3 0 ⟨t.val / 11 * 1024 + p.val, by have := lt44 t; omega⟩ ⟨t.val % 11 * 512 + q.val, by omega⟩) := by
  rw [grad0]
  refine (pay4_at _ _ _ _ p q).trans ?_
  simp only [blk_dy, blk_w, blk_g, blk_u, da]

theorem point1 (t : Fin cfg0.N) (p : Fin 1024) (q : Fin 512) : k0_pay5 (F := Ideal) (iblk m c 0 t) (iblk m c 1 t) (iblk m c 2 t) (ix3 0 p q)
    = grad (arg0 m c) (arg1 m c) (arg2 m c) (arg3 m c) (ix3 1 ⟨t.val / 11 * 1024 + p.val, by have := lt44 t; omega⟩ ⟨t.val % 11 * 512 + q.val, by omega⟩) := by
  rw [grad1]
  refine (pay5_at _ _ _ p q).trans ?_
  simp only [blk_dy, blk_w, blk_g, da]

/-- The window's two blocks of rows, read at an index. -/
theorem canon_pt (a b : FVec Ideal S1x1024x512 .bf16) (y0 : Fin 2) (p : Fin 1024) (q : Fin 512) (v : EReal) (ha : y0 = 0 → a (ix3 0 p q) = v) (hb : y0 = 1 → b (ix3 0 p q) = v) :
    View.canon (Val := Elt Ideal) (s := S2x1024x512) (e := .bf16) [⟨Rect.unit ![1, 0, 0] ![1, 1024, 512] inb_S2x1024x512_S1x1024x512_1_0_0, b⟩,
      ⟨Rect.unit ![0, 0, 0] ![1, 1024, 512] inb_S2x1024x512_S1x1024x512_0_0_0, a⟩] (ix3 y0 p q) = v := by
  canon_tiles x h
  · idx_vars x
    obtain rfl : x0 = 0 := Subsingleton.elim _ _
    obtain rfl : p = x1 := Fin.ext h1
    obtain rfl : q = x2 := Fin.ext h2
    exact hb (Fin.ext h0)
  · idx_vars x
    obtain rfl : x0 = 0 := Subsingleton.elim _ _
    obtain rfl : p = x1 := Fin.ext h1
    obtain rfl : q = x2 := Fin.ext h2
    exact ha (Fin.ext h0)

/-- What a point leaves in its block. -/
theorem out_at (t : Fin cfg0.N) (b : Fin 2) (p : Fin 1024) (q : Fin 512) : (outsAt0 m c t : FVec Ideal S2x1024x512 .bf16) (ix3 b p q)
    = grad (arg0 m c) (arg1 m c) (arg2 m c) (arg3 m c) (ix3 b ⟨t.val / 11 * 1024 + p.val, by have := lt44 t; omega⟩ ⟨t.val % 11 * 512 + q.val, by omega⟩) := by
  unfold outsAt0
  frame_out
  refine canon_pt _ _ b p q _ (fun e => ?_) (fun e => ?_)
  · subst e
    exact point0 m c t p q
  · subst e
    exact point1 m c t p q

theorem final : (dats m 0 c).arrAt 4 cfg0.N = grad (arg0 m c) (arg1 m c) (arg2 m c) (arg3 m c) := by
  refine (dats m 0 c).arrAt_eq_of_covers 4 _ (by decide +kernel) fun t hf y => ?_
  rw [after0_4]
  idx_vars y
  have o := out_at m c t y0 y1 y2
  generalize grad (arg0 m c) (arg1 m c) (arg2 m c) (arg3 m c) = G at o ⊢
  generalize outsAt0 m c t = u at o ⊢
  refine Eq.trans (b := u (ix3 y0 y1 y2)) rfl ?_
  refine o.trans ?_
  blk_point [ix_o t]

end Left

section Right

open Cert.Reference2Ideal Cert.Reference2Ideal.Gen

/-- The activation's cotangent, as the reference has it. -/
def dot (dy : FVec Ideal S4096x2048 .bf16) (w : FVec Ideal S5632x2048 .f32) : FVec Ideal S4096x5632 .f32 :=
  Host.dotGeneral dot_S4096x2048_S5632x2048_S4096x5632_1_1_0_0_n_n none (mulf (broadcastInDim S4096x2048 ![] bcast_S_S4096x2048 (constant S_ .f32 0x3F000000#32)) (extf .f32 dy bitsLt_bf16_f32)) w

theorem dot_at (dy : FVec Ideal S4096x2048 .bf16) (w : FVec Ideal S5632x2048 .f32) (r : Fin 4096) (j : Fin 5632) : dot dy w (ix2 r j) = da dy w r j := by
  unfold dot da
  pointwise
  rw [mul_comm, Dwout.sum_scale _ _ (by norm_num)]
  refine Finset.sum_congr rfl fun e _ => ?_
  rw [Dwout.half_word, mul_comm _ (dy (ix2 r e)), mul_right_comm]

/-- The logistic, as the reference has it. -/
def sig (z : FVec Ideal S4096x5632 .bf16) : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 z bitsLt_bf16_f32))))

theorem sig_at (z : FVec Ideal S4096x5632 .bf16) (r : Fin 4096) (j : Fin 5632) : sig z (ix2 r j) = sg (z (ix2 r j)) := by
  rw [← sg_eq]
  unfold sig
  pointwise

/-- The reference's array. -/
def refArr (dy : FVec Ideal S4096x2048 .bf16) (w : FVec Ideal S5632x2048 .f32) (zg zu : FVec Ideal S4096x5632 .bf16) : FVec Ideal S2x4096x5632 .bf16 :=
  truncf .bf16 (concatenate S2x4096x5632 0 [⟨S1x4096x5632, (broadcastInDim S1x4096x5632 ![1, 2] bcast_S4096x5632_S1x4096x5632_1_2
    (addf (mulf (mulf (dot dy w) (extf .f32 zu bitsLt_bf16_f32)) (sig zg))
      (mulf (mulf (extf .f32 zg bitsLt_bf16_f32) (mulf (dot dy w) (extf .f32 zu bitsLt_bf16_f32)))
        (mulf (sig zg) (subf (broadcastInDim S4096x5632 ![] bcast_S_S4096x5632 (constant S_ .f32 0x3F800000#32)) (sig zg))))))⟩,
    ⟨S1x4096x5632, (broadcastInDim S1x4096x5632 ![1, 2] bcast_S4096x5632_S1x4096x5632_1_2 (mulf (mulf (extf .f32 zg bitsLt_bf16_f32) (sig zg)) (dot dy w)))⟩]
    concatenates_S1x4096x5632_S1x4096x5632_S2x4096x5632_d0) bitsLt_bf16_f32

theorem da_real {dy : FVec Ideal S4096x2048 .bf16} {w : FVec Ideal S5632x2048 .f32} (hd : ∀ i, dy i = ((dy i).toReal : EReal)) (hw : ∀ i, w i = ((w i).toReal : EReal)) (r : Fin 4096) (j : Fin 5632) :
    ∃ x : ℝ, da dy w r j = (x : EReal) := by
  refine ⟨1 / 2 * ∑ e : Fin 2048, (dy (ix2 r e)).toReal * (w (ix2 j e)).toReal, ?_⟩
  unfold da
  rw [EReal.coe_mul]
  congr 1
  have h : ∀ e : Fin 2048, dy (ix2 r e) * w (ix2 j e) = (((dy (ix2 r e)).toReal * (w (ix2 j e)).toReal : ℝ) : EReal) := fun e => by rw [EReal.coe_mul, ← hd, ← hw]
  simp only [h]
  exact AttnBwd.Head.coe_sum _

theorem ref_eq (dy : FVec Ideal S4096x2048 .bf16) (w : FVec Ideal S5632x2048 .f32) (zg zu : FVec Ideal S4096x5632 .bf16)
    (hd : ∀ i, dy i = ((dy i).toReal : EReal)) (hw : ∀ i, w i = ((w i).toReal : EReal)) (hu : ∀ i, zu i = ((zu i).toReal : EReal)) :
    refArr dy w zg zu = grad dy w zg zu := by
  funext z
  idx_vars z
  obtain rfl | rfl : z0 = 0 ∨ z0 = 1 := by
    match z0 with
    | 0 => exact .inl rfl
    | 1 => exact .inr rfl
  · rw [grad0]
    unfold refArr
    pointwise
    rw [dot_at, sig_at]
    obtain ⟨x, hx⟩ := da_real hd hw z1 z2
    rw [hx, hu, ← EReal.coe_mul]
    exact slope _ _
  · rw [grad1]
    unfold refArr
    pointwise
    rw [dot_at, sig_at, mul_comm]

end Right

theorem preFacts : Cert.Pre_finite2.Facts := ⟨by decide, by decide, by decide⟩

section Pre

open Cert.Pre_finite2

theorem inf_half : Ideal.ofBits FTy.bf16 0x7F80#16 = ⊤ := by simp [Ideal.ofBits, Ideal.ieee]

variable [Cert.Pre_finite2.Facts] (dy : FVec Ideal S4096x2048 .bf16) (w : FVec Ideal S5632x2048 .f32) (zg zu : FVec Ideal S4096x5632 .bf16) (d : FVec Ideal S8x128 .f32)

theorem real0 (h : (Cert.Pre_finite2.fn dy w zg zu d).1 = fun _ => 1#1) (i : S4096x2048.Idx) : dy i = ((dy i).toReal : EReal) := by
  have e : Ideal.cmp .olt (max (dy i) (-(dy i))) (Ideal.ofBits FTy.bf16 0x7F80#16) = 1#1 := congrFun h i
  rw [inf_half] at e
  exact AttnBwd.real_of_lt e

theorem real1 (h : (Cert.Pre_finite2.fn dy w zg zu d).2.1 = fun _ => 1#1) (i : S5632x2048.Idx) : w i = ((w i).toReal : EReal) := by
  have e : Ideal.cmp .olt (max (w i) (-(w i))) (Ideal.ofBits FTy.f32 2139095040#32) = 1#1 := congrFun h i
  rw [AttnBwd.inf_word] at e
  exact AttnBwd.real_of_lt e

theorem real3 (h : (Cert.Pre_finite2.fn dy w zg zu d).2.2 = fun _ => 1#1) (i : S4096x5632.Idx) : zu i = ((zu i).toReal : EReal) := by
  have e : Ideal.cmp .olt (max (zu i) (-(zu i))) (Ideal.ofBits FTy.bf16 0x7F80#16) = 1#1 := congrFun h i
  rw [inf_half] at e
  exact AttnBwd.real_of_lt e

end Pre

theorem algebraic : Cert.algebraic_Kernel2Ideal_Reference2Ideal_pre_finite2 (hKernel2Ideal := Cert.Kernel2Ideal.Gen.facts) (hReference2Ideal := Cert.Reference2Ideal.Gen.facts) (hPre_finite2 := preFacts) := by
  intro m ρ m' ρ' hpre hargs
  refine ⟨fun c => grad (arg0 m c) (arg1 m c) (arg2 m c) (arg3 m c), ?_, ?_⟩
  · refine (θ_run Cert.Kernel2Ideal.defs _ _).mono (fun _ h c => ?_) (Cert.Kernel2Ideal.Value.run_blocks (F := Ideal) m ρ)
    obtain ⟨h0, h1⟩ := h c
    rw [final] at h0
    exact ⟨h0, h1⟩
  · refine (θ_run Cert.Reference2Ideal.defs _ _).mono (fun _ h c => ?_) (Cert.Reference2Ideal.Value.run (F := Ideal) m' ρ')
    obtain ⟨h0, h1⟩ := h c
    rw [(hargs c).1, (hargs c).2.1, (hargs c).2.2.1, (hargs c).2.2.2.1] at h0
    letI := preFacts
    exact ⟨h0.trans (ref_eq (arg0 m c) (arg1 m c) (arg2 m c) (arg3 m c) (real0 _ _ _ _ _ (hpre c).1) (real1 _ _ _ _ _ (hpre c).2.1) (real3 _ _ _ _ _ (hpre c).2.2)), h1⟩

end Cert.Dz

end
-- ==== Proof.Dh.lean ====
/- The gradient of a feed-forward half's normed input: the two factors' cotangents times the input weight's column blocks,
   summed half by half into a scratch array, is that of `h @ w`. -/
module

public import proofs.«01_k».proof.Defs
public import proofs.«01_k».proof.Proof.Gen.Kernel3Ideal.Value
public import proofs.«01_k».proof.Proof.Gen.Reference3Ideal.Run
public import Idealize.ShloMosaic.Lib.Claim
public import Idealize.ShloMosaic.Lib.Pipeline.ValueKit

@[expose] public section

set_option maxRecDepth 16384

noncomputable section

namespace Cert.Dh

open Idealize.ShloMosaic Idealize.ShloMosaic.TcCoe Idealize.SL.Sem
open scoped BigOperators

section Left

open Cert.Kernel3Ideal Cert.Kernel3Ideal.Gen

/-- One half of one factor's part of the gradient: cotangent `b`, its half `k`, column block `2 b + k` of the weight. -/
def part (g : FVec Ideal S2x4096x5632 .bf16) (w : FVec Ideal S2048x11264 .f32) (b k : Fin 2) (r : Fin 4096) (d : Fin 2048) : EReal :=
  ∑ e : Fin 2816, g (ix3 b r ⟨k.val * 2816 + e.val, by omega⟩) * w (ix2 d ⟨(2 * b.val + k.val) * 2816 + e.val, by omega⟩)

/-- The gradient at a row and a column. -/
def grad (g : FVec Ideal S2x4096x5632 .bf16) (w : FVec Ideal S2048x11264 .f32) : FVec Ideal S4096x2048 .f32 := fun z =>
  (part g w 0 0 (z 0) (z 1) + part g w 1 0 (z 0) (z 1)) + (part g w 0 1 (z 0) (z 1) + part g w 1 1 (z 0) (z 1))

theorem pay1_at (v0 : FVec Ideal S1x1024x2816 .bf16) (v2 : FVec Ideal S1x512x2816 .bf16) (v5 : FVec Ideal S1x1024x2816 .bf16) (v7 : FVec Ideal S1x512x2816 .bf16)
    (p : Fin 1024) (q : Fin 512) :
    k0_pay1 (F := Ideal) v0 v2 v5 v7 (ix2 p q) = ∑ e : Fin 2816, v0 (ix3 0 p e) * v2 (ix3 0 q e) + ∑ e : Fin 2816, v5 (ix3 0 p e) * v7 (ix3 0 q e) := by
  unfold k0_pay1
  pointwise

theorem pay2_at (v0 : FVec Ideal S1x1024x2816 .bf16) (v2 : FVec Ideal S1x512x2816 .bf16) (v5 : FVec Ideal S1x1024x2816 .bf16) (v7 : FVec Ideal S1x512x2816 .bf16)
    (p : Fin 1024) (q : Fin 512) : k0_pay2 (F := Ideal) v0 v2 v5 v7 (ix2 p q) = k0_pay1 (F := Ideal) v0 v2 v5 v7 (ix2 p q) := by
  unfold k0_pay2
  pointwise

theorem pay3_at (v0 : FVec Ideal S1x1024x2816 .bf16) (v2 : FVec Ideal S1x512x2816 .bf16) (v5 : FVec Ideal S1x1024x2816 .bf16) (v7 : FVec Ideal S1x512x2816 .bf16)
    (s : FVec Ideal S1024x512 .f32) (p : Fin 1024) (q : Fin 512) : k0_pay3 (F := Ideal) v0 v2 v5 v7 s (ix2 p q) = s (ix2 p q) + k0_pay1 (F := Ideal) v0 v2 v5 v7 (ix2 p q) := by
  unfold k0_pay3
  pointwise

variable (m : (ℓ : Loc nD τ sig) → Buf (Elt Ideal) ℓ) (c : Dev nD)

abbrev arg0 : FVec Ideal S2x4096x5632 .bf16 := m ((c.tc : Thread nD τ).loc main_arg0)
abbrev arg1 : FVec Ideal S2048x11264 .f32 := m ((c.tc : Thread nD τ).loc main_arg1)

/-- The weight's four column blocks. -/
theorem entry_w (b : Fin 4) (d : Fin 2048) (e : Fin 2816) :
    (V m c main_v2 : FVec Ideal S4x2048x2816 .bf16) (ix3 b d e) = arg1 m c (ix2 d ⟨b.val * 2816 + e.val, by omega⟩) := by
  simp only [V, List.flatten_cons, List.flatten_nil, List.append_nil, StableHlo.after_append]
  entry_read
  pointwise

theorem entry_g : (V m c main_arg0 : FVec Ideal S2x4096x5632 .bf16) = arg0 m c := V_main_arg0 m c

theorem ix_g0 : ∀ t : Fin cfg0.N, win0_0.index t = ![0, t.val / 8, t.val % 2] := by decide +kernel
theorem ix_g1 : ∀ t : Fin cfg0.N, win0_1.index t = ![1, t.val / 8, t.val % 2] := by decide +kernel
theorem ix_w0 : ∀ t : Fin cfg0.N, win0_2.index t = ![t.val % 2, t.val / 2 % 4, 0] := by decide +kernel
theorem ix_w1 : ∀ t : Fin cfg0.N, win0_3.index t = ![2 + t.val % 2, t.val / 2 % 4, 0] := by decide +kernel
theorem ix_o : ∀ t : Fin cfg0.N, win0_4.index t = ![t.val / 8, t.val / 2 % 4] := by decide +kernel

theorem lt32 (t : Fin cfg0.N) : t.val < 32 := t.isLt

theorem blk_g0 (t : Fin cfg0.N) (p : Fin 1024) (e : Fin 2816) : (iblk m c 0 t : FVec Ideal S1x1024x2816 .bf16) (ix3 0 p e)
    = arg0 m c (ix3 0 ⟨t.val / 8 * 1024 + p.val, by have := lt32 t; omega⟩ ⟨t.val % 2 * 2816 + e.val, by omega⟩) := by
  blk_ext! [iblk, V, ix_g0 t]

theorem blk_g1 (t : Fin cfg0.N) (p : Fin 1024) (e : Fin 2816) : (iblk m c 1 t : FVec Ideal S1x1024x2816 .bf16) (ix3 0 p e)
    = arg0 m c (ix3 1 ⟨t.val / 8 * 1024 + p.val, by have := lt32 t; omega⟩ ⟨t.val % 2 * 2816 + e.val, by omega⟩) := by
  blk_ext! [iblk, V, ix_g1 t]

theorem blk_w0 (t : Fin cfg0.N) (q : Fin 512) (e : Fin 2816) : (iblk m c 2 t : FVec Ideal S1x512x2816 .bf16) (ix3 0 q e)
    = arg1 m c (ix2 ⟨t.val / 2 % 4 * 512 + q.val, by omega⟩ ⟨(t.val % 2) * 2816 + e.val, by omega⟩) := by
  have h : (iblk m c 2 t : FVec Ideal S1x512x2816 .bf16) (ix3 0 q e)
      = (V m c main_v2 : FVec Ideal S4x2048x2816 .bf16) (ix3 ⟨t.val % 2, by omega⟩ ⟨t.val / 2 % 4 * 512 + q.val, by omega⟩ e) := by
    blk_ext! [iblk, ix_w0 t]
  exact h.trans (entry_w m c ⟨t.val % 2, by omega⟩ _ e)

theorem blk_w1 (t : Fin cfg0.N) (q : Fin 512) (e : Fin 2816) : (iblk m c 3 t : FVec Ideal S1x512x2816 .bf16) (ix3 0 q e)
    = arg1 m c (ix2 ⟨t.val / 2 % 4 * 512 + q.val, by omega⟩ ⟨(2 + t.val % 2) * 2816 + e.val, by omega⟩) := by
  have h : (iblk m c 3 t : FVec Ideal S1x512x2816 .bf16) (ix3 0 q e)
      = (V m c main_v2 : FVec Ideal S4x2048x2816 .bf16) (ix3 ⟨2 + t.val % 2, by omega⟩ ⟨t.val / 2 % 4 * 512 + q.val, by omega⟩ e) := by
    blk_ext! [iblk, ix_w1 t]
  exact h.trans (entry_w m c ⟨2 + t.val % 2, by omega⟩ _ e)

/-- A half of a factor's part, at the weight's column block. -/
theorem part_eq (g : FVec Ideal S2x4096x5632 .bf16) (w : FVec Ideal S2048x11264 .f32) (b k : Fin 2) (r : Fin 4096) (d : Fin 2048) (n : Fin 4) (h : n.val = 2 * b.val + k.val) :
    ∑ e : Fin 2816, g (ix3 b r ⟨k.val * 2816 + e.val, by omega⟩) * w (ix2 d ⟨n.val * 2816 + e.val, by omega⟩) = part g w b k r d := by
  unfold part
  simp only [h]

theorem point (t : Fin cfg0.N) (p : Fin 1024) (q : Fin 512) :
    k0_pay1 (F := Ideal) (iblk m c 0 t) (iblk m c 2 t) (iblk m c 1 t) (iblk m c 3 t) (ix2 p q)
      = part (arg0 m c) (arg1 m c) 0 ⟨t.val % 2, by omega⟩ ⟨t.val / 8 * 1024 + p.val, by have := lt32 t; omega⟩ ⟨t.val / 2 % 4 * 512 + q.val, by omega⟩
        + part (arg0 m c) (arg1 m c) 1 ⟨t.val % 2, by omega⟩ ⟨t.val / 8 * 1024 + p.val, by have := lt32 t; omega⟩ ⟨t.val / 2 % 4 * 512 + q.val, by omega⟩ := by
  rw [← part_eq _ _ 0 _ _ _ ⟨t.val % 2, by omega⟩ (by simp), ← part_eq _ _ 1 _ _ _ ⟨2 + t.val % 2, by omega⟩ (by simp)]
  refine (pay1_at _ _ _ _ p q).trans ?_
  simp only [blk_g0, blk_g1, blk_w0, blk_w1]

theorem final : (dats m 0 c).arrAt 4 cfg0.N = grad (arg0 m c) (arg1 m c) := by
  refine (dats m 0 c).arrAt_eq_of_covers 4 _ (by decide +kernel) fun t hf y => ?_
  have h1 : t.val % 2 = 1 := (flush0_4 t).mp hf
  have ht := lt32 t
  rw [after0_4, outsAt0_B m c t (by omega) h1 h1]
  idx_vars y
  frame_out
  refine (pay3_at _ _ _ _ _ y0 y1).trans ?_
  rw [point]
  rw [outsAt0_A m c ⟨t.val - 1, Nat.lt_of_le_of_lt (Nat.sub_le _ _) t.isLt⟩ (by show (t.val - 1) % 2 = 0; omega) (by show ¬(t.val - 1) % 2 = 1; omega) (by show ¬(t.val - 1) % 2 = 1; omega)]
  frame_out
  refine (congrArg₂ (fun a b : EReal => a + b) ((congrFun (Memref.IsWhole.read_unread (Memref.isWhole_whole cc0_scratch0) _) (ix2 y0 y1)).trans ((pay2_at _ _ _ _ y0 y1).trans (point m c _ y0 y1))) rfl).trans ?_
  unfold grad
  blk_point [ix_o t]

end Left

section Right

open Cert.Reference3Ideal Cert.Reference3Ideal.Gen

/-- The two cotangents side by side, as the reference lays them out. -/
def sides (g : FVec Ideal S2x4096x5632 .bf16) : FVec Ideal S4096x11264 .f32 :=
  concatenate S4096x11264 1 [⟨S4096x5632, (shapeCast _ (extractStridedSlice S1x4096x5632 ![0, 0, 0] (extf .f32 g bitsLt_bf16_f32) slices_S2x4096x5632_S1x4096x5632_0_0_0) shapeCasts_S1x4096x5632_S4096x5632)⟩,
    ⟨S4096x5632, (shapeCast _ (extractStridedSlice S1x4096x5632 ![1, 0, 0] (extf .f32 g bitsLt_bf16_f32) slices_S2x4096x5632_S1x4096x5632_1_0_0) shapeCasts_S1x4096x5632_S4096x5632)⟩]
    concatenates_S4096x5632_S4096x5632_S4096x11264_d1

theorem sides_at (g : FVec Ideal S2x4096x5632 .bf16) (t : Fin 4096) (i : Fin 11264) (b : Fin 2) (j : Fin 5632) (h : i.val = b.val * 5632 + j.val) :
    sides g (ix2 t i) = g (ix3 b t j) := by
  unfold sides
  pointwise
  split
  · have hb : b = 0 := Fin.ext (by show b.val = 0; omega)
    exact congrArg₂ (fun x y => g (ix3 x t y)) hb.symm (Fin.ext (by show i.val = j.val; omega))
  · have hb : b = 1 := Fin.ext (by show b.val = 1; omega)
    exact congrArg₂ (fun x y => g (ix3 x t y)) hb.symm (Fin.ext (by show i.val - 5632 = j.val; omega))

/-- A sum over the factors' columns, block by block. -/
theorem sum_blocks (f : Fin 11264 → EReal) : ∑ i, f i = ∑ b : Fin 2, ∑ k : Fin 2, ∑ e : Fin 2816, f ⟨(2 * b.val + k.val) * 2816 + e.val, by omega⟩ := by
  rw [← (finProdFinEquiv (m := 4) (n := 2816)).sum_comp, Fintype.sum_prod_type, ← (finProdFinEquiv (m := 2) (n := 2)).sum_comp, Fintype.sum_prod_type]
  refine Finset.sum_congr rfl fun b _ => Finset.sum_congr rfl fun k _ => Finset.sum_congr rfl fun e _ => congrArg f (Fin.ext ?_)
  show e.val + 2816 * (k.val + 2 * b.val) = _
  dsimp only
  omega

theorem ref_eq (g : FVec Ideal S2x4096x5632 .bf16) (w : FVec Ideal S2048x11264 .f32) :
    Host.dotGeneral dot_S4096x11264_S2048x11264_S4096x2048_1_1_0_0_n_n none (sides g) w = grad g w := by
  funext z
  idx_vars z
  unfold grad
  pointwise
  rw [sum_blocks]
  have h : ∀ b k : Fin 2, (∑ e : Fin 2816, sides g (ix2 z0 ⟨(2 * b.val + k.val) * 2816 + e.val, by omega⟩) * w (ix2 z1 ⟨(2 * b.val + k.val) * 2816 + e.val, by omega⟩)) = part g w b k z0 z1 := by
    intro b k
    unfold part
    refine Finset.sum_congr rfl fun e _ => congrArg₂ (· * ·) (sides_at g z0 _ b _ ?_) rfl
    dsimp only
    omega
  simp only [Fin.sum_univ_two, h]
  exact add_add_add_comm _ _ _ _

end Right

theorem algebraic : Cert.algebraic_Kernel3Ideal_Reference3Ideal (hKernel3Ideal := Cert.Kernel3Ideal.Gen.facts) (hReference3Ideal := Cert.Reference3Ideal.Gen.facts) := by
  intro m ρ m' ρ' _ hargs
  refine ⟨fun c => grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun _ h c => ?_) (Cert.Kernel3Ideal.Value.run_blocks (F := Ideal) m ρ)
    obtain ⟨h0, h1⟩ := h c
    rw [final] at h0
    exact ⟨h0, h1⟩
  · refine (θ_run Cert.Reference3Ideal.defs _ _).mono (fun _ h c => ?_) (Cert.Reference3Ideal.Value.run (F := Ideal) m' ρ')
    obtain ⟨h0, h1⟩ := h c
    rw [(hargs c).1, (hargs c).2] at h0
    exact ⟨h0.trans (ref_eq _ _), h1⟩

end Cert.Dh

end
-- ==== Proof.Dwin.lean ====
/- The gradient of a feed-forward half's input weight, in the layout of its four column blocks (two of the gate's, two of
   the other factor's), is that of `h @ w`, its columns split so. -/
module

public import proofs.«01_k».proof.Defs
public import proofs.«01_k».proof.Proof.Gen.Kernel4Ideal.Value
public import proofs.«01_k».proof.Proof.Gen.Reference4Ideal.Run
public import Idealize.ShloMosaic.Lib.Claim
public import Idealize.ShloMosaic.Lib.Pipeline.ValueKit

@[expose] public section

set_option maxRecDepth 16384

noncomputable section

namespace Cert.Dwin

open Idealize.ShloMosaic Idealize.ShloMosaic.TcCoe Idealize.SL.Sem
open scoped BigOperators

section Left

open Cert.Kernel4Ideal Cert.Kernel4Ideal.Gen

/-- The gradient at a column block, a row and a column of the block: two blocks to each of the two factors. -/
def grad (h : FVec Ideal S4096x2048 .bf16) (g : FVec Ideal S2x4096x5632 .bf16) : FVec Ideal S4x2048x2816 .bf16 := fun z =>
  ∑ t : Fin 4096, h (ix2 t (z 1)) * g (ix3 ⟨(z 0).val / 2, by have h : (z 0).val < 4 := (z 0).isLt; omega⟩ t
    ⟨(z 0).val % 2 * 2816 + (z 2).val, by have h : (z 2).val < 2816 := (z 2).isLt; omega⟩)

theorem pay_at (v0 : FVec Ideal S4096x512 .bf16) (v1 : FVec Ideal S1x4096x1408 .bf16) (p : Fin 512) (q : Fin 1408) :
    k0_pay1 v0 v1 (ix3 0 p q) = ∑ t : Fin 4096, v0 (ix2 t p) * v1 (ix3 0 t q) := by
  unfold k0_pay1
  pointwise

variable (m : (ℓ : Loc nD τ sig) → Buf (Elt Ideal) ℓ) (c : Dev nD)

theorem ix_h : ∀ t : Fin cfg0.N, win0_0.index t = ![0, t.val / 8] := by decide +kernel
theorem ix_g : ∀ t : Fin cfg0.N, win0_1.index t = ![t.val % 8 / 4, 0, t.val % 4] := by decide +kernel
theorem ix_o : ∀ t : Fin cfg0.N, win0_2.index t = ![t.val % 8 / 2, t.val / 8, t.val % 2] := by decide +kernel

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  rw [after0_2]
  idx_vars y
  obtain rfl : y0 = 0 := Subsingleton.elim _ _
  frame_out
  refine (pay_at _ _ y1 y2).trans ?_
  unfold grad
  refine Finset.sum_congr rfl fun k _ => ?_
  blk_point [iblk, V, ix_h t, ix_g t, ix_o t]

end Left

section Right

open Cert.Reference4Ideal Cert.Reference4Ideal.Gen

/-- The two factors' cotangents side by side. -/
def sides (g : FVec Ideal S2x4096x5632 .bf16) : FVec Ideal S4096x11264 .f32 :=
  concatenate S4096x11264 1 [⟨S4096x5632, (shapeCast _ (extractStridedSlice S1x4096x5632 ![0, 0, 0] (extf .f32 g bitsLt_bf16_f32) slices_S2x4096x5632_S1x4096x5632_0_0_0) shapeCasts_S1x4096x5632_S4096x5632)⟩,
    ⟨S4096x5632, (shapeCast _ (extractStridedSlice S1x4096x5632 ![1, 0, 0] (extf .f32 g bitsLt_bf16_f32) slices_S2x4096x5632_S1x4096x5632_1_0_0) shapeCasts_S1x4096x5632_S4096x5632)⟩]
    concatenates_S4096x5632_S4096x5632_S4096x11264_d1

theorem sides_at (g : FVec Ideal S2x4096x5632 .bf16) (t : Fin 4096) (i : Fin 11264) (b : Fin 2) (j : Fin 5632) (h : i.val = b.val * 5632 + j.val) :
    sides g (ix2 t i) = g (ix3 b t j) := by
  unfold sides
  pointwise
  split
  · have hb : b = 0 := Fin.ext (by show b.val = 0; omega)
    exact congrArg₂ (fun x y => g (ix3 x t y)) hb.symm (Fin.ext (by show i.val = j.val; omega))
  · have hb : b = 1 := Fin.ext (by show b.val = 1; omega)
    exact congrArg₂ (fun x y => g (ix3 x t y)) hb.symm (Fin.ext (by show i.val - 5632 = j.val; omega))

theorem ref_eq (h : FVec Ideal S4096x2048 .bf16) (g : FVec Ideal S2x4096x5632 .bf16) :
    truncf .bf16 (transpose S4x2048x2816 [1, 0, 2] (shapeCast S2048x4x2816 (transpose S2048x11264 [1, 0] (Host.dotGeneral dot_S4096x11264_S4096x2048_S11264x2048_0_0_1_1_n_n none
      (sides g) (extf .f32 h bitsLt_bf16_f32)) transposes_S11264x2048_S2048x11264_1_0) shapeCasts_S2048x11264_S2048x4x2816)
      transposes_S2048x4x2816_S4x2048x2816_1_0_2) bitsLt_bf16_f32 = grad h g := by
  funext z
  idx_vars z
  unfold grad
  pointwise
  refine Finset.sum_congr rfl fun k _ => ?_
  rw [mul_comm]
  congr 1
  refine sides_at g _ _ _ _ ?_
  dsimp only
  omega

end Right

theorem algebraic : Cert.algebraic_Kernel4Ideal_Reference4Ideal (hKernel4Ideal := Cert.Kernel4Ideal.Gen.facts) (hReference4Ideal := Cert.Reference4Ideal.Gen.facts) := by
  intro m ρ m' ρ' _ hargs
  refine ⟨fun c => grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun _ h c => ?_) (Cert.Kernel4Ideal.Value.run_blocks (F := Ideal) m ρ)
    obtain ⟨h0, h1⟩ := h c
    rw [final] at h0
    exact ⟨h0, h1⟩
  · refine (θ_run Cert.Reference4Ideal.defs _ _).mono (fun _ h c => ?_) (Cert.Reference4Ideal.Value.run (F := Ideal) m' ρ')
    obtain ⟨h0, h1⟩ := h c
    rw [(hargs c).1, (hargs c).2] at h0
    exact ⟨h0.trans (ref_eq _ _), h1⟩

end Cert.Dwin

end
-- ==== Proof.Dyn.lean ====
/- The gradient of the mixer's normed output, one block of rows and columns per grid point, is that of `y @ w`. -/
module

public import proofs.«01_k».proof.Defs
public import proofs.«01_k».proof.Proof.Gen.Kernel6Ideal.Value
public import proofs.«01_k».proof.Proof.Gen.Reference6Ideal.Run
public import Idealize.ShloMosaic.Lib.Claim
public import Idealize.ShloMosaic.Lib.Pipeline.ValueKit

@[expose] public section

set_option maxRecDepth 16384

noncomputable section

namespace Cert.Dyn

open Idealize.ShloMosaic Idealize.ShloMosaic.TcCoe Idealize.SL.Sem
open scoped BigOperators

section Left

open Cert.Kernel6Ideal Cert.Kernel6Ideal.Gen

/-- The gradient at a row and a column. -/
def grad (g : FVec Ideal S4096x2048 .bf16) (w : FVec Ideal S2048x2048 .f32) : FVec Ideal S4096x2048 .f32 := fun z =>
  ∑ e : Fin 2048, g (ix2 (z 0) e) * w (ix2 (z 1) e)

theorem pay_at (v0 : FVec Ideal S1024x2048 .bf16) (v1 : FVec Ideal S512x2048 .bf16) (p : Fin 1024) (q : Fin 512) :
    k0_pay1 (F := Ideal) v0 v1 (ix2 p q) = ∑ e : Fin 2048, v0 (ix2 p e) * v1 (ix2 q e) := by
  unfold k0_pay1
  pointwise

variable (m : (ℓ : Loc nD τ sig) → Buf (Elt Ideal) ℓ) (c : Dev nD)

abbrev arg0 : FVec Ideal S4096x2048 .bf16 := m ((c.tc : Thread nD τ).loc main_arg0)
abbrev arg1 : FVec Ideal S2048x2048 .f32 := m ((c.tc : Thread nD τ).loc main_arg1)

theorem entry_w (j e : Fin 2048) : (V m c main_v0 : FVec Ideal S2048x2048 .bf16) (ix2 j e) = arg1 m c (ix2 j e) := by
  simp only [V, List.flatten_cons, List.flatten_nil, List.append_nil, StableHlo.after_append]
  entry_read
  pointwise

theorem ix_g : ∀ t : Fin cfg0.N, win0_0.index t = ![t.val / 4, 0] := by decide +kernel
theorem ix_w : ∀ t : Fin cfg0.N, win0_1.index t = ![t.val % 4, 0] := by decide +kernel
theorem ix_o : ∀ t : Fin cfg0.N, win0_2.index t = ![t.val / 4, t.val % 4] := by decide +kernel
theorem lt16 (t : Fin cfg0.N) : t.val < 16 := lt_of_lt_of_eq t.isLt N_0

theorem blk_g (t : Fin cfg0.N) (p : Fin 1024) (e : Fin 2048) : (iblk m c 0 t : FVec Ideal S1024x2048 .bf16) (ix2 p e)
    = arg0 m c (ix2 ⟨t.val / 4 * 1024 + p.val, by have := lt16 t; omega⟩ e) := by
  blk_ext! [iblk, V, ix_g t]

theorem blk_w (t : Fin cfg0.N) (q : Fin 512) (e : Fin 2048) : (iblk m c 1 t : FVec Ideal S512x2048 .bf16) (ix2 q e)
    = arg1 m c (ix2 ⟨t.val % 4 * 512 + q.val, by omega⟩ e) := by
  have h : (iblk m c 1 t : FVec Ideal S512x2048 .bf16) (ix2 q e) = (V m c main_v0 : FVec Ideal S2048x2048 .bf16) (ix2 ⟨t.val % 4 * 512 + q.val, by omega⟩ e) := by
    blk_ext! [iblk, ix_w t]
  exact h.trans (entry_w m c _ e)

theorem point (t : Fin cfg0.N) (p : Fin 1024) (q : Fin 512) : k0_pay1 (F := Ideal) (iblk m c 0 t) (iblk m c 1 t) (ix2 p q)
    = grad (arg0 m c) (arg1 m c) (ix2 ⟨t.val / 4 * 1024 + p.val, by have := lt16 t; omega⟩ ⟨t.val % 4 * 512 + q.val, by omega⟩) := by
  refine (pay_at _ _ p q).trans ?_
  simp only [blk_g, blk_w]
  rfl

theorem final : (dats m 0 c).arrAt 2 cfg0.N = grad (arg0 m c) (arg1 m c) := by
  refine (dats m 0 c).arrAt_eq_of_covers 2 _ (by decide +kernel) fun t hf y => ?_
  rw [after0_2]
  unfold outsAt0
  idx_vars y
  frame_out
  refine (point m c t y0 y1).trans ?_
  blk_point [ix_o t]

end Left

section Right

open Cert.Reference6Ideal Cert.Reference6Ideal.Gen

theorem ref_eq (g : FVec Ideal S4096x2048 .bf16) (w : FVec Ideal S2048x2048 .f32) :
    Host.dotGeneral dot_S4096x2048_S2048x2048_S4096x2048_1_1_0_0_n_n none (extf .f32 g bitsLt_bf16_f32) w = grad g w := by
  funext z
  idx_vars z
  unfold grad
  pointwise

end Right

theorem algebraic : Cert.algebraic_Kernel6Ideal_Reference6Ideal (hKernel6Ideal := Cert.Kernel6Ideal.Gen.facts) (hReference6Ideal := Cert.Reference6Ideal.Gen.facts) := by
  intro m ρ m' ρ' _ hargs
  refine ⟨fun c => grad (arg0 m c) (arg1 m c), ?_, ?_⟩
  · refine (θ_run Cert.Kernel6Ideal.defs _ _).mono (fun _ h c => ?_) (Cert.Kernel6Ideal.Value.run_blocks (F := Ideal) m ρ)
    obtain ⟨h0, h1⟩ := h c
    rw [final] at h0
    exact ⟨h0, h1⟩
  · refine (θ_run Cert.Reference6Ideal.defs _ _).mono (fun _ h c => ?_) (Cert.Reference6Ideal.Value.run (F := Ideal) m' ρ')
    obtain ⟨h0, h1⟩ := h c
    rw [(hargs c).1, (hargs c).2.1] at h0
    exact ⟨h0.trans (ref_eq (arg0 m c) (arg1 m c)), h1⟩

end Cert.Dyn

end
-- ==== Proof.Dwo.lean ====
/- The gradient of the mixer's output weight, one block per grid point, is that of `y @ w`. -/
module

public import proofs.«01_k».proof.Defs
public import proofs.«01_k».proof.Proof.Gen.Kernel7Ideal.Value
public import proofs.«01_k».proof.Proof.Gen.Reference7Ideal.Run
public import Idealize.ShloMosaic.Lib.Claim
public import Idealize.ShloMosaic.Lib.Pipeline.ValueKit

@[expose] public section

set_option maxRecDepth 16384

noncomputable section

namespace Cert.Dwo

open Idealize.ShloMosaic Idealize.ShloMosaic.TcCoe Idealize.SL.Sem
open scoped BigOperators

section Left

open Cert.Kernel7Ideal Cert.Kernel7Ideal.Gen

/-- The gradient at a row and a column. -/
def grad (y g : FVec Ideal S4096x2048 .bf16) : FVec Ideal S2048x2048 .bf16 := fun z =>
  ∑ t : Fin 4096, y (ix2 t (z 0)) * g (ix2 t (z 1))

theorem pay_at (v0 : FVec Ideal S4096x512 .bf16) (v1 : FVec Ideal S4096x1024 .bf16) (p : Fin 512) (q : Fin 1024) :
    k0_pay1 (F := Ideal) v0 v1 (ix2 p q) = ∑ t : Fin 4096, v0 (ix2 t p) * v1 (ix2 t q) := by
  unfold k0_pay1
  pointwise

variable (m : (ℓ : Loc nD τ sig) → Buf (Elt Ideal) ℓ) (c : Dev nD)

abbrev arg0 : FVec Ideal S4096x2048 .bf16 := m ((c.tc : Thread nD τ).loc main_arg0)
abbrev arg1 : FVec Ideal S4096x2048 .bf16 := m ((c.tc : Thread nD τ).loc main_arg1)

theorem ix_y : ∀ t : Fin cfg0.N, win0_0.index t = ![0, t.val / 2] := by decide +kernel
theorem ix_g : ∀ t : Fin cfg0.N, win0_1.index t = ![0, t.val % 2] := by decide +kernel
theorem ix_o : ∀ t : Fin cfg0.N, win0_2.index t = ![t.val / 2, t.val % 2] := by decide +kernel
theorem lt8 (t : Fin cfg0.N) : t.val < 8 := lt_of_lt_of_eq t.isLt N_0

theorem blk_y (t : Fin cfg0.N) (r : Fin 4096) (p : Fin 512) : (iblk m c 0 t : FVec Ideal S4096x512 .bf16) (ix2 r p)
    = arg0 m c (ix2 r ⟨t.val / 2 * 512 + p.val, by have := lt8 t; omega⟩) := by
  blk_ext! [iblk, V, ix_y t]

theorem blk_g (t : Fin cfg0.N) (r : Fin 4096) (q : Fin 1024) : (iblk m c 1 t : FVec Ideal S4096x1024 .bf16) (ix2 r q)
    = arg1 m c (ix2 r ⟨t.val % 2 * 1024 + q.val, by omega⟩) := by
  blk_ext! [iblk, V, ix_g t]

theorem point (t : Fin cfg0.N) (p : Fin 512) (q : Fin 1024) : k0_pay1 (F := Ideal) (iblk m c 0 t) (iblk m c 1 t) (ix2 p q)
    = grad (arg0 m c) (arg1 m c) (ix2 ⟨t.val / 2 * 512 + p.val, by have := lt8 t; omega⟩ ⟨t.val % 2 * 1024 + q.val, by omega⟩) := by
  refine (pay_at _ _ p q).trans ?_
  simp only [blk_y, blk_g]
  rfl

theorem final : (dats m 0 c).arrAt 2 cfg0.N = grad (arg0 m c) (arg1 m c) := by
  refine (dats m 0 c).arrAt_eq_of_covers 2 _ (by decide +kernel) fun t hf y => ?_
  rw [after0_2]
  idx_vars y
  frame_out
  refine (point m c t y0 y1).trans ?_
  blk_point [ix_o t]

end Left

section Right

open Cert.Reference7Ideal Cert.Reference7Ideal.Gen

theorem ref_eq (y g : FVec Ideal S4096x2048 .bf16) :
    truncf .bf16 (transpose S2048x2048 [1, 0] (Host.dotGeneral dot_S4096x2048_S4096x2048_S2048x2048_0_0_1_1_n_n none (extf .f32 g bitsLt_bf16_f32) (extf .f32 y bitsLt_bf16_f32))
      transposes_S2048x2048_S2048x2048_1_0) bitsLt_bf16_f32 = grad y g := by
  funext z
  idx_vars z
  unfold grad
  pointwise
  exact Finset.sum_congr rfl fun t _ => mul_comm _ _

end Right

theorem algebraic : Cert.algebraic_Kernel7Ideal_Reference7Ideal (hKernel7Ideal := Cert.Kernel7Ideal.Gen.facts) (hReference7Ideal := Cert.Reference7Ideal.Gen.facts) := by
  intro m ρ m' ρ' _ hargs
  refine ⟨fun c => grad (arg0 m c) (arg1 m c), ?_, ?_⟩
  · refine (θ_run Cert.Kernel7Ideal.defs _ _).mono (fun _ h c => ?_) (Cert.Kernel7Ideal.Value.run_blocks (F := Ideal) m ρ)
    obtain ⟨h0, h1⟩ := h c
    rw [final] at h0
    exact ⟨h0, h1⟩
  · refine (θ_run Cert.Reference7Ideal.defs _ _).mono (fun _ h c => ?_) (Cert.Reference7Ideal.Value.run (F := Ideal) m' ρ')
    obtain ⟨h0, h1⟩ := h c
    rw [(hargs c).1, (hargs c).2] at h0
    exact ⟨h0.trans (ref_eq (arg0 m c) (arg1 m c)), h1⟩

end Cert.Dwo

end
-- ==== Proof.Mixer.lean ====
/- The columns of the mixer's input product as the kernels hold them: the recurrence's columns before the forget gate's
   eight, and zeros up to a multiple of the tile. -/
module

public import Idealize.ShloMosaic.Lib.Claim
public import Idealize.ShloMosaic.Lib.Pipeline.ValueKit

@[expose] public section

noncomputable section

namespace Cert.Mixer

open scoped BigOperators

/-- A row of the product's 5640 columns, laid out in 5760. -/
def lay (f : Fin 5640 → EReal) (i : Fin 5760) : EReal :=
  if h : i.val < 4608 then f ⟨i.val, by omega⟩ else if h : i.val < 5632 then f ⟨i.val + 8, by omega⟩
  else if h : i.val < 5640 then f ⟨i.val - 1024, by omega⟩ else 0

theorem lay_a (f : Fin 5640 → EReal) (i : Fin 5760) (j : Fin 5640) (h : i.val < 4608) (e : j.val = i.val) : lay f i = f j := by
  unfold lay
  rw [dif_pos h]
  exact congrArg f (Fin.ext e.symm)

theorem lay_b (f : Fin 5640 → EReal) (i : Fin 5760) (j : Fin 5640) (h : ¬i.val < 4608) (h' : i.val < 5632) (e : j.val = i.val + 8) : lay f i = f j := by
  unfold lay
  rw [dif_neg h, dif_pos h']
  exact congrArg f (Fin.ext e.symm)

theorem lay_c (f : Fin 5640 → EReal) (i : Fin 5760) (j : Fin 5640) (h : ¬i.val < 5632) (h' : i.val < 5640) (e : j.val = i.val - 1024) : lay f i = f j := by
  unfold lay
  rw [dif_neg (by omega), dif_neg h, dif_pos h']
  exact congrArg f (Fin.ext e.symm)

theorem lay_d (f : Fin 5640 → EReal) (i : Fin 5760) (h : ¬i.val < 5640) : lay f i = 0 := by
  unfold lay
  rw [dif_neg (by omega), dif_neg (by omega), dif_neg h]

/-- The layout as four pieces side by side. -/
theorem lay_cut (f : Fin 5640 → EReal) (i : Fin 5760) :
    (if h : i.val < 4608 then f ⟨i.val, by omega⟩ else if h : i.val - 4608 < 1024 then f ⟨4616 + (i.val - 4608), by omega⟩
      else if h : i.val - 4608 - 1024 < 8 then f ⟨4608 + (i.val - 4608 - 1024), by omega⟩ else 0) = lay f i := by
  split
  · exact (lay_a f i _ ‹_› rfl).symm
  · split
    · exact (lay_b f i _ ‹_› (by omega) (by dsimp only; omega)).symm
    · split
      · exact (lay_c f i _ (by omega) (by omega) (by dsimp only; omega)).symm
      · exact (lay_d f i (by omega)).symm

/-- A row of sums is laid out summand by summand. -/
theorem lay_sum {n : Nat} (a : Fin n → EReal) (b : Fin n → Fin 5640 → EReal) (i : Fin 5760) : ∑ k, a k * lay (b k) i = lay (fun j => ∑ k, a k * b k j) i := by
  unfold lay
  split
  · rfl
  · split
    · rfl
    · split
      · rfl
      · simp

/-- Laid out or not, the products sum to the same. -/
theorem sum_lay (f g : Fin 5640 → EReal) : ∑ i, lay f i * lay g i = ∑ j, f j * g j := by
  have l : ∑ i, lay f i * lay g i = (∑ k : Fin 4608, f ⟨k.val, by omega⟩ * g ⟨k.val, by omega⟩) + ((∑ k : Fin 1024, f ⟨4616 + k.val, by omega⟩ * g ⟨4616 + k.val, by omega⟩)
      + ((∑ k : Fin 8, f ⟨4608 + k.val, by omega⟩ * g ⟨4608 + k.val, by omega⟩) + ∑ _k : Fin 120, (0 : EReal))) := by
    refine (Fin.sum_univ_add (a := 4608) (b := 1152) fun i => lay f i * lay g i).trans ?_
    refine congrArg₂ (· + ·) (Finset.sum_congr rfl fun k _ => ?_) ?_
    · exact congrArg₂ (· * ·) (lay_a f _ _ k.isLt rfl) (lay_a g _ _ k.isLt rfl)
    refine (Fin.sum_univ_add (a := 1024) (b := 128) _).trans ?_
    refine congrArg₂ (· + ·) (Finset.sum_congr rfl fun k _ => ?_) ?_
    · have h : ¬(4608 + k.val < 4608) := by omega
      have h' : 4608 + k.val < 5632 := by omega
      have e : 4616 + k.val = 4608 + k.val + 8 := by omega
      exact congrArg₂ (· * ·) (lay_b f _ _ h h' e) (lay_b g _ _ h h' e)
    refine (Fin.sum_univ_add (a := 8) (b := 120) _).trans ?_
    refine congrArg₂ (· + ·) (Finset.sum_congr rfl fun k _ => ?_) (Finset.sum_congr rfl fun k _ => ?_)
    · have h : ¬(4608 + (1024 + k.val) < 5632) := by omega
      have h' : 4608 + (1024 + k.val) < 5640 := by omega
      have e : 4608 + k.val = 4608 + (1024 + k.val) - 1024 := by omega
      exact congrArg₂ (· * ·) (lay_c f _ _ h h' e) (lay_c g _ _ h h' e)
    · have h : ¬(4608 + (1024 + (8 + k.val)) < 5640) := by omega
      exact (congrArg₂ (· * ·) (lay_d f _ h) (lay_d g _ h)).trans (mul_zero 0)
  have r : ∑ j, f j * g j = (∑ k : Fin 4608, f ⟨k.val, by omega⟩ * g ⟨k.val, by omega⟩) + ((∑ k : Fin 8, f ⟨4608 + k.val, by omega⟩ * g ⟨4608 + k.val, by omega⟩)
      + ∑ k : Fin 1024, f ⟨4616 + k.val, by omega⟩ * g ⟨4616 + k.val, by omega⟩) := by
    refine (Fin.sum_univ_add (a := 4608) (b := 1032) fun j => f j * g j).trans (congrArg₂ (· + ·) rfl ?_)
    refine (Fin.sum_univ_add (a := 8) (b := 1024) _).trans (congrArg₂ (· + ·) rfl (Finset.sum_congr rfl fun k _ => ?_))
    have e : Fin.natAdd 4608 (Fin.natAdd 8 k) = (⟨4616 + k.val, by omega⟩ : Fin 5640) := Fin.ext (by show 4608 + (8 + k.val) = 4616 + k.val; omega)
    exact congrArg₂ (· * ·) (congrArg f e) (congrArg g e)
  rw [l, r, Finset.sum_const_zero, add_zero, add_comm (∑ k : Fin 1024, _)]

end Cert.Mixer

end
-- ==== Proof.DhMix.lean ====
/- The gradient of the mixer's normed input: over the padded and reordered columns the sum is the one over the weight's own
   columns, the padding's products being zero. -/
module

public import proofs.«01_k».proof.Defs
public import proofs.«01_k».proof.Proof.Mixer
public import proofs.«01_k».proof.Proof.Gen.Kernel8Ideal.Value
public import proofs.«01_k».proof.Proof.Gen.Reference8Ideal.Run
public import Idealize.ShloMosaic.Lib.Claim
public import Idealize.ShloMosaic.Lib.Pipeline.ValueKit

@[expose] public section

set_option maxRecDepth 16384

noncomputable section

namespace Cert.DhMix

open Idealize.ShloMosaic Idealize.ShloMosaic.TcCoe Idealize.SL.Sem
open scoped BigOperators

section Left

open Cert.Kernel8Ideal Cert.Kernel8Ideal.Gen

/-- The gradient at a row and a column. -/
def grad (g : FVec Ideal S4096x5640 .f32) (w : FVec Ideal S2048x5640 .f32) : FVec Ideal S4096x2048 .f32 := fun z =>
  ∑ j : Fin 5640, g (ix2 (z 0) j) * w (ix2 (z 1) j)

theorem pay_at (v0 : FVec Ideal S512x5760 .bf16) (v1 : FVec Ideal S1024x5760 .bf16) (p : Fin 512) (q : Fin 1024) :
    k0_pay1 (F := Ideal) v0 v1 (ix2 p q) = ∑ i : Fin 5760, v0 (ix2 p i) * v1 (ix2 q i) := by
  unfold k0_pay1
  pointwise

/-- The cotangent as the kernel takes it. -/
def padG (w : FVec Ideal S4096x5640 .f32) : FVec Ideal S4096x5760 .bf16 :=
  truncf .bf16 (concatenate S4096x5760 1 [⟨S4096x4608, extractStridedSlice S4096x4608 ![0, 0] w slices_S4096x5640_S4096x4608_0_0⟩,
    ⟨S4096x1024, extractStridedSlice S4096x1024 ![0, 4616] w slices_S4096x5640_S4096x1024_0_4616⟩,
    ⟨S4096x8, extractStridedSlice S4096x8 ![0, 4608] w slices_S4096x5640_S4096x8_0_4608⟩,
    ⟨S4096x120, broadcastInDim S4096x120 ![] bcast_S_S4096x120 (constant S_ .f32 0x00000000#32)⟩]
    concatenates_S4096x4608_S4096x1024_S4096x8_S4096x120_S4096x5760_d1 : FVec Ideal S4096x5760 .f32) bitsLt_bf16_f32

theorem padG_at (w : FVec Ideal S4096x5640 .f32) (r : Fin 4096) (i : Fin 5760) : padG w (ix2 r i) = Mixer.lay (fun j => w (ix2 r j)) i := by
  unfold padG
  pointwise
  exact Mixer.lay_cut (fun j => w (ix2 r j)) i

/-- The weight as the kernel takes it. -/
def padW (w : FVec Ideal S2048x5640 .f32) : FVec Ideal S2048x5760 .bf16 :=
  truncf .bf16 (concatenate S2048x5760 1 [⟨S2048x4608, extractStridedSlice S2048x4608 ![0, 0] w slices_S2048x5640_S2048x4608_0_0⟩,
    ⟨S2048x1024, extractStridedSlice S2048x1024 ![0, 4616] w slices_S2048x5640_S2048x1024_0_4616⟩,
    ⟨S2048x8, extractStridedSlice S2048x8 ![0, 4608] w slices_S2048x5640_S2048x8_0_4608⟩,
    ⟨S2048x120, broadcastInDim S2048x120 ![] bcast_S_S2048x120 (constant S_ .f32 0x00000000#32)⟩]
    concatenates_S2048x4608_S2048x1024_S2048x8_S2048x120_S2048x5760_d1 : FVec Ideal S2048x5760 .f32) bitsLt_bf16_f32

theorem padW_at (w : FVec Ideal S2048x5640 .f32) (r : Fin 2048) (i : Fin 5760) : padW w (ix2 r i) = Mixer.lay (fun j => w (ix2 r j)) i := by
  unfold padW
  pointwise
  exact Mixer.lay_cut (fun j => w (ix2 r j)) i

variable (m : (ℓ : Loc nD τ sig) → Buf (Elt Ideal) ℓ) (c : Dev nD)

abbrev arg0 : FVec Ideal S4096x5640 .f32 := m ((c.tc : Thread nD τ).loc main_arg0)
abbrev arg1 : FVec Ideal S2048x5640 .f32 := m ((c.tc : Thread nD τ).loc main_arg1)

theorem entry_g_arr : (V m c main_v5 : FVec Ideal S4096x5760 .bf16) = padG (arg0 m c) := by
  show StableHlo.after hostOps0 (fun b => m (c, b)) main_v5 = _
  after_results <;> rfl

theorem entry_g (r : Fin 4096) (i : Fin 5760) : (V m c main_v5 : FVec Ideal S4096x5760 .bf16) (ix2 r i) = Mixer.lay (fun j => arg0 m c (ix2 r j)) i := by
  rw [entry_g_arr, padG_at]

theorem entry_w_arr : (V m c main_v11 : FVec Ideal S2048x5760 .bf16) = padW (arg1 m c) := by
  show StableHlo.after hostOps0 (fun b => m (c, b)) main_v11 = _
  after_results <;> rfl

theorem entry_w (d : Fin 2048) (i : Fin 5760) : (V m c main_v11 : FVec Ideal S2048x5760 .bf16) (ix2 d i) = Mixer.lay (fun j => arg1 m c (ix2 d j)) i := by
  rw [entry_w_arr, padW_at]

theorem ix_g : ∀ t : Fin cfg0.N, win0_0.index t = ![t.val % 8, 0] := by decide +kernel
theorem ix_w : ∀ t : Fin cfg0.N, win0_1.index t = ![t.val / 8, 0] := by decide +kernel
theorem ix_o : ∀ t : Fin cfg0.N, win0_2.index t = ![t.val % 8, t.val / 8] := by decide +kernel
theorem lt16 (t : Fin cfg0.N) : t.val < 16 := lt_of_lt_of_eq t.isLt N_0

theorem blk_g (t : Fin cfg0.N) (p : Fin 512) (i : Fin 5760) : (iblk m c 0 t : FVec Ideal S512x5760 .bf16) (ix2 p i)
    = Mixer.lay (fun j => arg0 m c (ix2 ⟨t.val % 8 * 512 + p.val, by omega⟩ j)) i := by
  have h : (iblk m c 0 t : FVec Ideal S512x5760 .bf16) (ix2 p i) = (V m c main_v5 : FVec Ideal S4096x5760 .bf16) (ix2 ⟨t.val % 8 * 512 + p.val, by omega⟩ i) := by
    blk_ext! [iblk, ix_g t]
  exact h.trans (entry_g m c _ i)

theorem blk_w (t : Fin cfg0.N) (q : Fin 1024) (i : Fin 5760) : (iblk m c 1 t : FVec Ideal S1024x5760 .bf16) (ix2 q i)
    = Mixer.lay (fun j => arg1 m c (ix2 ⟨t.val / 8 * 1024 + q.val, by have := lt16 t; omega⟩ j)) i := by
  have h : (iblk m c 1 t : FVec Ideal S1024x5760 .bf16) (ix2 q i) = (V m c main_v11 : FVec Ideal S2048x5760 .bf16) (ix2 ⟨t.val / 8 * 1024 + q.val, by have := lt16 t; omega⟩ i) := by
    blk_ext! [iblk, ix_w t]
  exact h.trans (entry_w m c _ i)

theorem point (t : Fin cfg0.N) (p : Fin 512) (q : Fin 1024) : k0_pay1 (F := Ideal) (iblk m c 0 t) (iblk m c 1 t) (ix2 p q)
    = grad (arg0 m c) (arg1 m c) (ix2 ⟨t.val % 8 * 512 + p.val, by omega⟩ ⟨t.val / 8 * 1024 + q.val, by have := lt16 t; omega⟩) := by
  refine (pay_at _ _ p q).trans ?_
  simp only [blk_g, blk_w]
  exact Mixer.sum_lay _ _

theorem final : (dats m 0 c).arrAt 2 cfg0.N = grad (arg0 m c) (arg1 m c) := by
  refine (dats m 0 c).arrAt_eq_of_covers 2 _ (by decide +kernel) fun t hf y => ?_
  rw [after0_2]
  idx_vars y
  frame_out
  refine (point m c t y0 y1).trans ?_
  generalize grad (arg0 m c) (arg1 m c) = G
  blk_point [ix_o t]

end Left

section Right

open Cert.Reference8Ideal Cert.Reference8Ideal.Gen

theorem ref_eq (g : FVec Ideal S4096x5640 .f32) (w : FVec Ideal S2048x5640 .f32) :
    Host.dotGeneral dot_S4096x5640_S2048x5640_S4096x2048_1_1_0_0_n_n none g w = grad g w := by
  funext z
  idx_vars z
  unfold grad
  pointwise

end Right

theorem algebraic : Cert.algebraic_Kernel8Ideal_Reference8Ideal (hKernel8Ideal := Cert.Kernel8Ideal.Gen.facts) (hReference8Ideal := Cert.Reference8Ideal.Gen.facts) := by
  intro m ρ m' ρ' _ hargs
  refine ⟨fun c => grad (arg0 m c) (arg1 m c), ?_, ?_⟩
  · refine (θ_run Cert.Kernel8Ideal.defs _ _).mono (fun _ h c => ?_) (Cert.Kernel8Ideal.Value.run_blocks (F := Ideal) m ρ)
    obtain ⟨h0, h1⟩ := h c
    rw [final] at h0
    exact ⟨h0, h1⟩
  · refine (θ_run Cert.Reference8Ideal.defs _ _).mono (fun _ h c => ?_) (Cert.Reference8Ideal.Value.run (F := Ideal) m' ρ')
    obtain ⟨h0, h1⟩ := h c
    rw [(hargs c).1, (hargs c).2] at h0
    exact ⟨h0.trans (ref_eq (arg0 m c) (arg1 m c)), h1⟩

end Cert.DhMix

end
-- ==== Proof.Dwmix.lean ====
/- The gradient of the mixer's input weight, in the kernels' layout of its columns, is that of `h @ w`, its columns laid out so. -/
module

public import proofs.«01_k».proof.Defs
public import proofs.«01_k».proof.Proof.Mixer
public import proofs.«01_k».proof.Proof.Gen.Kernel9Ideal.Value
public import proofs.«01_k».proof.Proof.Gen.Reference9Ideal.Run
public import Idealize.ShloMosaic.Lib.Claim
public import Idealize.ShloMosaic.Lib.Pipeline.ValueKit

@[expose] public section

set_option maxRecDepth 16384

noncomputable section

namespace Cert.Dwmix

open Idealize.ShloMosaic Idealize.ShloMosaic.TcCoe Idealize.SL.Sem
open scoped BigOperators

section Left

open Cert.Kernel9Ideal Cert.Kernel9Ideal.Gen

/-- The gradient at a row and a column of the layout. -/
def grad (h : FVec Ideal S4096x2048 .bf16) (g : FVec Ideal S4096x5640 .f32) : FVec Ideal S2048x5760 .bf16 := fun z =>
  Mixer.lay (fun j => ∑ t : Fin 4096, h (ix2 t (z 0)) * g (ix2 t j)) (z 1)

theorem pay_at (v0 : FVec Ideal S4096x512 .bf16) (v1 : FVec Ideal S4096x1152 .bf16) (p : Fin 512) (q : Fin 1152) :
    k0_pay1 (F := Ideal) v0 v1 (ix2 p q) = ∑ t : Fin 4096, v0 (ix2 t p) * v1 (ix2 t q) := by
  unfold k0_pay1
  pointwise

/-- The cotangent as the kernel takes it. -/
def padG (w : FVec Ideal S4096x5640 .f32) : FVec Ideal S4096x5760 .bf16 :=
  truncf .bf16 (concatenate S4096x5760 1 [⟨S4096x4608, extractStridedSlice S4096x4608 ![0, 0] w slices_S4096x5640_S4096x4608_0_0⟩,
    ⟨S4096x1024, extractStridedSlice S4096x1024 ![0, 4616] w slices_S4096x5640_S4096x1024_0_4616⟩,
    ⟨S4096x8, extractStridedSlice S4096x8 ![0, 4608] w slices_S4096x5640_S4096x8_0_4608⟩,
    ⟨S4096x120, broadcastInDim S4096x120 ![] bcast_S_S4096x120 (constant S_ .f32 0x00000000#32)⟩]
    concatenates_S4096x4608_S4096x1024_S4096x8_S4096x120_S4096x5760_d1 : FVec Ideal S4096x5760 .f32) bitsLt_bf16_f32

theorem padG_at (w : FVec Ideal S4096x5640 .f32) (r : Fin 4096) (i : Fin 5760) : padG w (ix2 r i) = Mixer.lay (fun j => w (ix2 r j)) i := by
  unfold padG
  pointwise
  exact Mixer.lay_cut (fun j => w (ix2 r j)) i

variable (m : (ℓ : Loc nD τ sig) → Buf (Elt Ideal) ℓ) (c : Dev nD)

abbrev arg0 : FVec Ideal S4096x2048 .bf16 := m ((c.tc : Thread nD τ).loc main_arg0)
abbrev arg1 : FVec Ideal S4096x5640 .f32 := m ((c.tc : Thread nD τ).loc main_arg1)

theorem entry_g_arr : (V m c main_v5 : FVec Ideal S4096x5760 .bf16) = padG (arg1 m c) := by
  show StableHlo.after hostOps0 (fun b => m (c, b)) main_v5 = _
  after_results <;> rfl

theorem entry_g (r : Fin 4096) (i : Fin 5760) : (V m c main_v5 : FVec Ideal S4096x5760 .bf16) (ix2 r i) = Mixer.lay (fun j => arg1 m c (ix2 r j)) i := by
  rw [entry_g_arr, padG_at]

theorem ix_h : ∀ t : Fin cfg0.N, win0_0.index t = ![0, t.val / 5] := by decide +kernel
theorem ix_g : ∀ t : Fin cfg0.N, win0_1.index t = ![0, t.val % 5] := by decide +kernel
theorem ix_o : ∀ t : Fin cfg0.N, win0_2.index t = ![t.val / 5, t.val % 5] := by decide +kernel
theorem lt20 (t : Fin cfg0.N) : t.val < 20 := lt_of_lt_of_eq t.isLt N_0

theorem blk_h (t : Fin cfg0.N) (r : Fin 4096) (p : Fin 512) : (iblk m c 0 t : FVec Ideal S4096x512 .bf16) (ix2 r p)
    = arg0 m c (ix2 r ⟨t.val / 5 * 512 + p.val, by have := lt20 t; omega⟩) := by
  blk_ext! [iblk, V, ix_h t]

theorem blk_g (t : Fin cfg0.N) (r : Fin 4096) (q : Fin 1152) : (iblk m c 1 t : FVec Ideal S4096x1152 .bf16) (ix2 r q)
    = Mixer.lay (fun j => arg1 m c (ix2 r j)) ⟨t.val % 5 * 1152 + q.val, by omega⟩ := by
  have h : (iblk m c 1 t : FVec Ideal S4096x1152 .bf16) (ix2 r q) = (V m c main_v5 : FVec Ideal S4096x5760 .bf16) (ix2 r ⟨t.val % 5 * 1152 + q.val, by omega⟩) := by
    blk_ext! [iblk, ix_g t]
  exact h.trans (entry_g m c r _)

theorem point (t : Fin cfg0.N) (p : Fin 512) (q : Fin 1152) : k0_pay1 (F := Ideal) (iblk m c 0 t) (iblk m c 1 t) (ix2 p q)
    = grad (arg0 m c) (arg1 m c) (ix2 ⟨t.val / 5 * 512 + p.val, by have := lt20 t; omega⟩ ⟨t.val % 5 * 1152 + q.val, by omega⟩) := by
  refine (pay_at _ _ p q).trans ?_
  simp only [blk_h, blk_g]
  exact Mixer.lay_sum _ _ _

theorem final : (dats m 0 c).arrAt 2 cfg0.N = grad (arg0 m c) (arg1 m c) := by
  refine (dats m 0 c).arrAt_eq_of_covers 2 _ (by decide +kernel) fun t hf y => ?_
  rw [after0_2]
  idx_vars y
  frame_out
  refine (point m c t y0 y1).trans ?_
  generalize grad (arg0 m c) (arg1 m c) = G
  blk_point [ix_o t]

end Left

section Right

open Cert.Reference9Ideal Cert.Reference9Ideal.Gen

/-- The gradient in reference.py's order of the columns. -/
def dot (h : FVec Ideal S4096x2048 .bf16) (g : FVec Ideal S4096x5640 .f32) : FVec Ideal S2048x5640 .bf16 :=
  truncf .bf16 (transpose S2048x5640 [1, 0] (Host.dotGeneral dot_S4096x5640_S4096x2048_S5640x2048_0_0_1_1_n_n none g (extf .f32 h bitsLt_bf16_f32)) transposes_S5640x2048_S2048x5640_1_0) bitsLt_bf16_f32

theorem dot_at (h : FVec Ideal S4096x2048 .bf16) (g : FVec Ideal S4096x5640 .f32) (d : Fin 2048) (j : Fin 5640) :
    dot h g (ix2 d j) = ∑ t : Fin 4096, h (ix2 t d) * g (ix2 t j) := by
  unfold dot
  pointwise
  exact Finset.sum_congr rfl fun t _ => mul_comm _ _

/-- The reference's array. -/
def refArr (h : FVec Ideal S4096x2048 .bf16) (g : FVec Ideal S4096x5640 .f32) : FVec Ideal S2048x5760 .bf16 :=
  concatenate S2048x5760 1 [⟨S2048x4608, extractStridedSlice S2048x4608 ![0, 0] (dot h g) slices_S2048x5640_S2048x4608_0_0⟩,
    ⟨S2048x1024, extractStridedSlice S2048x1024 ![0, 4616] (dot h g) slices_S2048x5640_S2048x1024_0_4616⟩,
    ⟨S2048x8, extractStridedSlice S2048x8 ![0, 4608] (dot h g) slices_S2048x5640_S2048x8_0_4608⟩,
    ⟨S2048x120, broadcastInDim S2048x120 ![] bcast_S_S2048x120 (constant S_ .bf16 0x0000#16)⟩]
    concatenates_S2048x4608_S2048x1024_S2048x8_S2048x120_S2048x5760_d1

theorem ref_eq (h : FVec Ideal S4096x2048 .bf16) (g : FVec Ideal S4096x5640 .f32) : refArr h g = grad h g := by
  funext z
  idx_vars z
  show _ = Mixer.lay (fun j => ∑ t : Fin 4096, h (ix2 t z0) * g (ix2 t j)) z1
  simp only [← dot_at]
  unfold refArr
  generalize dot h g = d
  pointwise
  exact Mixer.lay_cut (fun j => d (ix2 z0 j)) z1

end Right

theorem algebraic : Cert.algebraic_Kernel9Ideal_Reference9Ideal (hKernel9Ideal := Cert.Kernel9Ideal.Gen.facts) (hReference9Ideal := Cert.Reference9Ideal.Gen.facts) := by
  intro m ρ m' ρ' _ hargs
  refine ⟨fun c => grad (arg0 m c) (arg1 m c), ?_, ?_⟩
  · refine (θ_run Cert.Kernel9Ideal.defs _ _).mono (fun _ h c => ?_) (Cert.Kernel9Ideal.Value.run_blocks (F := Ideal) m ρ)
    obtain ⟨h0, h1⟩ := h c
    rw [final] at h0
    exact ⟨h0, h1⟩
  · refine (θ_run Cert.Reference9Ideal.defs _ _).mono (fun _ h c => ?_) (Cert.Reference9Ideal.Value.run (F := Ideal) m' ρ')
    obtain ⟨h0, h1⟩ := h c
    rw [(hargs c).1, (hargs c).2] at h0
    exact ⟨h0.trans (ref_eq (arg0 m c) (arg1 m c)), h1⟩

end Cert.Dwmix

end
-- ==== Proof.FfnIn.lean ====
/- A feed-forward half's input product, its two factors tile by tile from the weight's four column blocks, and its
   activation, with the logistic through the hyperbolic tangent, are the halves of `h @ w` and their `silu(g) * u`. -/
module

public import proofs.«01_k».proof.Defs
public import proofs.«01_k».proof.Proof.Dz
public import proofs.«01_k».proof.Proof.Gen.Kernel10Ideal.Value
public import proofs.«01_k».proof.Proof.Gen.Reference10Ideal.Run
public import Idealize.ShloMosaic.Lib.Claim
public import Idealize.ShloMosaic.Lib.Pipeline.ValueKit

@[expose] public section

set_option maxRecDepth 16384

noncomputable section

namespace Cert.FfnIn

open Idealize.ShloMosaic Idealize.ShloMosaic.TcCoe Idealize.SL.Sem
open scoped BigOperators

section Left

open Cert.Kernel10Ideal Cert.Kernel10Ideal.Gen

/-- The product at a row and a column. -/
def prod (h : FVec Ideal S4096x2048 .bf16) (w : FVec Ideal S2048x11264 .f32) (r : Fin 4096) (j : Fin 11264) : EReal :=
  ∑ e : Fin 2048, h (ix2 r e) * w (ix2 e j)

/-- The two factors. -/
def zg (h : FVec Ideal S4096x2048 .bf16) (w : FVec Ideal S2048x11264 .f32) : FVec Ideal S4096x5632 .bf16 := fun z =>
  prod h w (z 0) ⟨(z 1).val, by have h : (z 1).val < 5632 := (z 1).isLt; omega⟩
def zu (h : FVec Ideal S4096x2048 .bf16) (w : FVec Ideal S2048x11264 .f32) : FVec Ideal S4096x5632 .bf16 := fun z =>
  prod h w (z 0) ⟨5632 + (z 1).val, by have h : (z 1).val < 5632 := (z 1).isLt; omega⟩

/-- The activation. -/
def act (h : FVec Ideal S4096x2048 .bf16) (w : FVec Ideal S2048x11264 .f32) : FVec Ideal S4096x5632 .bf16 := fun z =>
  zg h w (ix2 (z 0) (z 1)) * Dz.sg (zg h w (ix2 (z 0) (z 1))) * zu h w (ix2 (z 0) (z 1))

variable (v0 : FVec Ideal S1024x2048 .bf16) (v1 v4 : FVec Ideal S1x2048x256 .bf16) (p : Fin 1024) (q : Fin 256)

theorem pay1_at : k0_pay1 (F := Ideal) v0 v1 (ix2 p q) = ∑ e : Fin 2048, v0 (ix2 p e) * v1 (ix3 0 e q) := by
  unfold k0_pay1
  pointwise

theorem pay2_at : k0_pay2 (F := Ideal) v0 v4 (ix2 p q) = ∑ e : Fin 2048, v0 (ix2 p e) * v4 (ix3 0 e q) := by
  unfold k0_pay2
  pointwise

theorem pay3_at : k0_pay3 (F := Ideal) v0 v1 (ix2 p q) = ∑ e : Fin 2048, v0 (ix2 p e) * v1 (ix3 0 e q) := by
  unfold k0_pay3
  pointwise
  rw [pay1_at]

theorem pay4_at : k0_pay4 (F := Ideal) v0 v4 (ix2 p q) = ∑ e : Fin 2048, v0 (ix2 p e) * v4 (ix3 0 e q) := by
  unfold k0_pay4
  pointwise
  rw [pay2_at]

theorem pay5_at : k0_pay5 (F := Ideal) v0 v1 v4 (ix2 p q)
    = (∑ e : Fin 2048, v0 (ix2 p e) * v1 (ix3 0 e q)) * Dz.sg (∑ e : Fin 2048, v0 (ix2 p e) * v1 (ix3 0 e q)) * ∑ e : Fin 2048, v0 (ix2 p e) * v4 (ix3 0 e q) := by
  unfold k0_pay5 Dz.sg
  pointwise
  rw [Dwout.half_word, pay1_at, pay2_at]

variable (m : (ℓ : Loc nD τ sig) → Buf (Elt Ideal) ℓ) (c : Dev nD)

abbrev arg0 : FVec Ideal S4096x2048 .bf16 := m ((c.tc : Thread nD τ).loc main_arg0)
abbrev arg1 : FVec Ideal S2048x11264 .f32 := m ((c.tc : Thread nD τ).loc main_arg1)

/-- The weight's four column blocks. -/
theorem entry_w (b : Fin 4) (e : Fin 2048) (j : Fin 2816) :
    (V m c main_v2 : FVec Ideal S4x2048x2816 .bf16) (ix3 b e j) = arg1 m c (ix2 e ⟨b.val * 2816 + j.val, by omega⟩) := by
  simp only [V, List.flatten_cons, List.flatten_nil, List.append_nil, StableHlo.after_append]
  entry_read
  pointwise

theorem ix_h : ∀ t : Fin cfg0.N, win0_0.index t = ![t.val / 22, 0] := by decide +kernel
theorem ix_w0 : ∀ t : Fin cfg0.N, win0_1.index t = ![t.val % 22 / 11, 0, t.val % 11] := by decide +kernel
theorem ix_w1 : ∀ t : Fin cfg0.N, win0_2.index t = ![2 + t.val % 22 / 11, 0, t.val % 11] := by decide +kernel
theorem ix_o3 : ∀ t : Fin cfg0.N, win0_3.index t = ![t.val / 22, t.val % 22] := by decide +kernel
theorem ix_o4 : ∀ t : Fin cfg0.N, win0_4.index t = ![t.val / 22, t.val % 22] := by decide +kernel
theorem ix_o5 : ∀ t : Fin cfg0.N, win0_5.index t = ![t.val / 22, t.val % 22] := by decide +kernel
theorem lt88 (t : Fin cfg0.N) : t.val < 88 := lt_of_lt_of_eq t.isLt N_0

theorem blk_h (t : Fin cfg0.N) (p : Fin 1024) (e : Fin 2048) : (iblk m c 0 t : FVec Ideal S1024x2048 .bf16) (ix2 p e)
    = arg0 m c (ix2 ⟨t.val / 22 * 1024 + p.val, by have := lt88 t; omega⟩ e) := by
  blk_ext! [iblk, V, ix_h t]

theorem blk_w0 (t : Fin cfg0.N) (e : Fin 2048) (q : Fin 256) : (iblk m c 1 t : FVec Ideal S1x2048x256 .bf16) (ix3 0 e q)
    = arg1 m c (ix2 e ⟨t.val % 22 * 256 + q.val, by omega⟩) := by
  have h : (iblk m c 1 t : FVec Ideal S1x2048x256 .bf16) (ix3 0 e q)
      = (V m c main_v2 : FVec Ideal S4x2048x2816 .bf16) (ix3 ⟨t.val % 22 / 11, by omega⟩ e ⟨t.val % 11 * 256 + q.val, by omega⟩) := by
    blk_ext! [iblk, ix_w0 t]
  refine h.trans ((entry_w m c _ e _).trans (congrArg (fun j => arg1 m c (ix2 e j)) (Fin.ext ?_)))
  dsimp only
  omega

theorem blk_w1 (t : Fin cfg0.N) (e : Fin 2048) (q : Fin 256) : (iblk m c 2 t : FVec Ideal S1x2048x256 .bf16) (ix3 0 e q)
    = arg1 m c (ix2 e ⟨5632 + (t.val % 22 * 256 + q.val), by omega⟩) := by
  have h : (iblk m c 2 t : FVec Ideal S1x2048x256 .bf16) (ix3 0 e q)
      = (V m c main_v2 : FVec Ideal S4x2048x2816 .bf16) (ix3 ⟨2 + t.val % 22 / 11, by omega⟩ e ⟨t.val % 11 * 256 + q.val, by omega⟩) := by
    blk_ext! [iblk, ix_w1 t]
  refine h.trans ((entry_w m c _ e _).trans (congrArg (fun j => arg1 m c (ix2 e j)) (Fin.ext ?_)))
  dsimp only
  omega

theorem point3 (t : Fin cfg0.N) (p : Fin 1024) (q : Fin 256) : k0_pay3 (F := Ideal) (iblk m c 0 t) (iblk m c 1 t) (ix2 p q)
    = zg (arg0 m c) (arg1 m c) (ix2 ⟨t.val / 22 * 1024 + p.val, by have := lt88 t; omega⟩ ⟨t.val % 22 * 256 + q.val, by omega⟩) := by
  refine (pay3_at _ _ p q).trans ?_
  simp only [blk_h, blk_w0]
  rfl

theorem point4 (t : Fin cfg0.N) (p : Fin 1024) (q : Fin 256) : k0_pay4 (F := Ideal) (iblk m c 0 t) (iblk m c 2 t) (ix2 p q)
    = zu (arg0 m c) (arg1 m c) (ix2 ⟨t.val / 22 * 1024 + p.val, by have := lt88 t; omega⟩ ⟨t.val % 22 * 256 + q.val, by omega⟩) := by
  refine (pay4_at _ _ p q).trans ?_
  simp only [blk_h, blk_w1]
  rfl

theorem point5 (t : Fin cfg0.N) (p : Fin 1024) (q : Fin 256) : k0_pay5 (F := Ideal) (iblk m c 0 t) (iblk m c 1 t) (iblk m c 2 t) (ix2 p q)
    = act (arg0 m c) (arg1 m c) (ix2 ⟨t.val / 22 * 1024 + p.val, by have := lt88 t; omega⟩ ⟨t.val % 22 * 256 + q.val, by omega⟩) := by
  refine (pay5_at _ _ _ p q).trans ?_
  simp only [blk_h, blk_w0, blk_w1]
  rfl

theorem final3 : (dats m 0 c).arrAt 3 cfg0.N = zg (arg0 m c) (arg1 m c) := by
  refine (dats m 0 c).arrAt_eq_of_covers 3 _ (by decide +kernel) fun t hf y => ?_
  rw [after0_3]
  idx_vars y
  frame_out
  refine (point3 m c t y0 y1).trans ?_
  generalize zg (arg0 m c) (arg1 m c) = G
  blk_point [ix_o3 t]

theorem final4 : (dats m 0 c).arrAt 4 cfg0.N = zu (arg0 m c) (arg1 m c) := by
  refine (dats m 0 c).arrAt_eq_of_covers 4 _ (by decide +kernel) fun t hf y => ?_
  rw [after0_4]
  idx_vars y
  frame_out
  refine (point4 m c t y0 y1).trans ?_
  generalize zu (arg0 m c) (arg1 m c) = G
  blk_point [ix_o4 t]

theorem final5 : (dats m 0 c).arrAt 5 cfg0.N = act (arg0 m c) (arg1 m c) := by
  refine (dats m 0 c).arrAt_eq_of_covers 5 _ (by decide +kernel) fun t hf y => ?_
  rw [after0_5]
  idx_vars y
  frame_out
  refine (point5 m c t y0 y1).trans ?_
  generalize act (arg0 m c) (arg1 m c) = G
  blk_point [ix_o5 t]

end Left

section Right

open Cert.Reference10Ideal Cert.Reference10Ideal.Gen

/-- The product, as the reference has it. -/
def dot (h : FVec Ideal S4096x2048 .bf16) (w : FVec Ideal S2048x11264 .f32) : FVec Ideal S4096x11264 .f32 :=
  Host.dotGeneral dot_S4096x2048_S2048x11264_S4096x11264_1_0_0_1_n_n none (extf .f32 h bitsLt_bf16_f32) w

theorem dot_at (h : FVec Ideal S4096x2048 .bf16) (w : FVec Ideal S2048x11264 .f32) (r : Fin 4096) (j : Fin 11264) : dot h w (ix2 r j) = prod h w r j := by
  unfold dot prod
  pointwise

/-- Its two halves. -/
def left (d : FVec Ideal S4096x11264 .f32) : FVec Ideal S4096x5632 .f32 := extractStridedSlice S4096x5632 ![0, 0] d slices_S4096x11264_S4096x5632_0_0
def right (d : FVec Ideal S4096x11264 .f32) : FVec Ideal S4096x5632 .f32 := extractStridedSlice S4096x5632 ![0, 5632] d slices_S4096x11264_S4096x5632_0_5632

theorem left_at (h : FVec Ideal S4096x2048 .bf16) (w : FVec Ideal S2048x11264 .f32) (r : Fin 4096) (j : Fin 5632) : left (dot h w) (ix2 r j) = zg h w (ix2 r j) := by
  refine Eq.trans ?_ (dot_at h w r ⟨j.val, by omega⟩)
  unfold left
  generalize dot h w = d
  pointwise

theorem right_at (h : FVec Ideal S4096x2048 .bf16) (w : FVec Ideal S2048x11264 .f32) (r : Fin 4096) (j : Fin 5632) : right (dot h w) (ix2 r j) = zu h w (ix2 r j) := by
  refine Eq.trans ?_ (dot_at h w r ⟨5632 + j.val, by omega⟩)
  unfold right
  generalize dot h w = d
  pointwise

theorem ref_zg (h : FVec Ideal S4096x2048 .bf16) (w : FVec Ideal S2048x11264 .f32) : truncf .bf16 (left (dot h w)) bitsLt_bf16_f32 = zg h w := by
  funext z
  idx_vars z
  exact left_at h w z0 z1

theorem ref_zu (h : FVec Ideal S4096x2048 .bf16) (w : FVec Ideal S2048x11264 .f32) : truncf .bf16 (right (dot h w)) bitsLt_bf16_f32 = zu h w := by
  funext z
  idx_vars z
  exact right_at h w z0 z1

/-- The reference's activation. -/
def refAct (g u : FVec Ideal S4096x5632 .f32) : FVec Ideal S4096x5632 .bf16 :=
  truncf .bf16 (mulf (mulf g (Host.divf (broadcastInDim S4096x5632 ![] bcast_S_S4096x5632 (constant S_ .f32 0x3F800000#32))
    (addf (broadcastInDim S4096x5632 ![] bcast_S_S4096x5632 (constant S_ .f32 0x3F800000#32)) (Host.exp (Host.negf g))))) u) bitsLt_bf16_f32

theorem refAct_at (g u : FVec Ideal S4096x5632 .f32) (r : Fin 4096) (j : Fin 5632) : refAct g u (ix2 r j) = g (ix2 r j) * Dz.sg (g (ix2 r j)) * u (ix2 r j) := by
  rw [← Dz.sg_eq]
  unfold refAct
  pointwise

theorem ref_act (h : FVec Ideal S4096x2048 .bf16) (w : FVec Ideal S2048x11264 .f32) : refAct (left (dot h w)) (right (dot h w)) = act h w := by
  funext z
  idx_vars z
  rw [refAct_at, left_at, right_at]
  rfl

end Right

theorem algebraic : Cert.algebraic_Kernel10Ideal_Reference10Ideal (hKernel10Ideal := Cert.Kernel10Ideal.Gen.facts) (hReference10Ideal := Cert.Reference10Ideal.Gen.facts) := by
  intro m ρ m' ρ' _ hargs
  refine ⟨fun c => zg (arg0 m c) (arg1 m c), fun c => zu (arg0 m c) (arg1 m c), fun c => act (arg0 m c) (arg1 m c), ?_, ?_⟩
  · refine (θ_run Cert.Kernel10Ideal.defs _ _).mono (fun _ h c => ?_) (Cert.Kernel10Ideal.Value.run_blocks (F := Ideal) m ρ)
    obtain ⟨h0, h1, h2, h3⟩ := h c
    exact ⟨h0.trans (final3 m c), h1.trans (final4 m c), h2.trans (final5 m c), h3⟩
  · refine (θ_run Cert.Reference10Ideal.defs _ _).mono (fun _ h c => ?_) (Cert.Reference10Ideal.Value.run (F := Ideal) m' ρ')
    obtain ⟨h0, h1, h2, h3⟩ := h c
    rw [(hargs c).1, (hargs c).2] at h0 h1 h2
    exact ⟨h0.trans (ref_zg _ _), h1.trans (ref_zu _ _), h2.trans (ref_act _ _), h3⟩

end Cert.FfnIn

end
-- ==== Proof.FfnOut.lean ====
/- A feed-forward half's output product with its factor one half and its residual is `x + 0.5 * (act @ w)`. -/
module

public import proofs.«01_k».proof.Defs
public import proofs.«01_k».proof.Proof.Dwout
public import proofs.«01_k».proof.Proof.Gen.Kernel11Ideal.Value
public import proofs.«01_k».proof.Proof.Gen.Reference11Ideal.Run
public import Idealize.ShloMosaic.Lib.Claim
public import Idealize.ShloMosaic.Lib.Pipeline.ValueKit

@[expose] public section

set_option maxRecDepth 16384

noncomputable section

namespace Cert.FfnOut

open Idealize.ShloMosaic Idealize.ShloMosaic.TcCoe Idealize.SL.Sem
open scoped BigOperators

section Left

open Cert.Kernel11Ideal Cert.Kernel11Ideal.Gen

/-- The result at a row and a column. -/
def out (a : FVec Ideal S4096x5632 .bf16) (w : FVec Ideal S5632x2048 .f32) (x : FVec Ideal S4096x2048 .f32) : FVec Ideal S4096x2048 .f32 := fun z =>
  x (ix2 (z 0) (z 1)) + (∑ e : Fin 5632, a (ix2 (z 0) e) * w (ix2 e (z 1))) * ((1 / 2 : ℝ) : EReal)

theorem pay_at (v0 : FVec Ideal S512x5632 .bf16) (v1 : FVec Ideal S5632x1024 .bf16) (v2 : FVec Ideal S512x1024 .f32) (p : Fin 512) (q : Fin 1024) :
    k0_pay1 (F := Ideal) v0 v1 v2 (ix2 p q) = v2 (ix2 p q) + (∑ e : Fin 5632, v0 (ix2 p e) * v1 (ix2 e q)) * ((1 / 2 : ℝ) : EReal) := by
  unfold k0_pay1
  pointwise
  rw [Dwout.half_word]

variable (m : (ℓ : Loc nD τ sig) → Buf (Elt Ideal) ℓ) (c : Dev nD)

abbrev arg0 : FVec Ideal S4096x5632 .bf16 := m ((c.tc : Thread nD τ).loc main_arg0)
abbrev arg1 : FVec Ideal S5632x2048 .f32 := m ((c.tc : Thread nD τ).loc main_arg1)
abbrev arg2 : FVec Ideal S4096x2048 .f32 := m ((c.tc : Thread nD τ).loc main_arg2)

theorem entry_w (e : Fin 5632) (j : Fin 2048) : (V m c main_v0 : FVec Ideal S5632x2048 .bf16) (ix2 e j) = arg1 m c (ix2 e j) := by
  simp only [V, List.flatten_cons, List.flatten_nil, List.append_nil, StableHlo.after_append]
  entry_read
  pointwise

theorem ix_a : ∀ t : Fin cfg0.N, win0_0.index t = ![t.val % 8, 0] := by decide +kernel
theorem ix_w : ∀ t : Fin cfg0.N, win0_1.index t = ![0, t.val / 8] := by decide +kernel
theorem ix_x : ∀ t : Fin cfg0.N, win0_2.index t = ![t.val % 8, t.val / 8] := by decide +kernel
theorem ix_o : ∀ t : Fin cfg0.N, win0_3.index t = ![t.val % 8, t.val / 8] := by decide +kernel
theorem lt16 (t : Fin cfg0.N) : t.val < 16 := lt_of_lt_of_eq t.isLt N_0

theorem blk_a (t : Fin cfg0.N) (p : Fin 512) (e : Fin 5632) : (iblk m c 0 t : FVec Ideal S512x5632 .bf16) (ix2 p e)
    = arg0 m c (ix2 ⟨t.val % 8 * 512 + p.val, by have := lt16 t; omega⟩ e) := by
  blk_ext! [iblk, V, ix_a t]

theorem blk_w (t : Fin cfg0.N) (e : Fin 5632) (q : Fin 1024) : (iblk m c 1 t : FVec Ideal S5632x1024 .bf16) (ix2 e q)
    = arg1 m c (ix2 e ⟨t.val / 8 * 1024 + q.val, by have := lt16 t; omega⟩) := by
  have h : (iblk m c 1 t : FVec Ideal S5632x1024 .bf16) (ix2 e q) = (V m c main_v0 : FVec Ideal S5632x2048 .bf16) (ix2 e ⟨t.val / 8 * 1024 + q.val, by have := lt16 t; omega⟩) := by
    blk_ext! [iblk, ix_w t]
  exact h.trans (entry_w m c e _)

theorem blk_x (t : Fin cfg0.N) (p : Fin 512) (q : Fin 1024) : (iblk m c 2 t : FVec Ideal S512x1024 .f32) (ix2 p q)
    = arg2 m c (ix2 ⟨t.val % 8 * 512 + p.val, by have := lt16 t; omega⟩ ⟨t.val / 8 * 1024 + q.val, by have := lt16 t; omega⟩) := by
  blk_ext! [iblk, V, ix_x t]

theorem point (t : Fin cfg0.N) (p : Fin 512) (q : Fin 1024) : k0_pay1 (F := Ideal) (iblk m c 0 t) (iblk m c 1 t) (iblk m c 2 t) (ix2 p q)
    = out (arg0 m c) (arg1 m c) (arg2 m c) (ix2 ⟨t.val % 8 * 512 + p.val, by have := lt16 t; omega⟩ ⟨t.val / 8 * 1024 + q.val, by have := lt16 t; omega⟩) := by
  refine (pay_at _ _ _ p q).trans ?_
  simp only [blk_a, blk_w, blk_x]
  rfl

theorem final : (dats m 0 c).arrAt 3 cfg0.N = out (arg0 m c) (arg1 m c) (arg2 m c) := by
  refine (dats m 0 c).arrAt_eq_of_covers 3 _ (by decide +kernel) fun t hf y => ?_
  rw [after0_3]
  idx_vars y
  frame_out
  refine (point m c t y0 y1).trans ?_
  blk_point [ix_o t]

end Left

section Right

open Cert.Reference11Ideal Cert.Reference11Ideal.Gen

theorem ref_eq (a : FVec Ideal S4096x5632 .bf16) (w : FVec Ideal S5632x2048 .f32) (x : FVec Ideal S4096x2048 .f32) :
    addf x (mulf (broadcastInDim S4096x2048 ![] bcast_S_S4096x2048 (constant S_ .f32 0x3F000000#32)) (Host.dotGeneral dot_S4096x5632_S5632x2048_S4096x2048_1_0_0_1_n_n none (extf .f32 a bitsLt_bf16_f32) w)) = out a w x := by
  funext z
  idx_vars z
  unfold out
  pointwise
  rw [Dwout.half_word, mul_comm]

end Right

theorem algebraic : Cert.algebraic_Kernel11Ideal_Reference11Ideal (hKernel11Ideal := Cert.Kernel11Ideal.Gen.facts) (hReference11Ideal := Cert.Reference11Ideal.Gen.facts) := by
  intro m ρ m' ρ' _ hargs
  refine ⟨fun c => out (arg0 m c) (arg1 m c) (arg2 m c), ?_, ?_⟩
  · refine (θ_run Cert.Kernel11Ideal.defs _ _).mono (fun _ h c => ?_) (Cert.Kernel11Ideal.Value.run_blocks (F := Ideal) m ρ)
    obtain ⟨h0, h1⟩ := h c
    rw [final] at h0
    exact ⟨h0, h1⟩
  · refine (θ_run Cert.Reference11Ideal.defs _ _).mono (fun _ h c => ?_) (Cert.Reference11Ideal.Value.run (F := Ideal) m' ρ')
    obtain ⟨h0, h1⟩ := h c
    rw [(hargs c).1, (hargs c).2.1, (hargs c).2.2] at h0
    exact ⟨h0.trans (ref_eq (arg0 m c) (arg1 m c) (arg2 m c)), h1⟩

end Cert.FfnOut

end
-- ==== Proof.MixIn.lean ====
/- The mixer's input product, in the kernels' layout of its columns, is `h @ w`, its columns laid out so. -/
module

public import proofs.«01_k».proof.Defs
public import proofs.«01_k».proof.Proof.Mixer
public import proofs.«01_k».proof.Proof.Gen.Kernel12Ideal.Value
public import proofs.«01_k».proof.Proof.Gen.Reference12Ideal.Run
public import Idealize.ShloMosaic.Lib.Claim
public import Idealize.ShloMosaic.Lib.Pipeline.ValueKit

@[expose] public section

set_option maxRecDepth 16384

noncomputable section

namespace Cert.MixIn

open Idealize.ShloMosaic Idealize.ShloMosaic.TcCoe Idealize.SL.Sem
open scoped BigOperators

section Left

open Cert.Kernel12Ideal Cert.Kernel12Ideal.Gen

/-- The product at a row and a column of the layout. -/
def out (h : FVec Ideal S4096x2048 .bf16) (w : FVec Ideal S2048x5640 .f32) : FVec Ideal S4096x5760 .f32 := fun z =>
  Mixer.lay (fun j => ∑ e : Fin 2048, h (ix2 (z 0) e) * w (ix2 e j)) (z 1)

theorem pay_at (v0 : FVec Ideal S1024x2048 .bf16) (v1 : FVec Ideal S2048x1152 .bf16) (p : Fin 1024) (q : Fin 1152) :
    k0_pay1 (F := Ideal) v0 v1 (ix2 p q) = ∑ e : Fin 2048, v0 (ix2 p e) * v1 (ix2 e q) := by
  unfold k0_pay1
  pointwise

/-- The weight as the kernel takes it. -/
def padW (w : FVec Ideal S2048x5640 .f32) : FVec Ideal S2048x5760 .bf16 :=
  truncf .bf16 (concatenate S2048x5760 1 [⟨S2048x4608, extractStridedSlice S2048x4608 ![0, 0] w slices_S2048x5640_S2048x4608_0_0⟩,
    ⟨S2048x1024, extractStridedSlice S2048x1024 ![0, 4616] w slices_S2048x5640_S2048x1024_0_4616⟩,
    ⟨S2048x8, extractStridedSlice S2048x8 ![0, 4608] w slices_S2048x5640_S2048x8_0_4608⟩,
    ⟨S2048x120, broadcastInDim S2048x120 ![] bcast_S_S2048x120 (constant S_ .f32 0x00000000#32)⟩]
    concatenates_S2048x4608_S2048x1024_S2048x8_S2048x120_S2048x5760_d1 : FVec Ideal S2048x5760 .f32) bitsLt_bf16_f32

theorem padW_at (w : FVec Ideal S2048x5640 .f32) (r : Fin 2048) (i : Fin 5760) : padW w (ix2 r i) = Mixer.lay (fun j => w (ix2 r j)) i := by
  unfold padW
  pointwise
  exact Mixer.lay_cut (fun j => w (ix2 r j)) i

variable (m : (ℓ : Loc nD τ sig) → Buf (Elt Ideal) ℓ) (c : Dev nD)

abbrev arg0 : FVec Ideal S4096x2048 .bf16 := m ((c.tc : Thread nD τ).loc main_arg0)
abbrev arg1 : FVec Ideal S2048x5640 .f32 := m ((c.tc : Thread nD τ).loc main_arg1)

theorem entry_w_arr : (V m c main_v5 : FVec Ideal S2048x5760 .bf16) = padW (arg1 m c) := by
  show StableHlo.after hostOps0 (fun b => m (c, b)) main_v5 = _
  after_results <;> rfl

theorem entry_w (e : Fin 2048) (i : Fin 5760) : (V m c main_v5 : FVec Ideal S2048x5760 .bf16) (ix2 e i) = Mixer.lay (fun j => arg1 m c (ix2 e j)) i := by
  rw [entry_w_arr, padW_at]

theorem ix_h : ∀ t : Fin cfg0.N, win0_0.index t = ![t.val / 5, 0] := by decide +kernel
theorem ix_w : ∀ t : Fin cfg0.N, win0_1.index t = ![0, t.val % 5] := by decide +kernel
theorem ix_o : ∀ t : Fin cfg0.N, win0_2.index t = ![t.val / 5, t.val % 5] := by decide +kernel
theorem lt20 (t : Fin cfg0.N) : t.val < 20 := lt_of_lt_of_eq t.isLt N_0

theorem blk_h (t : Fin cfg0.N) (p : Fin 1024) (e : Fin 2048) : (iblk m c 0 t : FVec Ideal S1024x2048 .bf16) (ix2 p e)
    = arg0 m c (ix2 ⟨t.val / 5 * 1024 + p.val, by have := lt20 t; omega⟩ e) := by
  blk_ext! [iblk, V, ix_h t]

theorem blk_w (t : Fin cfg0.N) (e : Fin 2048) (q : Fin 1152) : (iblk m c 1 t : FVec Ideal S2048x1152 .bf16) (ix2 e q)
    = Mixer.lay (fun j => arg1 m c (ix2 e j)) ⟨t.val % 5 * 1152 + q.val, by omega⟩ := by
  have h : (iblk m c 1 t : FVec Ideal S2048x1152 .bf16) (ix2 e q) = (V m c main_v5 : FVec Ideal S2048x5760 .bf16) (ix2 e ⟨t.val % 5 * 1152 + q.val, by omega⟩) := by
    blk_ext! [iblk, ix_w t]
  exact h.trans (entry_w m c e _)

theorem point (t : Fin cfg0.N) (p : Fin 1024) (q : Fin 1152) : k0_pay1 (F := Ideal) (iblk m c 0 t) (iblk m c 1 t) (ix2 p q)
    = out (arg0 m c) (arg1 m c) (ix2 ⟨t.val / 5 * 1024 + p.val, by have := lt20 t; omega⟩ ⟨t.val % 5 * 1152 + q.val, by omega⟩) := by
  refine (pay_at _ _ p q).trans ?_
  simp only [blk_h, blk_w]
  exact Mixer.lay_sum _ _ _

theorem final : (dats m 0 c).arrAt 2 cfg0.N = out (arg0 m c) (arg1 m c) := by
  refine (dats m 0 c).arrAt_eq_of_covers 2 _ (by decide +kernel) fun t hf y => ?_
  rw [after0_2]
  idx_vars y
  frame_out
  refine (point m c t y0 y1).trans ?_
  generalize out (arg0 m c) (arg1 m c) = G
  blk_point [ix_o t]

end Left

section Right

open Cert.Reference12Ideal Cert.Reference12Ideal.Gen

/-- The product in reference.py's order of the columns. -/
def dot (h : FVec Ideal S4096x2048 .bf16) (w : FVec Ideal S2048x5640 .f32) : FVec Ideal S4096x5640 .f32 :=
  Host.dotGeneral dot_S4096x2048_S2048x5640_S4096x5640_1_0_0_1_n_n none (extf .f32 h bitsLt_bf16_f32) w

theorem dot_at (h : FVec Ideal S4096x2048 .bf16) (w : FVec Ideal S2048x5640 .f32) (r : Fin 4096) (j : Fin 5640) :
    dot h w (ix2 r j) = ∑ e : Fin 2048, h (ix2 r e) * w (ix2 e j) := by
  unfold dot
  pointwise

/-- The reference's array. -/
def refArr (h : FVec Ideal S4096x2048 .bf16) (w : FVec Ideal S2048x5640 .f32) : FVec Ideal S4096x5760 .f32 :=
  concatenate S4096x5760 1 [⟨S4096x4608, extractStridedSlice S4096x4608 ![0, 0] (dot h w) slices_S4096x5640_S4096x4608_0_0⟩,
    ⟨S4096x1024, extractStridedSlice S4096x1024 ![0, 4616] (dot h w) slices_S4096x5640_S4096x1024_0_4616⟩,
    ⟨S4096x8, extractStridedSlice S4096x8 ![0, 4608] (dot h w) slices_S4096x5640_S4096x8_0_4608⟩,
    ⟨S4096x120, broadcastInDim S4096x120 ![] bcast_S_S4096x120 (constant S_ .f32 0x00000000#32)⟩]
    concatenates_S4096x4608_S4096x1024_S4096x8_S4096x120_S4096x5760_d1

theorem ref_eq (h : FVec Ideal S4096x2048 .bf16) (w : FVec Ideal S2048x5640 .f32) : refArr h w = out h w := by
  funext z
  idx_vars z
  show _ = Mixer.lay (fun j => ∑ e : Fin 2048, h (ix2 z0 e) * w (ix2 e j)) z1
  simp only [← dot_at]
  unfold refArr
  generalize dot h w = d
  pointwise
  exact Mixer.lay_cut (fun j => d (ix2 z0 j)) z1

end Right

theorem algebraic : Cert.algebraic_Kernel12Ideal_Reference12Ideal (hKernel12Ideal := Cert.Kernel12Ideal.Gen.facts) (hReference12Ideal := Cert.Reference12Ideal.Gen.facts) := by
  intro m ρ m' ρ' _ hargs
  refine ⟨fun c => out (arg0 m c) (arg1 m c), ?_, ?_⟩
  · refine (θ_run Cert.Kernel12Ideal.defs _ _).mono (fun _ h c => ?_) (Cert.Kernel12Ideal.Value.run_blocks (F := Ideal) m ρ)
    obtain ⟨h0, h1⟩ := h c
    rw [final] at h0
    exact ⟨h0, h1⟩
  · refine (θ_run Cert.Reference12Ideal.defs _ _).mono (fun _ h c => ?_) (Cert.Reference12Ideal.Value.run (F := Ideal) m' ρ')
    obtain ⟨h0, h1⟩ := h c
    rw [(hargs c).1, (hargs c).2] at h0
    exact ⟨h0.trans (ref_eq (arg0 m c) (arg1 m c)), h1⟩

end Cert.MixIn

end
-- ==== Proof.MixOut.lean ====
/- The mixer's output product with its residual is `x + y @ w`. -/
module

public import proofs.«01_k».proof.Defs
public import proofs.«01_k».proof.Proof.Gen.Kernel13Ideal.Value
public import proofs.«01_k».proof.Proof.Gen.Reference13Ideal.Run
public import Idealize.ShloMosaic.Lib.Claim
public import Idealize.ShloMosaic.Lib.Pipeline.ValueKit

@[expose] public section

set_option maxRecDepth 16384

noncomputable section

namespace Cert.MixOut

open Idealize.ShloMosaic Idealize.ShloMosaic.TcCoe Idealize.SL.Sem
open scoped BigOperators

section Left

open Cert.Kernel13Ideal Cert.Kernel13Ideal.Gen

/-- The result at a row and a column. -/
def out (a : FVec Ideal S4096x2048 .bf16) (w : FVec Ideal S2048x2048 .f32) (x : FVec Ideal S4096x2048 .f32) : FVec Ideal S4096x2048 .f32 := fun z =>
  x (ix2 (z 0) (z 1)) + (∑ e : Fin 2048, a (ix2 (z 0) e) * w (ix2 e (z 1)))

theorem pay_at (v0 : FVec Ideal S1024x2048 .bf16) (v1 : FVec Ideal S2048x1024 .bf16) (v2 : FVec Ideal S1024x1024 .f32) (p : Fin 1024) (q : Fin 1024) :
    k0_pay1 (F := Ideal) v0 v1 v2 (ix2 p q) = v2 (ix2 p q) + (∑ e : Fin 2048, v0 (ix2 p e) * v1 (ix2 e q)) := by
  unfold k0_pay1
  pointwise

variable (m : (ℓ : Loc nD τ sig) → Buf (Elt Ideal) ℓ) (c : Dev nD)

abbrev arg0 : FVec Ideal S4096x2048 .bf16 := m ((c.tc : Thread nD τ).loc main_arg0)
abbrev arg1 : FVec Ideal S2048x2048 .f32 := m ((c.tc : Thread nD τ).loc main_arg1)
abbrev arg2 : FVec Ideal S4096x2048 .f32 := m ((c.tc : Thread nD τ).loc main_arg2)

theorem entry_w (e : Fin 2048) (j : Fin 2048) : (V m c main_v0 : FVec Ideal S2048x2048 .bf16) (ix2 e j) = arg1 m c (ix2 e j) := by
  simp only [V, List.flatten_cons, List.flatten_nil, List.append_nil, StableHlo.after_append]
  entry_read
  pointwise

theorem ix_a : ∀ t : Fin cfg0.N, win0_0.index t = ![t.val / 2, 0] := by decide +kernel
theorem ix_w : ∀ t : Fin cfg0.N, win0_1.index t = ![0, t.val % 2] := by decide +kernel
theorem ix_x : ∀ t : Fin cfg0.N, win0_2.index t = ![t.val / 2, t.val % 2] := by decide +kernel
theorem ix_o : ∀ t : Fin cfg0.N, win0_3.index t = ![t.val / 2, t.val % 2] := by decide +kernel
theorem lt8 (t : Fin cfg0.N) : t.val < 8 := lt_of_lt_of_eq t.isLt N_0

theorem blk_a (t : Fin cfg0.N) (p : Fin 1024) (e : Fin 2048) : (iblk m c 0 t : FVec Ideal S1024x2048 .bf16) (ix2 p e)
    = arg0 m c (ix2 ⟨t.val / 2 * 1024 + p.val, by have := lt8 t; omega⟩ e) := by
  blk_ext! [iblk, V, ix_a t]

theorem blk_w (t : Fin cfg0.N) (e : Fin 2048) (q : Fin 1024) : (iblk m c 1 t : FVec Ideal S2048x1024 .bf16) (ix2 e q)
    = arg1 m c (ix2 e ⟨t.val % 2 * 1024 + q.val, by have := lt8 t; omega⟩) := by
  have h : (iblk m c 1 t : FVec Ideal S2048x1024 .bf16) (ix2 e q) = (V m c main_v0 : FVec Ideal S2048x2048 .bf16) (ix2 e ⟨t.val % 2 * 1024 + q.val, by have := lt8 t; omega⟩) := by
    blk_ext! [iblk, ix_w t]
  exact h.trans (entry_w m c e _)

theorem blk_x (t : Fin cfg0.N) (p : Fin 1024) (q : Fin 1024) : (iblk m c 2 t : FVec Ideal S1024x1024 .f32) (ix2 p q)
    = arg2 m c (ix2 ⟨t.val / 2 * 1024 + p.val, by have := lt8 t; omega⟩ ⟨t.val % 2 * 1024 + q.val, by have := lt8 t; omega⟩) := by
  blk_ext! [iblk, V, ix_x t]

theorem point (t : Fin cfg0.N) (p : Fin 1024) (q : Fin 1024) : k0_pay1 (F := Ideal) (iblk m c 0 t) (iblk m c 1 t) (iblk m c 2 t) (ix2 p q)
    = out (arg0 m c) (arg1 m c) (arg2 m c) (ix2 ⟨t.val / 2 * 1024 + p.val, by have := lt8 t; omega⟩ ⟨t.val % 2 * 1024 + q.val, by have := lt8 t; omega⟩) := by
  refine (pay_at _ _ _ p q).trans ?_
  simp only [blk_a, blk_w, blk_x]
  rfl

theorem final : (dats m 0 c).arrAt 3 cfg0.N = out (arg0 m c) (arg1 m c) (arg2 m c) := by
  refine (dats m 0 c).arrAt_eq_of_covers 3 _ (by decide +kernel) fun t hf y => ?_
  rw [after0_3]
  idx_vars y
  frame_out
  refine (point m c t y0 y1).trans ?_
  blk_point [ix_o t]

end Left

section Right

open Cert.Reference13Ideal Cert.Reference13Ideal.Gen

theorem ref_eq (a : FVec Ideal S4096x2048 .bf16) (w : FVec Ideal S2048x2048 .f32) (x : FVec Ideal S4096x2048 .f32) :
    addf x (Host.dotGeneral dot_S4096x2048_S2048x2048_S4096x2048_1_0_0_1_n_n none (extf .f32 a bitsLt_bf16_f32) w) = out a w x := by
  funext z
  idx_vars z
  unfold out
  pointwise

end Right

theorem algebraic : Cert.algebraic_Kernel13Ideal_Reference13Ideal (hKernel13Ideal := Cert.Kernel13Ideal.Gen.facts) (hReference13Ideal := Cert.Reference13Ideal.Gen.facts) := by
  intro m ρ m' ρ' _ hargs
  refine ⟨fun c => out (arg0 m c) (arg1 m c) (arg2 m c), ?_, ?_⟩
  · refine (θ_run Cert.Kernel13Ideal.defs _ _).mono (fun _ h c => ?_) (Cert.Kernel13Ideal.Value.run_blocks (F := Ideal) m ρ)
    obtain ⟨h0, h1⟩ := h c
    rw [final] at h0
    exact ⟨h0, h1⟩
  · refine (θ_run Cert.Reference13Ideal.defs _ _).mono (fun _ h c => ?_) (Cert.Reference13Ideal.Value.run (F := Ideal) m' ρ')
    obtain ⟨h0, h1⟩ := h c
    rw [(hargs c).1, (hargs c).2.1, (hargs c).2.2] at h0
    exact ⟨h0.trans (ref_eq (arg0 m c) (arg1 m c) (arg2 m c)), h1⟩

end Cert.MixOut

end
-- ==== Proof.RmsFwd.lean ====
/- The row normalisation of the forward pass and the reciprocal root it returns. -/
module

public import proofs.«01_k».proof.Defs
public import proofs.«01_k».proof.Proof.Gen.Kernel15Ideal.Value
public import proofs.«01_k».proof.Proof.Gen.Reference15Ideal.Run
public import Idealize.ShloMosaic.Lib.Claim
public import Idealize.ShloMosaic.Lib.Pipeline.ValueKit

@[expose] public section

set_option maxRecDepth 16384

noncomputable section

namespace Cert.RmsFwd

open Idealize.ShloMosaic Idealize.ShloMosaic.TcCoe Idealize.SL.Sem
open scoped BigOperators

/-- The reciprocal root of a row's mean square, from the sum of its squares. -/
def rs (s : EReal) : EReal := Ideal.rsqrt (Ideal.div s (Ideal.ofBits .f32 0x45000000#32) + Ideal.ofBits .f32 0x358637BD#32)

section Left

open Cert.Kernel15Ideal Cert.Kernel15Ideal.Gen

/-- A row's reciprocal root. -/
def rstd (x : FVec Ideal S4096x2048 .f32) : FVec Ideal S4096x1 .f32 := fun z =>
  rs (∑ e : Fin 2048, x (ix2 (z 0) e) * x (ix2 (z 0) e))

/-- The normalised row times the gain. -/
def out (x : FVec Ideal S4096x2048 .f32) (g : FVec Ideal S2048 .f32) : FVec Ideal S4096x2048 .bf16 := fun z =>
  x (ix2 (z 0) (z 1)) * rs (∑ e : Fin 2048, x (ix2 (z 0) e) * x (ix2 (z 0) e)) * g (ix1 (z 1))

theorem pay1_at (v0 : FVec Ideal S512x2048 .f32) (p : Fin 512) (q : Fin 1) :
    k0_pay1 (F := Ideal) v0 (ix2 p q) = rs (∑ e : Fin 2048, v0 (ix2 p e) * v0 (ix2 p e)) := by
  unfold k0_pay1 rs
  pointwise

theorem pay2_at (v0 : FVec Ideal S512x2048 .f32) (v1 : FVec Ideal S1x2048 .f32) (p : Fin 512) (q : Fin 2048) :
    k0_pay2 (F := Ideal) v0 v1 (ix2 p q) = v0 (ix2 p q) * rs (∑ e : Fin 2048, v0 (ix2 p e) * v0 (ix2 p e)) * v1 (ix2 0 q) := by
  rw [← pay1_at v0 p 0]
  unfold k0_pay2
  generalize k0_pay1 (F := Ideal) v0 = R
  pointwise

variable (m : (ℓ : Loc nD τ sig) → Buf (Elt Ideal) ℓ) (c : Dev nD)

abbrev arg0 : FVec Ideal S4096x2048 .f32 := m ((c.tc : Thread nD τ).loc main_arg0)
abbrev arg1 : FVec Ideal S2048 .f32 := m ((c.tc : Thread nD τ).loc main_arg1)

theorem entry_g (q : Fin 2048) : (V m c main_v0 : FVec Ideal S1x2048 .f32) (ix2 0 q) = arg1 m c (ix1 q) := by
  simp only [V, List.flatten_cons, List.flatten_nil, List.append_nil, StableHlo.after_append]
  entry_read
  pointwise

theorem ix_x : ∀ t : Fin cfg0.N, win0_0.index t = ![t.val, 0] := by decide +kernel
theorem ix_g : ∀ t : Fin cfg0.N, win0_1.index t = ![0, 0] := by decide +kernel
theorem ix_o : ∀ t : Fin cfg0.N, win0_2.index t = ![t.val, 0] := by decide +kernel
theorem ix_r : ∀ t : Fin cfg0.N, win0_3.index t = ![t.val, 0] := by decide +kernel
theorem lt8 (t : Fin cfg0.N) : t.val < 8 := lt_of_lt_of_eq t.isLt N_0

theorem blk_x (t : Fin cfg0.N) (p : Fin 512) (e : Fin 2048) : (iblk m c 0 t : FVec Ideal S512x2048 .f32) (ix2 p e)
    = arg0 m c (ix2 ⟨t.val * 512 + p.val, by have := lt8 t; omega⟩ e) := by
  blk_ext! [iblk, V, ix_x t]

theorem blk_g (t : Fin cfg0.N) (q : Fin 2048) : (iblk m c 1 t : FVec Ideal S1x2048 .f32) (ix2 0 q) = arg1 m c (ix1 q) := by
  have h : (iblk m c 1 t : FVec Ideal S1x2048 .f32) (ix2 0 q) = (V m c main_v0 : FVec Ideal S1x2048 .f32) (ix2 0 q) := by
    blk_ext! [iblk, ix_g t]
  exact h.trans (entry_g m c q)

theorem point (t : Fin cfg0.N) (p : Fin 512) (q : Fin 2048) : k0_pay2 (F := Ideal) (iblk m c 0 t) (iblk m c 1 t) (ix2 p q)
    = out (arg0 m c) (arg1 m c) (ix2 ⟨t.val * 512 + p.val, by have := lt8 t; omega⟩ q) := by
  refine (pay2_at _ _ p q).trans ?_
  simp only [blk_x, blk_g]
  rfl

theorem point_r (t : Fin cfg0.N) (p : Fin 512) (q : Fin 1) : k0_pay1 (F := Ideal) (iblk m c 0 t) (ix2 p q)
    = rstd (arg0 m c) (ix2 ⟨t.val * 512 + p.val, by have := lt8 t; omega⟩ q) := by
  refine (pay1_at _ p q).trans ?_
  simp only [blk_x]
  rfl

theorem final : (dats m 0 c).arrAt 2 cfg0.N = out (arg0 m c) (arg1 m c) := by
  refine (dats m 0 c).arrAt_eq_of_covers 2 _ (by decide +kernel) fun t hf y => ?_
  rw [after0_2]
  idx_vars y
  frame_out
  refine (point m c t y0 y1).trans ?_
  blk_point [ix_o t]

theorem final_r : (dats m 0 c).arrAt 3 cfg0.N = rstd (arg0 m c) := by
  refine (dats m 0 c).arrAt_eq_of_covers 3 _ (by decide +kernel) fun t hf y => ?_
  rw [after0_3]
  idx_vars y
  frame_out
  refine (point_r m c t y0 y1).trans ?_
  blk_point [ix_r t]

end Left

section Right

open Cert.Reference15Ideal Cert.Reference15Ideal.Gen

theorem ref_r (x : FVec Ideal S4096x2048 .f32) :
    Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))
      = rstd x := by
  funext z
  idx_vars z
  unfold rstd rs
  pointwise

theorem ref_eq (x : FVec Ideal S4096x2048 .f32) (g : FVec Ideal S2048 .f32) :
    truncf .bf16 (mulf (mulf x (broadcastInDim S4096x2048 ![0, 1] bcast_S4096x1_S4096x2048_0_1 (rstd x))) (broadcastInDim S4096x2048 ![0, 1] bcast_S1x2048_S4096x2048_0_1 (broadcastInDim S1x2048 ![1] bcast_S2048_S1x2048_1 g))) bitsLt_bf16_f32
      = out x g := by
  funext z
  idx_vars z
  have h : rstd x (ix2 z0 0) = rs (∑ e : Fin 2048, x (ix2 z0 e) * x (ix2 z0 e)) := rfl
  unfold out
  rw [show ix2 z0 z1 0 = z0 from rfl, ← h]
  generalize rstd x = R
  pointwise

end Right

theorem algebraic : Cert.algebraic_Kernel15Ideal_Reference15Ideal (hKernel15Ideal := Cert.Kernel15Ideal.Gen.facts) (hReference15Ideal := Cert.Reference15Ideal.Gen.facts) := by
  intro m ρ m' ρ' _ hargs
  refine ⟨fun c => out (arg0 m c) (arg1 m c), fun c => rstd (arg0 m c), ?_, ?_⟩
  · refine (θ_run Cert.Kernel15Ideal.defs _ _).mono (fun _ h c => ?_) (Cert.Kernel15Ideal.Value.run_blocks (F := Ideal) m ρ)
    obtain ⟨h0, h1, h2⟩ := h c
    rw [final] at h0
    rw [final_r] at h1
    exact ⟨h0, h1, h2⟩
  · refine (θ_run Cert.Reference15Ideal.defs _ _).mono (fun _ h c => ?_) (Cert.Reference15Ideal.Value.run (F := Ideal) m' ρ')
    obtain ⟨h0, h1, h2⟩ := h c
    rw [(hargs c).1, (hargs c).2, ref_r (arg0 m c)] at h0
    rw [(hargs c).1, ref_r (arg0 m c)] at h1
    exact ⟨h0.trans (ref_eq (arg0 m c) (arg1 m c)), h1, h2⟩

end Cert.RmsFwd

end
-- ==== Proof.RmsAlg.lean ====
/- The row normalisation's backward pass at one element, for every extended real. -/
module

public import Idealize.ShloMosaic.Lib.IdealHost
public import proofs.«01_k».proof.Proof.RmsFwd

@[expose] public section

noncomputable section

namespace Cert.Rms

open Idealize.ShloMosaic
open Cert.RmsFwd (rs)
open scoped BigOperators

/-- A row's mean square and the offset, from the sum of its squares. -/
def ms (s : EReal) : EReal := Ideal.div s (Ideal.ofBits .f32 0x45000000#32) + Ideal.ofBits .f32 0x358637BD#32

theorem width : Ideal.ofBits .f32 0x45000000#32 = ((2048 : ℝ) : EReal) := by
  simp [Ideal.ofBits, Ideal.ieee]
  norm_num
  rw [← EReal.coe_mul]
  norm_num
theorem minus_half : Ideal.ofBits .f32 0xBF000000#32 = ((-(1 / 2) : ℝ) : EReal) := by
  simp [Ideal.ofBits, Ideal.ieee]
  norm_num
  rw [← EReal.coe_mul]
  norm_num
theorem offset : ∃ e : ℝ, 0 < e ∧ Ideal.ofBits .f32 0x358637BD#32 = (e : EReal) := by
  refine ⟨(8796093 : ℝ) * 2 ^ (-43 : ℤ), by positivity, ?_⟩
  simp [Ideal.ofBits, Ideal.ieee]

theorem div_width (s : EReal) : Ideal.div s (Ideal.ofBits .f32 0x45000000#32) = s * ((1 / 2048 : ℝ) : EReal) := by
  rw [width, Ideal.div_coe (by norm_num)]

/-- The reciprocal root is a real at least zero, and over the mean square it is its own cube. -/
theorem rs_cube (s : EReal) (hs : 0 ≤ s) : ∃ r : ℝ, 0 ≤ r ∧ rs s = (r : EReal) ∧ Ideal.div (rs s) (ms s) = ((r ^ 3 : ℝ) : EReal) := by
  obtain ⟨e, he, ho⟩ := offset
  have hr : rs s = Ideal.rsqrt (ms s) := rfl
  rw [hr]
  have hm : ms s = s * ((1 / 2048 : ℝ) : EReal) + (e : EReal) := by rw [ms, div_width, ho]
  induction s with
  | bot => exact absurd hs (by simp)
  | top =>
    have ht : ms ⊤ = ⊤ := by
      rw [hm, EReal.top_mul_coe_of_pos (by norm_num), EReal.top_add_coe]
    rw [ht, Ideal.rsqrt_top]
    exact ⟨0, le_refl _, by simp, by simp [Ideal.div]⟩
  | coe v =>
    have hv : 0 ≤ v := by exact_mod_cast hs
    have hp : 0 < v * (1 / 2048) + e := by positivity
    have hm' : ms v = ((v * (1 / 2048) + e : ℝ) : EReal) := by
      rw [hm, EReal.coe_add, EReal.coe_mul]
    generalize v * (1 / 2048) + e = u at *
    rw [hm', Ideal.rsqrt_coe, if_neg (by linarith), if_neg (by linarith)]
    refine ⟨(Real.sqrt u)⁻¹, by positivity, rfl, ?_⟩
    rw [Ideal.div_coe (by linarith), ← EReal.coe_mul]
    congr 1
    have hq : Real.sqrt u ^ 2 = u := Real.sq_sqrt (by linarith)
    have h0 : Real.sqrt u ≠ 0 := by positivity
    rw [one_div]
    nth_rewrite 2 [← hq]
    field_simp

theorem mul_sum {ι : Type} [Fintype ι] (r : ℝ) (hr : 0 ≤ r) (f : ι → EReal) : (r : EReal) * ∑ i, f i = ∑ i, (r : EReal) * f i := by
  classical
  induction (Finset.univ : Finset ι) using Finset.induction_on with
  | empty => simp
  | insert i t h ih =>
    rw [Finset.sum_insert h, Finset.sum_insert h, EReal.left_distrib_of_nonneg_of_ne_top (by exact_mod_cast hr) (EReal.coe_ne_top r), ih]

theorem sq_nonneg (x : EReal) : 0 ≤ x * x := by
  rcases le_total 0 x with h | h
  · exact mul_nonneg h h
  · have h' : 0 ≤ -x := by simpa using EReal.neg_le_neg_iff.mpr h
    simpa using mul_nonneg h' h'

/-- Both ways of writing an element of the gradient. -/
theorem elem (r : ℝ) (hr : 0 ≤ r) (d a x S : EReal) :
    d + (r : EReal) * (a - x * (r : EReal) * Ideal.div ((r : EReal) * S) (Ideal.ofBits .f32 0x45000000#32))
      = d + a * (r : EReal) + x * Ideal.div (S * (Ideal.ofBits .f32 0xBF000000#32 * ((r ^ 3 : ℝ) : EReal))) (Ideal.ofBits .f32 0x45000000#32)
        + Ideal.div (S * (Ideal.ofBits .f32 0xBF000000#32 * ((r ^ 3 : ℝ) : EReal))) (Ideal.ofBits .f32 0x45000000#32) * x := by
  have hr' : (0 : EReal) ≤ (r : EReal) := by exact_mod_cast hr
  have hk : (0 : EReal) ≤ ((r ^ 3 / 4096 : ℝ) : EReal) := by
    have : (0 : ℝ) ≤ r ^ 3 / 4096 := by positivity
    exact_mod_cast this
  simp only [div_width, minus_half]
  have e1 : S * (((-(1 / 2) : ℝ) : EReal) * ((r ^ 3 : ℝ) : EReal)) * ((1 / 2048 : ℝ) : EReal) * x = -(x * S) * ((r ^ 3 / 4096 : ℝ) : EReal) := by
    rw [← EReal.coe_mul, mul_assoc S, ← EReal.coe_mul, mul_comm _ x, ← mul_assoc,
      show (-(1 / 2) * r ^ 3 * (1 / 2048) : ℝ) = -(r ^ 3 / 4096) from by ring, EReal.coe_neg, mul_neg, neg_mul]
  have e2 : (r : EReal) * (x * (r : EReal) * ((r : EReal) * S * ((1 / 2048 : ℝ) : EReal))) = x * S * ((r ^ 3 / 4096 + r ^ 3 / 4096 : ℝ) : EReal) := by
    have h : ((r ^ 3 / 4096 + r ^ 3 / 4096 : ℝ) : EReal) = (r : EReal) * ((r : EReal) * ((r : EReal) * ((1 / 2048 : ℝ) : EReal))) := by
      rw [← EReal.coe_mul, ← EReal.coe_mul, ← EReal.coe_mul]
      congr 1
      ring
    rw [h]
    ac_rfl
  rw [mul_comm x (_ * _), e1, add_assoc _ (_ * _) (_ * _), EReal.mul_sub_of_nonneg_of_ne_top hr' (EReal.coe_ne_top r), e2,
    ← EReal.left_distrib_of_nonneg hk hk, ← EReal.coe_add, sub_eq_add_neg, neg_mul, add_assoc, mul_comm a]

end Cert.Rms

end
-- ==== Proof.Rms.lean ====
/- The row normalisation's backward pass: the gradients of its argument and of the gain. -/
module

public import proofs.«01_k».proof.Defs
public import proofs.«01_k».proof.Proof.RmsAlg
public import proofs.«01_k».proof.Proof.Gen.Kernel14Ideal.Value
public import proofs.«01_k».proof.Proof.Gen.Reference14Ideal.Run
public import Idealize.ShloMosaic.Lib.Claim
public import Idealize.ShloMosaic.Lib.Pipeline.ValueKit

@[expose] public section

set_option maxRecDepth 16384

noncomputable section

namespace Cert.Rms

open Idealize.ShloMosaic Idealize.ShloMosaic.TcCoe Idealize.SL.Sem
open Cert.RmsFwd (rs)
open scoped BigOperators

section Left

open Cert.Kernel14Ideal Cert.Kernel14Ideal.Gen

/-- A row's reciprocal root. -/
def rr (x : FVec Ideal S4096x2048 .f32) (r : Fin 4096) : EReal := rs (∑ e : Fin 2048, x (ix2 r e) * x (ix2 r e))

/-- An element of a row's gradient, from the row's reciprocal root. -/
def gradAt (R : EReal) (dh x g : Fin 2048 → EReal) (d : EReal) (q : Fin 2048) : EReal :=
  d + R * (dh q * g q - x q * R * Ideal.div (∑ e : Fin 2048, dh e * g e * (x e * R)) (Ideal.ofBits .f32 0x45000000#32))

/-- The gradient of the argument. -/
def outX (dh : FVec Ideal S4096x2048 .f32) (x : FVec Ideal S4096x2048 .f32) (g : FVec Ideal S2048 .f32) (d : FVec Ideal S4096x2048 .f32) : FVec Ideal S4096x2048 .f32 := fun z =>
  gradAt (rr x (z 0)) (fun e => dh (ix2 (z 0) e)) (fun e => x (ix2 (z 0) e)) (fun e => g (ix1 e)) (d (ix2 (z 0) (z 1))) (z 1)

/-- The gradient of the gain. -/
def outG (dh : FVec Ideal S4096x2048 .f32) (x : FVec Ideal S4096x2048 .f32) : FVec Ideal S1x2048 .f32 := fun z => ∑ n : Fin 4096, dh (ix2 n (z 1)) * (x (ix2 n (z 1)) * rr x n)

theorem pay3_at (v0 : FVec Ideal S512x1 .f32) (v2 v5 : FVec Ideal S512x2048 .f32) (v6 : FVec Ideal S1x2048 .f32) (v15 : FVec Ideal S512x2048 .f32) (p : Fin 512) (q : Fin 2048) :
    k0_pay3 (F := Ideal) v0 v2 v5 v6 v15 (ix2 p q) = gradAt (v0 (ix2 p 0)) (fun e => v5 (ix2 p e)) (fun e => v2 (ix2 p e)) (fun e => v6 (ix2 0 e)) (v15 (ix2 p q)) q := by
  unfold k0_pay3 k0_pay2 k0_pay1 gradAt
  pointwise

theorem pay4_at (v0 : FVec Ideal S512x1 .f32) (v2 v5 : FVec Ideal S512x2048 .f32) (v6 : FVec Ideal S1x2048 .f32) (v15 : FVec Ideal S512x2048 .f32) (p : Fin 512) (q : Fin 2048) :
    k0_pay4 (F := Ideal) v0 v2 v5 v6 v15 (ix2 p q) = gradAt (v0 (ix2 p 0)) (fun e => v5 (ix2 p e)) (fun e => v2 (ix2 p e)) (fun e => v6 (ix2 0 e)) (v15 (ix2 p q)) q := by
  rw [← pay3_at v0 v2 v5 v6 v15 p q]
  unfold k0_pay4
  generalize k0_pay3 (F := Ideal) v0 v2 v5 v6 v15 = X
  pointwise

/-- A block's part of the gain's gradient. -/
def blkSum (v0 : FVec Ideal S512x1 .f32) (v2 v5 : FVec Ideal S512x2048 .f32) (q : Fin 2048) : EReal := ∑ p : Fin 512, v5 (ix2 p q) * (v2 (ix2 p q) * v0 (ix2 p 0))

theorem pay5_at (v0 : FVec Ideal S512x1 .f32) (v2 v5 : FVec Ideal S512x2048 .f32) (z : Fin 1) (q : Fin 2048) :
    k0_pay5 (F := Ideal) v0 v2 v5 (ix2 z q) = blkSum v0 v2 v5 q := by
  unfold blkSum k0_pay5 k0_pay2 k0_pay1
  pointwise

theorem pay6_at (v0 : FVec Ideal S512x1 .f32) (v2 v5 : FVec Ideal S512x2048 .f32) (v34 : FVec Ideal S1x2048 .f32) (z : Fin 1) (q : Fin 2048) :
    k0_pay6 (F := Ideal) v0 v2 v5 v34 (ix2 z q) = v34 (ix2 z q) + blkSum v0 v2 v5 q := by
  rw [← pay5_at v0 v2 v5 z q]
  unfold k0_pay6
  generalize k0_pay5 (F := Ideal) v0 v2 v5 = X
  pointwise

variable (m : (ℓ : Loc nD τ sig) → Buf (Elt Ideal) ℓ) (c : Dev nD)

abbrev arg0 : FVec Ideal S4096x2048 .f32 := m ((c.tc : Thread nD τ).loc main_arg0)
abbrev arg1 : FVec Ideal S4096x2048 .f32 := m ((c.tc : Thread nD τ).loc main_arg1)
abbrev arg2 : FVec Ideal S2048 .f32 := m ((c.tc : Thread nD τ).loc main_arg2)
abbrev arg3 : FVec Ideal S4096x2048 .f32 := m ((c.tc : Thread nD τ).loc main_arg3)

theorem entry_g (q : Fin 2048) : (V m c main_v8 : FVec Ideal S1x2048 .f32) (ix2 0 q) = arg2 m c (ix1 q) := by
  simp only [V, List.flatten_cons, List.flatten_nil, List.append_nil, StableHlo.after_append]
  entry_read
  pointwise

theorem entry_r (r : Fin 4096) : (V m c main_v7 : FVec Ideal S4096x1 .f32) (ix2 r 0) = rr (arg1 m c) r := by
  simp only [V, List.flatten_cons, List.flatten_nil, List.append_nil, StableHlo.after_append]
  entry_read
  unfold rr rs
  pointwise

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![0, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![0, 0] := by decide +kernel
theorem lt8 (t : Fin cfg0.N) : t.val < 8 := lt_of_lt_of_eq t.isLt N_0

/-- Row `p` of block `t`. -/
def row (t : ℕ) (ht : t < 8) (p : Fin 512) : Fin 4096 := ⟨t * 512 + p.val, by omega⟩

theorem blk_dh (t : Fin cfg0.N) (p : Fin 512) (e : Fin 2048) : (iblk m c 0 t : FVec Ideal S512x2048 .f32) (ix2 p e) = arg0 m c (ix2 (row t.val (lt8 t) p) e) := by
  unfold row
  blk_ext! [iblk, V, ix_0 t]
theorem blk_x (t : Fin cfg0.N) (p : Fin 512) (e : Fin 2048) : (iblk m c 1 t : FVec Ideal S512x2048 .f32) (ix2 p e) = arg1 m c (ix2 (row t.val (lt8 t) p) e) := by
  unfold row
  blk_ext! [iblk, V, ix_1 t]
theorem blk_d (t : Fin cfg0.N) (p : Fin 512) (e : Fin 2048) : (iblk m c 4 t : FVec Ideal S512x2048 .f32) (ix2 p e) = arg3 m c (ix2 (row t.val (lt8 t) p) e) := by
  unfold row
  blk_ext! [iblk, V, ix_4 t]
theorem blk_r (t : Fin cfg0.N) (p : Fin 512) : (iblk m c 2 t : FVec Ideal S512x1 .f32) (ix2 p 0) = rr (arg1 m c) (row t.val (lt8 t) p) := by
  refine Eq.trans ?_ (entry_r m c _)
  unfold row
  blk_ext! [iblk, ix_2 t]
theorem blk_g (t : Fin cfg0.N) (q : Fin 2048) : (iblk m c 3 t : FVec Ideal S1x2048 .f32) (ix2 0 q) = arg2 m c (ix1 q) := by
  refine Eq.trans ?_ (entry_g m c q)
  blk_ext! [iblk, ix_3 t]

theorem point (t : Fin cfg0.N) (p : Fin 512) (q : Fin 2048) : gradAt ((iblk m c 2 t : FVec Ideal S512x1 .f32) (ix2 p 0)) (fun e => (iblk m c 0 t : FVec Ideal S512x2048 .f32) (ix2 p e)) (fun e => (iblk m c 1 t : FVec Ideal S512x2048 .f32) (ix2 p e)) (fun e => (iblk m c 3 t : FVec Ideal S1x2048 .f32) (ix2 0 e)) ((iblk m c 4 t : FVec Ideal S512x2048 .f32) (ix2 p q)) q
    = outX (arg0 m c) (arg1 m c) (arg2 m c) (arg3 m c) (ix2 (row t.val (lt8 t) p) q) := by
  simp only [blk_dh, blk_x, blk_d, blk_r, blk_g]
  rfl

theorem point_x (t : Fin cfg0.N) (p : Fin 512) (q : Fin 2048) : (outsAt0 m c t.val t.isLt).1 (ix2 p q)
    = outX (arg0 m c) (arg1 m c) (arg2 m c) (arg3 m c) (ix2 (row t.val (lt8 t) p) q) := by
  have ht := lt8 t
  by_cases h : t.val = 0
  · rw [outsAt0_A m c t (by omega) (by omega)]
    frame_out
    exact (pay3_at _ _ _ _ _ p q).trans (point m c t p q)
  · rw [outsAt0_B m c t (by omega) (by omega)]
    frame_out
    exact (pay3_at _ _ _ _ _ p q).trans (point m c t p q)

theorem point_b (t : Fin cfg0.N) (p : Fin 512) (q : Fin 2048) : (outsAt0 m c t.val t.isLt).2.1 (ix2 p q)
    = outX (arg0 m c) (arg1 m c) (arg2 m c) (arg3 m c) (ix2 (row t.val (lt8 t) p) q) := by
  have ht := lt8 t
  by_cases h : t.val = 0
  · rw [outsAt0_A m c t (by omega) (by omega)]
    frame_out
    exact (pay4_at _ _ _ _ _ p q).trans (point m c t p q)
  · rw [outsAt0_B m c t (by omega) (by omega)]
    frame_out
    exact (pay4_at _ _ _ _ _ p q).trans (point m c t p q)

/-- A row's part of the gain's gradient. -/
def part (q : Fin 2048) (n : ℕ) : EReal := if h : n < 4096 then arg0 m c (ix2 ⟨n, h⟩ q) * (arg1 m c (ix2 ⟨n, h⟩ q) * rr (arg1 m c) ⟨n, h⟩) else 0

theorem part_row (t : Fin cfg0.N) (q : Fin 2048) : blkSum (iblk m c 2 t) (iblk m c 1 t) (iblk m c 0 t) q
    = ∑ p : Fin 512, part m c q (t.val * 512 + p.val) := by
  unfold blkSum
  simp only [blk_dh, blk_x, blk_r]
  refine Finset.sum_congr rfl fun p _ => ?_
  have ht := lt8 t
  have h : t.val * 512 + p.val < 4096 := by omega
  unfold part row
  rw [dif_pos h]

theorem acc (n : ℕ) (hn : n < cfg0.N) (z : Fin 1) (q : Fin 2048) : (outsAt0 m c n hn).2.2 (ix2 z q) = ∑ t ∈ Finset.range (n + 1), ∑ p : Fin 512, part m c q (t * 512 + p.val) := by
  have h8 : n < 8 := lt8 ⟨n, hn⟩
  induction n with
  | zero =>
    rw [outsAt0_A m c ⟨0, hn⟩ rfl (by simp)]
    frame_out
    refine (pay5_at _ _ _ z q).trans ((part_row m c ⟨0, hn⟩ q).trans ?_)
    rw [Finset.sum_range_one]
  | succ n ih =>
    rw [Finset.sum_range_succ, ← ih (Nat.lt_of_succ_lt hn) (by omega), ← part_row m c ⟨n + 1, hn⟩ q, outsAt0_B m c ⟨n + 1, hn⟩ (by show ¬(n + 1) % 8 = 0; omega) (by show 1 ≤ n + 1; omega)]
    frame_out
    exact pay6_at _ _ _ _ z q

theorem final_x : (dats m 0 c).arrAt 5 cfg0.N = (outX (arg0 m c) (arg1 m c) (arg2 m c) (arg3 m c) : FVec Ideal S4096x2048 .f32) := by
  refine (dats m 0 c).arrAt_eq_of_covers 5 _ (by decide +kernel) fun t hf y => ?_
  rw [after0_5]
  have P := point_x m c t
  generalize outsAt0 m c t.val t.isLt = O at *
  generalize outX (arg0 m c) (arg1 m c) (arg2 m c) (arg3 m c) = G at *
  idx_vars y
  refine (P y0 y1).trans ?_
  unfold row
  blk_point [ix_5 t]

theorem final_b : (dats m 0 c).arrAt 6 cfg0.N = (outX (arg0 m c) (arg1 m c) (arg2 m c) (arg3 m c) : FVec Ideal S4096x2048 .bf16) := by
  refine (dats m 0 c).arrAt_eq_of_covers 6 _ (by decide +kernel) fun t hf y => ?_
  rw [after0_6]
  have P := point_b m c t
  generalize outsAt0 m c t.val t.isLt = O at *
  generalize outX (arg0 m c) (arg1 m c) (arg2 m c) (arg3 m c) = G at *
  idx_vars y
  refine (P y0 y1).trans ?_
  unfold row
  blk_point [ix_6 t]

theorem final_g : (dats m 0 c).arrAt 7 cfg0.N = outG (arg0 m c) (arg1 m c) := by
  refine (dats m 0 c).arrAt_eq_of_covers 7 _ (by decide +kernel) fun t hf y => ?_
  have h7 : t.val = 7 := by have := (flush0_7 t).mp hf; have := lt8 t; omega
  rw [after0_7]
  have P := acc m c t.val t.isLt
  generalize outsAt0 m c t.val t.isLt = O at *
  idx_vars y
  have e : ∑ t ∈ Finset.range (t.val + 1), ∑ p : Fin 512, part m c y1 (t * 512 + p.val) = outG (arg0 m c) (arg1 m c) (ix2 0 y1) := by
    rw [h7, Finset.sum_range]
    show _ = ∑ n : Fin 4096, arg0 m c (ix2 n y1) * (arg1 m c (ix2 n y1) * rr (arg1 m c) n)
    rw [← (finProdFinEquiv (m := 8) (n := 512)).sum_comp, Fintype.sum_prod_type]
    refine Finset.sum_congr rfl fun t _ => Finset.sum_congr rfl fun p _ => ?_
    have h : t.val * 512 + p.val < 4096 := by omega
    refine (dif_pos h).trans ?_
    have e : (⟨t.val * 512 + p.val, h⟩ : Fin 4096) = finProdFinEquiv (m := 8) (n := 512) (t, p) := Fin.ext (by show t.val * 512 + p.val = p.val + 512 * t.val; omega)
    rw [e]
  refine ((P y0 y1).trans e).trans ?_
  generalize outG (arg0 m c) (arg1 m c) = G
  blk_point [ix_7 t]

end Left

section Right

open Cert.Reference14Ideal Cert.Reference14Ideal.Gen

/-- The mean square of each row and the offset. -/
def msq (x : FVec Ideal S4096x2048 .f32) : FVec Ideal S4096x1 .f32 := (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))
/-- Its reciprocal root. -/
def rt (x : FVec Ideal S4096x2048 .f32) : FVec Ideal S4096x1 .f32 := Host.rsqrt (msq x)
/-- The gradient of the normalised row. -/
def dy (dh : FVec Ideal S4096x2048 .f32) (g : FVec Ideal S2048 .f32) : FVec Ideal S4096x2048 .f32 := (mulf dh (broadcastInDim S4096x2048 ![0, 1] bcast_S1x2048_S4096x2048_0_1 (broadcastInDim S1x2048 ![1] bcast_S2048_S1x2048_1 g)))
/-- The gradient of the mean square, spread over the row. -/
def qq (dh : FVec Ideal S4096x2048 .f32) (x : FVec Ideal S4096x2048 .f32) (g : FVec Ideal S2048 .f32) : FVec Ideal S4096x2048 .f32 := (broadcastInDim S4096x2048 ![0] bcast_S4096_S4096x2048_0 (Host.reduceAdd (Host.divf (mulf (shapeCast _ (Host.reduceAdd (mulf x (dy dh g)) (constant S_ .f32 0x00000000#32) reducesTo_S4096x2048_S4096_d1 h_S_) shapeCasts_S4096_S4096x1) (mulf (broadcastInDim S4096x1 ![] bcast_S_S4096x1 (constant S_ .f32 0xBF000000#32)) (Host.divf (rt x) (msq x)))) (broadcastInDim S4096x1 ![] bcast_S_S4096x1 (constant S_ .f32 0x45000000#32))) (constant S_ .f32 0x00000000#32) reducesTo_S4096x1_S4096_d1 h_S_))

theorem msq_at (x : FVec Ideal S4096x2048 .f32) (r : Fin 4096) : msq x (ix2 r 0) = ms (∑ e : Fin 2048, x (ix2 r e) * x (ix2 r e)) := by
  unfold msq ms
  pointwise
theorem rt_at (x : FVec Ideal S4096x2048 .f32) (r : Fin 4096) : rt x (ix2 r 0) = rr x r := by
  refine Eq.trans ?_ (congrArg Ideal.rsqrt (msq_at x r))
  unfold rt
  generalize msq x = M
  pointwise
theorem dy_at (dh : FVec Ideal S4096x2048 .f32) (g : FVec Ideal S2048 .f32) (r : Fin 4096) (q : Fin 2048) : dy dh g (ix2 r q) = dh (ix2 r q) * g (ix1 q) := by
  unfold dy
  pointwise
theorem qq_at (dh : FVec Ideal S4096x2048 .f32) (x : FVec Ideal S4096x2048 .f32) (g : FVec Ideal S2048 .f32) (r : Fin 4096) (q : Fin 2048) : qq dh x g (ix2 r q)
    = Ideal.div ((∑ e : Fin 2048, x (ix2 r e) * (dh (ix2 r e) * g (ix1 e))) * (Ideal.ofBits .f32 0xBF000000#32 * Ideal.div (rr x r) (ms (∑ e : Fin 2048, x (ix2 r e) * x (ix2 r e))))) (Ideal.ofBits .f32 0x45000000#32) := by
  unfold qq
  rw [← msq_at, ← rt_at]
  have hd := dy_at dh g
  generalize msq x = M at *
  generalize rt x = R at *
  generalize dy dh g = Y at *
  simp only [← hd]
  pointwise
  exact Fintype.sum_unique _

theorem ref_x (dh : FVec Ideal S4096x2048 .f32) (x : FVec Ideal S4096x2048 .f32) (g : FVec Ideal S2048 .f32) (d : FVec Ideal S4096x2048 .f32) : addf (addf (addf d (mulf (dy dh g) (broadcastInDim S4096x2048 ![0, 1] bcast_S4096x1_S4096x2048_0_1 (rt x)))) (mulf x (qq dh x g))) (mulf (qq dh x g) x)
    = outX dh x g d := by
  funext z
  idx_vars z
  show _ = gradAt (rr x z0) (fun e => dh (ix2 z0 e)) (fun e => x (ix2 z0 e)) (fun e => g (ix1 e)) (d (ix2 z0 z1)) z1
  obtain ⟨r, hr, h1, h2⟩ := rs_cube (∑ e : Fin 2048, x (ix2 z0 e) * x (ix2 z0 e)) (Finset.sum_nonneg fun e _ => sq_nonneg _)
  have hR : rt x (ix2 z0 0) = (r : EReal) := (rt_at x z0).trans h1
  have hR' : rr x z0 = (r : EReal) := h1
  have hY := dy_at dh g z0 z1
  have hQ := qq_at dh x g z0 z1
  rw [show Ideal.div (rr x z0) _ = _ from h2] at hQ
  unfold gradAt
  rw [hR']
  have hs : ∑ e : Fin 2048, dh (ix2 z0 e) * g (ix1 e) * (x (ix2 z0 e) * (r : EReal)) = (r : EReal) * ∑ e : Fin 2048, x (ix2 z0 e) * (dh (ix2 z0 e) * g (ix1 e)) := by
    rw [mul_sum r hr]
    refine Finset.sum_congr rfl fun e _ => ?_
    ac_rfl
  rw [hs, elem r hr, ← hQ, ← hR, ← hY]
  generalize qq dh x g = Q
  generalize rt x = R
  generalize dy dh g = Y
  pointwise

theorem ref_xb (dh : FVec Ideal S4096x2048 .f32) (x : FVec Ideal S4096x2048 .f32) (g : FVec Ideal S2048 .f32) (d : FVec Ideal S4096x2048 .f32) : truncf .bf16 (addf (addf (addf d (mulf (dy dh g) (broadcastInDim S4096x2048 ![0, 1] bcast_S4096x1_S4096x2048_0_1 (rt x)))) (mulf x (qq dh x g))) (mulf (qq dh x g) x)) bitsLt_bf16_f32
    = outX dh x g d := by
  rw [ref_x]
  generalize outX dh x g d = O
  funext z
  idx_vars z
  pointwise

theorem ref_g (dh : FVec Ideal S4096x2048 .f32) (x : FVec Ideal S4096x2048 .f32) : broadcastInDim S1x2048 ![1] bcast_S2048_S1x2048_1 (Host.reduceAdd (shapeCast _ (Host.reduceAdd (mulf (mulf x (broadcastInDim S4096x2048 ![0, 1] bcast_S4096x1_S4096x2048_0_1 (rt x))) dh) (constant S_ .f32 0x00000000#32) reducesTo_S4096x2048_S2048_d0 h_S_) shapeCasts_S2048_S1x2048) (constant S_ .f32 0x00000000#32) reducesTo_S1x2048_S2048_d0 h_S_)
    = outG dh x := by
  funext z
  idx_vars z
  show _ = ∑ n : Fin 4096, dh (ix2 n z1) * (x (ix2 n z1) * rr x n)
  simp only [← rt_at]
  generalize rt x = R
  pointwise
  refine (Fintype.sum_unique _).trans (Finset.sum_congr rfl fun n _ => ?_)
  exact mul_comm _ _

end Right

theorem algebraic : Cert.algebraic_Kernel14Ideal_Reference14Ideal (hKernel14Ideal := Cert.Kernel14Ideal.Gen.facts) (hReference14Ideal := Cert.Reference14Ideal.Gen.facts) := by
  intro m ρ m' ρ' _ hargs
  refine ⟨fun c => outX (arg0 m c) (arg1 m c) (arg2 m c) (arg3 m c), fun c => outX (arg0 m c) (arg1 m c) (arg2 m c) (arg3 m c), fun c => outG (arg0 m c) (arg1 m c), ?_, ?_⟩
  · refine (θ_run Cert.Kernel14Ideal.defs _ _).mono (fun _ h c => ?_) (Cert.Kernel14Ideal.Value.run_blocks (F := Ideal) m ρ)
    obtain ⟨h0, h1, h2, h3⟩ := h c
    rw [final_x] at h0
    rw [final_b] at h1
    rw [final_g] at h2
    exact ⟨h0, h1, h2, h3⟩
  · refine (θ_run Cert.Reference14Ideal.defs _ _).mono (fun _ h c => ?_) (Cert.Reference14Ideal.Value.run (F := Ideal) m' ρ')
    obtain ⟨h0, h1, h2, h3⟩ := h c
    rw [(hargs c).1, (hargs c).2.1, (hargs c).2.2.1, (hargs c).2.2.2] at h0 h1
    rw [(hargs c).1, (hargs c).2.1] at h2
    exact ⟨h0.trans (ref_x (arg0 m c) (arg1 m c) (arg2 m c) (arg3 m c)), h1.trans (ref_xb (arg0 m c) (arg1 m c) (arg2 m c) (arg3 m c)), h2.trans (ref_g (arg0 m c) (arg1 m c)), h3⟩

end Cert.Rms

end
-- ==== Proof.ConvPay.lean ====
/- What the body of the gated convolution's backward call computes at a row and a channel. -/
module

public import proofs.«01_k».proof.Defs
public import proofs.«01_k».proof.Proof.Gen.Kernel16Ideal.Loops
public import Idealize.ShloMosaic.Lib.Pipeline.ValueKit

@[expose] public section

set_option maxRecDepth 16384

noncomputable section

namespace Cert.Conv

open Cert.Kernel16Ideal Cert.Kernel16Ideal.Gen
open Idealize.ShloMosaic Idealize.ShloMosaic.TcCoe Idealize.SL.Sem
open scoped BigOperators

theorem trips : k0_t1_loop.trips = 8 := by decide +kernel
theorem off1 : ∀ k : Fin k0_t1_loop.trips, k0_off1 k = ![512 * k.val, 0] := by decide +kernel
theorem off2 : ∀ k : Fin k0_t1_loop.trips, k0_off2 k = ![512 * k.val - 8, 0] := by decide +kernel
theorem off3 : ∀ k : Fin k0_t1_loop.trips, k0_off3 k = ![min (512 * k.val + 512) 3584, 0] := by decide +kernel

/-! ## The columns of the arrays, as sequences of rows -/

/-- A column, zero past its last row. -/
def cf (f : Fin 4096 → EReal) (n : ℕ) : EReal := if h : n < 4096 then f ⟨n, h⟩ else 0

/-- The gated input `k` rows before row `n`, zero before the first row. -/
def mS (C V : ℕ → EReal) (k n : ℕ) : EReal := if k ≤ n then C (n - k) * V (n - k) else 0

/-- The gradient of the convolution's result `k` rows after row `n`. -/
def dS (B Y : ℕ → EReal) (k n : ℕ) : EReal := Y (n + k) * B (n + k)

/-- The convolution's result at row `n`. -/
def zF (w0 w1 w2 : EReal) (C V : ℕ → EReal) (n : ℕ) : EReal := w2 * mS C V 0 n + w1 * mS C V 1 n + w0 * mS C V 2 n

/-- The gradient of the gated input at row `n`. -/
def gF (w0 w1 w2 : EReal) (B Y : ℕ → EReal) (n : ℕ) : EReal := w2 * dS B Y 0 n + w1 * dS B Y 1 n + w0 * dS B Y 2 n

theorem cf_lt (f : Fin 4096 → EReal) (r : Fin 4096) : cf f r.val = f r := dif_pos r.isLt
theorem cf_ge (f : Fin 4096 → EReal) {n : ℕ} (h : ¬n < 4096) : cf f n = 0 := dif_neg h

/-- A block's column. -/
def col (X : FVec Ideal S4096x128 .f32) (d : Fin 128) : ℕ → EReal := cf fun r => X (ix2 r d)

/-- The blocks of a group of channels. -/
structure Blk where
  b : FVec Ideal S4096x128 .f32
  c : FVec Ideal S4096x128 .f32
  v : FVec Ideal S4096x128 .f32
  w : FVec Ideal S8x128 .f32
  y : FVec Ideal S4096x128 .f32

/-- What a trip reads before its first store. -/
structure Rows (x : Blk) (k : ℕ) (v13 v15 v17 v19 : Vec Ideal S512x128 .f32) (v25 v35 : Vec Ideal S8x128 .f32) : Prop where
  b : ∀ (r : Fin 512) (d : Fin 128), v13 (ix2 r d) = col x.b d (512 * k + r.val)
  c : ∀ (r : Fin 512) (d : Fin 128), v15 (ix2 r d) = col x.c d (512 * k + r.val)
  v : ∀ (r : Fin 512) (d : Fin 128), v17 (ix2 r d) = col x.v d (512 * k + r.val)
  y : ∀ (r : Fin 512) (d : Fin 128), v19 (ix2 r d) = col x.y d (512 * k + r.val)
  cp : 0 < k → ∀ (r : Fin 8) (d : Fin 128), v25 (ix2 r d) = col x.c d (512 * k - 8 + r.val)
  vp : 0 < k → ∀ (r : Fin 8) (d : Fin 128), v35 (ix2 r d) = col x.v d (512 * k - 8 + r.val)

/-- What it reads of the rows after its block. -/
structure Next (x : Blk) (k : ℕ) (v66 v76 : Vec Ideal S8x128 .f32) : Prop where
  y : k < 7 → ∀ (r : Fin 8) (d : Fin 128), v66 (ix2 r d) = col x.y d (512 * k + 512 + r.val)
  b : k < 7 → ∀ (r : Fin 8) (d : Fin 128), v76 (ix2 r d) = col x.b d (512 * k + 512 + r.val)

theorem flagP : ∀ k : Fin k0_t1_loop.trips, (Scalar.extui (Scalar.cmpi .sgt (Scf.iv 0#32 1#32 k.val) 0#32) : BitVec 32).toInt = if k.val = 0 then 0 else 1 := by decide +kernel
theorem flagN : ∀ k : Fin k0_t1_loop.trips, (Scalar.extui (Scalar.cmpi .slt (Scf.iv 0#32 1#32 k.val) 7#32) : BitVec 32).toInt = if k.val < 7 then 1 else 0 := by decide +kernel

section Trip

variable {x : Blk} {k : Fin k0_t1_loop.trips} {v13 v15 v17 v19 : Vec Ideal S512x128 .f32} {v25 v35 v66 v76 : Vec Ideal S8x128 .f32}

theorem pay9_at (R : Rows x k.val v13 v15 v17 v19 v25 v35) (r : Fin 520) (d : Fin 128) :
    k0_pay9 (F := Ideal) 0#32 1#32 k v15 v17 v25 v35 (ix2 r d) = mS (col x.c d) (col x.v d) 8 (512 * k.val + r.val) := by
  unfold k0_pay9 k0_pay8
  pointwise
  by_cases h : r.val < 8
  · refine (dif_pos h).trans ?_
    show v25 (ix2 ⟨r.val, h⟩ d) * ((((Scalar.extui (Scalar.cmpi .sgt (Scf.iv 0#32 1#32 k.val) 0#32) : BitVec 32).toInt : ℤ) : ℝ) : EReal) * (v35 (ix2 ⟨r.val, h⟩ d) * ((((Scalar.extui (Scalar.cmpi .sgt (Scf.iv 0#32 1#32 k.val) 0#32) : BitVec 32).toInt : ℤ) : ℝ) : EReal)) = _
    rw [flagP]
    by_cases hk : k.val = 0
    · rw [if_pos hk, mS, if_neg (by omega)]
      simp
    · rw [if_neg hk, R.cp (by omega), R.vp (by omega), mS, if_pos (by omega)]
      rw [show 512 * k.val + r.val - 8 = 512 * k.val - 8 + r.val from by omega]
      simp
  · refine (dif_neg h).trans ?_
    show v15 (ix2 ⟨r.val - 8, by omega⟩ d) * v17 (ix2 ⟨r.val - 8, by omega⟩ d) = _
    rw [R.c, R.v, mS, if_pos (by omega)]
    rw [show 512 * k.val + r.val - 8 = 512 * k.val + (r.val - 8) from by omega]

theorem pay8_at (R : Rows x k.val v13 v15 v17 v19 v25 v35) (r : Fin 512) (d : Fin 128) :
    k0_pay8 (F := Ideal) v15 v17 (ix2 r d) = mS (col x.c d) (col x.v d) 0 (512 * k.val + r.val) := by
  unfold k0_pay8
  pointwise
  rw [R.c, R.v]
  rfl

theorem pay10_at (R : Rows x k.val v13 v15 v17 v19 v25 v35) (r : Fin 512) (d : Fin 128) :
    k0_pay10 (F := Ideal) 0#32 1#32 k v15 v17 v25 v35 (ix2 r d) = mS (col x.c d) (col x.v d) 1 (512 * k.val + r.val) := by
  have h := fun r d => pay9_at R r d
  unfold k0_pay10
  generalize k0_pay9 (F := Ideal) 0#32 1#32 k v15 v17 v25 v35 = X at *
  pointwise
  rw [h]
  have e : (8 + r.val + 520 - 1) % 520 = r.val + 7 := by omega
  show mS _ _ 8 (512 * k.val + (8 + r.val + 520 - 1) % 520) = _
  rw [e]
  unfold mS
  by_cases hk : 1 ≤ 512 * k.val + r.val
  · rw [if_pos hk, if_pos (by omega)]
    rw [show 512 * k.val + (r.val + 7) - 8 = 512 * k.val + r.val - 1 from by omega]
  · rw [if_neg hk, if_neg (by omega)]

theorem pay11_at (R : Rows x k.val v13 v15 v17 v19 v25 v35) (r : Fin 512) (d : Fin 128) :
    k0_pay11 (F := Ideal) 0#32 1#32 k v15 v17 v25 v35 (ix2 r d) = mS (col x.c d) (col x.v d) 2 (512 * k.val + r.val) := by
  have h := fun r d => pay9_at R r d
  unfold k0_pay11
  generalize k0_pay9 (F := Ideal) 0#32 1#32 k v15 v17 v25 v35 = X at *
  pointwise
  rw [h]
  have e : (8 + r.val + 520 - 2) % 520 = r.val + 6 := by omega
  show mS _ _ 8 (512 * k.val + (8 + r.val + 520 - 2) % 520) = _
  rw [e]
  unfold mS
  by_cases hk : 2 ≤ 512 * k.val + r.val
  · rw [if_pos hk, if_pos (by omega)]
    rw [show 512 * k.val + (r.val + 6) - 8 = 512 * k.val + r.val - 2 from by omega]
  · rw [if_neg hk, if_neg (by omega)]

theorem pay12_at (R : Rows x k.val v13 v15 v17 v19 v25 v35) (r : Fin 512) (d : Fin 128) :
    k0_pay12 (F := Ideal) x.w 0#32 1#32 k v15 v17 v25 v35 (ix2 r d) = x.w (ix2 2 d) * mS (col x.c d) (col x.v d) 0 (512 * k.val + r.val) + x.w (ix2 1 d) * mS (col x.c d) (col x.v d) 1 (512 * k.val + r.val) := by
  rw [← pay10_at R r d, ← pay8_at R r d]
  unfold k0_pay12
  generalize k0_pay10 (F := Ideal) 0#32 1#32 k v15 v17 v25 v35 = X
  generalize k0_pay8 (F := Ideal) v15 v17 = Y
  pointwise

/-- The gradient of the output gate. -/
theorem pay13_at (R : Rows x k.val v13 v15 v17 v19 v25 v35) (r : Fin 512) (d : Fin 128) :
    k0_pay13 (F := Ideal) x.w v19 (k0_pay11 (F := Ideal) 0#32 1#32 k v15 v17 v25 v35) (k0_pay12 (F := Ideal) x.w 0#32 1#32 k v15 v17 v25 v35) (ix2 r d)
      = col x.y d (512 * k.val + r.val) * zF (x.w (ix2 0 d)) (x.w (ix2 1 d)) (x.w (ix2 2 d)) (col x.c d) (col x.v d) (512 * k.val + r.val) := by
  unfold zF
  rw [← pay12_at R r d, ← pay11_at R r d, ← R.y]
  generalize k0_pay11 (F := Ideal) 0#32 1#32 k v15 v17 v25 v35 = X
  generalize k0_pay12 (F := Ideal) x.w 0#32 1#32 k v15 v17 v25 v35 = Y
  unfold k0_pay13
  pointwise

theorem pay14_at (R : Rows x k.val v13 v15 v17 v19 v25 v35) (r : Fin 512) (d : Fin 128) :
    k0_pay14 (F := Ideal) v13 v19 (ix2 r d) = dS (col x.b d) (col x.y d) 0 (512 * k.val + r.val) := by
  unfold k0_pay14 dS
  pointwise
  rw [R.b, R.y]

theorem next_at (R : Rows x k.val v13 v15 v17 v19 v25 v35) (N : Next x k.val v66 v76) (D : FVec Ideal S512x128 .f32)
    (hD : ∀ (r : Fin 512) (d : Fin 128), D (ix2 r d) = dS (col x.b d) (col x.y d) 0 (512 * k.val + r.val)) (e r : ℕ) (d : Fin 128) (s : ℕ) (he : e = r + s) (hs : s ≤ 8) (hr : r < 512)
    (h1 : ∀ _ : e < 512, e < 512) (h2 : ∀ _ : ¬e < 512, e - 512 < 8) :
    (if h : e < 512 then D (ix2 ⟨e, h1 h⟩ d) else v66 (ix2 ⟨e - 512, h2 h⟩ d) * (((if k.val < 7 then 1 else 0 : ℤ) : ℝ) : EReal) * (v76 (ix2 ⟨e - 512, h2 h⟩ d) * (((if k.val < 7 then 1 else 0 : ℤ) : ℝ) : EReal)))
      = dS (col x.b d) (col x.y d) s (512 * k.val + r) := by
  have hk : k.val < 8 := lt_of_lt_of_eq k.isLt trips
  subst he
  unfold dS
  by_cases h : r + s < 512
  · rw [dif_pos h, hD]
    unfold dS
    show col x.y d (512 * k.val + (r + s) + 0) * col x.b d (512 * k.val + (r + s) + 0) = _
    rw [show 512 * k.val + (r + s) + 0 = 512 * k.val + r + s from by omega]
  · rw [dif_neg h]
    by_cases h7 : k.val < 7
    · rw [if_pos h7, N.y h7, N.b h7]
      show col x.y d (512 * k.val + 512 + (r + s - 512)) * _ * (col x.b d (512 * k.val + 512 + (r + s - 512)) * _) = _
      rw [show 512 * k.val + 512 + (r + s - 512) = 512 * k.val + r + s from by omega]
      simp
    · rw [if_neg h7]
      have e : col x.y d (512 * k.val + r + s) = 0 := cf_ge _ (by omega)
      rw [e]
      simp

/-- The gradient of the gated input. -/
theorem pay15_at (R : Rows x k.val v13 v15 v17 v19 v25 v35) (N : Next x k.val v66 v76) (r : Fin 512) (d : Fin 128) :
    k0_pay15 (F := Ideal) x.w (Scf.iv 0#32 1#32 k.val) v13 v19 v66 v76 (ix2 r d)
      = gF (x.w (ix2 0 d)) (x.w (ix2 1 d)) (x.w (ix2 2 d)) (col x.b d) (col x.y d) (512 * k.val + r.val) := by
  unfold k0_pay15 gF
  have h := fun r d => pay14_at R r d
  generalize k0_pay14 (F := Ideal) v13 v19 = D at *
  pointwise
  rw [flagN]
  have hr := r.isLt
  rw [next_at R N D h ((r.val + 520 - 519) % 520) r.val d 1 (by omega) (by omega) hr,
    next_at R N D h ((r.val + 520 - 518) % 520) r.val d 2 (by omega) (by omega) hr, h]

theorem pay16_at (R : Rows x k.val v13 v15 v17 v19 v25 v35) (N : Next x k.val v66 v76) (r : Fin 512) (d : Fin 128) :
    k0_pay16 (F := Ideal) x.w (Scf.iv 0#32 1#32 k.val) v13 v17 v19 v66 v76 (ix2 r d)
      = gF (x.w (ix2 0 d)) (x.w (ix2 1 d)) (x.w (ix2 2 d)) (col x.b d) (col x.y d) (512 * k.val + r.val) * col x.v d (512 * k.val + r.val) := by
  rw [← pay15_at R N r d, ← R.v]
  unfold k0_pay16
  generalize k0_pay15 (F := Ideal) x.w (Scf.iv 0#32 1#32 k.val) v13 v19 v66 v76 = X
  pointwise

theorem pay3_at (R : Rows x k.val v13 v15 v17 v19 v25 v35) (N : Next x k.val v66 v76) (r : Fin 512) (d : Fin 128) :
    k0_pay3 (F := Ideal) v15 (k0_pay15 (F := Ideal) x.w (Scf.iv 0#32 1#32 k.val) v13 v19 v66 v76) (ix2 r d)
      = gF (x.w (ix2 0 d)) (x.w (ix2 1 d)) (x.w (ix2 2 d)) (col x.b d) (col x.y d) (512 * k.val + r.val) * col x.c d (512 * k.val + r.val) := by
  rw [← pay15_at R N r d, ← R.c]
  generalize k0_pay15 (F := Ideal) x.w (Scf.iv 0#32 1#32 k.val) v13 v19 v66 v76 = X
  unfold k0_pay3
  pointwise

end Trip

theorem pay4_at (acc : FVec Ideal S1x128 .f32) (v46 v61 : Vec Ideal S512x128 .f32) (q : Fin 1) (d : Fin 128) :
    k0_pay4 (F := Ideal) acc v46 v61 (ix2 q d) = acc (ix2 q d) + ∑ r : Fin 512, v61 (ix2 r d) * v46 (ix2 r d) := by
  unfold k0_pay4
  pointwise

theorem pay5_at (acc : FVec Ideal S1x128 .f32) (v46 v61 : Vec Ideal S512x128 .f32) (q : Fin 1) (d : Fin 128) :
    k0_pay5 (F := Ideal) acc v46 v61 (ix2 q d) = acc (ix2 q d) + ∑ r : Fin 512, v61 (ix2 r d) * v46 (ix2 r d) := by
  unfold k0_pay5
  pointwise

theorem pay6_at (acc : FVec Ideal S1x128 .f32) (v46 v61 : Vec Ideal S512x128 .f32) (q : Fin 1) (d : Fin 128) :
    k0_pay6 (F := Ideal) acc v46 v61 (ix2 q d) = acc (ix2 q d) + ∑ r : Fin 512, v61 (ix2 r d) * v46 (ix2 r d) := by
  unfold k0_pay6
  pointwise

theorem pay2_at (q : Fin 1) (d : Fin 128) : k0_pay2 (F := Ideal) (ix2 q d) = 0 := by
  unfold k0_pay2
  pointwise

theorem pay7_at (q : Fin 8) (d : Fin 128) : k0_pay7 (F := Ideal) (ix2 q d) = 0 := by
  unfold k0_pay7
  pointwise

theorem pay1_eq (w : FVec Ideal S8x128 .f32) : k0_pay1 (F := Ideal) w = w := by
  unfold k0_pay1
  pointwise

end Cert.Conv
end
-- ==== Proof.ConvLoop.lean ====
/- The convolution's backward loop over eight blocks of rows: what it leaves in its three outputs and what it carries. -/
module

public import proofs.«01_k».proof.Proof.ConvPay
public import Idealize.ShloMosaic.Lib.WholeRead
public import Idealize.ShloMosaic.Lib.VecWindow
public import Idealize.ShloMosaic.Lib.WritesUnit
public import Idealize.ShloMosaic.Lib.LoopRemainder

@[expose] public section

set_option maxRecDepth 16384

noncomputable section

namespace Cert.Conv

open Cert.Kernel16Ideal Cert.Kernel16Ideal.Gen
open Idealize.ShloMosaic Idealize.ShloMosaic.TcCoe Idealize.ShloMosaic.Tactic
open Idealize.SL Idealize.SL.RA Idealize.SL.BI
open scoped BigOperators

/-! ## Reads and stores of blocks of rows -/

theorem ld512 {arg : Memref sig .tc .vmem S4096x128 .f32} (h : arg.IsWhole) (X : FVec Ideal S4096x128 .f32) {off : Fin 2 → ℕ}
    (inb : ∀ a, off a + S512x128.size a ≤ S4096x128.size a) {n : ℕ} (ho : off = ![n, 0]) (b : Fin 512) (d : Fin 128) :
    arg.view.readAt (Elt Ideal) (Rect.unit (s := S4096x128) off S512x128.size inb).toLoadRect (h.unread X) (ix2 b d) = col X d (n + b.val) := by
  subst ho
  have hn : n + 512 ≤ 4096 := inb 0
  have hb := b.isLt
  rw [h.readAt_unread]
  refine Eq.trans (congrArg X ?_) (cf_lt (fun r => X (ix2 r d)) ⟨n + b.val, by omega⟩).symm
  funext a
  apply Fin.ext
  match a with
  | ⟨0, _⟩ => show n + 1 * b.val = n + b.val; omega
  | ⟨1, _⟩ => show 0 + 1 * d.val = d.val; omega

theorem ld8 {arg : Memref sig .tc .vmem S4096x128 .f32} (h : arg.IsWhole) (X : FVec Ideal S4096x128 .f32) {off : Fin 2 → ℕ}
    (inb : ∀ a, off a + S8x128.size a ≤ S4096x128.size a) {n : ℕ} (ho : off = ![n, 0]) (b : Fin 8) (d : Fin 128) :
    arg.view.readAt (Elt Ideal) (Rect.unit (s := S4096x128) off S8x128.size inb).toLoadRect (h.unread X) (ix2 b d) = col X d (n + b.val) := by
  subst ho
  have hn : n + 8 ≤ 4096 := inb 0
  have hb := b.isLt
  rw [h.readAt_unread]
  refine Eq.trans (congrArg X ?_) (cf_lt (fun r => X (ix2 r d)) ⟨n + b.val, by omega⟩).symm
  funext a
  apply Fin.ext
  match a with
  | ⟨0, _⟩ => show n + 1 * b.val = n + b.val; omega
  | ⟨1, _⟩ => show 0 + 1 * d.val = d.val; omega

/-- The first `s` blocks of rows hold `G`. -/
def Holds (vw : View sig .tc .vmem S4096x128 .f32) (G : ℕ → Fin 128 → EReal) (s : ℕ) (f : vw.ty.Contents (Elt Ideal)) (L : List (View.Piece (Elt Ideal) S4096x128 .f32)) : Prop :=
  ∀ (r : Fin 4096) (d : Fin 128), r.val < 512 * s → vw.read (Elt Ideal) (vw.writes (Elt Ideal) f L) (ix2 r d) = G r.val d

theorem Holds.cons {vw : View sig .tc .vmem S4096x128 .f32} {G : ℕ → Fin 128 → EReal} {s : ℕ} {f : vw.ty.Contents (Elt Ideal)} {L : List (View.Piece (Elt Ideal) S4096x128 .f32)}
    (hf : Holds vw G s f L) {off : Fin 2 → ℕ} (inb : ∀ a, off a + S512x128.size a ≤ S4096x128.size a) (ho : off = ![512 * s, 0])
    {w : Vec Ideal S512x128 .f32} (hw : ∀ (b : Fin 512) (d : Fin 128), w (ix2 b d) = G (512 * s + b.val) d) :
    Holds vw G (s + 1) f ((⟨Rect.unit off S512x128.size inb, w⟩ : View.Piece (Elt Ideal) S4096x128 .f32) :: L) := by
  intro r d hr
  by_cases h : r.val < 512 * s
  · rw [View.read_writes_cons_unit_of_not_mem vw f inb w L _ ho 0 (by
      show r.val < 512 * s ∨ 512 * s + 512 ≤ r.val
      omega)]
    exact hf r d h
  · rw [View.read_writes_cons_unit_of_mem vw f inb w L _ (ix2 ⟨r.val - 512 * s, by omega⟩ d) ho (by
      intro a
      match a with
      | ⟨0, _⟩ => show r.val = 512 * s + (r.val - 512 * s); omega
      | ⟨1, _⟩ => show d.val = 0 + d.val; omega)]
    rw [hw]
    show G (512 * s + (r.val - 512 * s)) d = _
    rw [show 512 * s + (r.val - 512 * s) = r.val from by omega]

/-! ## The results of a group of channels -/

/-- The gradient of the output gate. -/
def dbAt (x : Blk) (n : ℕ) (d : Fin 128) : EReal := col x.y d n * zF (x.w (ix2 0 d)) (x.w (ix2 1 d)) (x.w (ix2 2 d)) (col x.c d) (col x.v d) n
/-- The gradient of the input gate. -/
def dcAt (x : Blk) (n : ℕ) (d : Fin 128) : EReal := gF (x.w (ix2 0 d)) (x.w (ix2 1 d)) (x.w (ix2 2 d)) (col x.b d) (col x.y d) n * col x.v d n
/-- The gradient of the value. -/
def dvAt (x : Blk) (n : ℕ) (d : Fin 128) : EReal := gF (x.w (ix2 0 d)) (x.w (ix2 1 d)) (x.w (ix2 2 d)) (col x.b d) (col x.y d) n * col x.c d n
/-- The gradient of the tap `j` rows back, over the first `s` blocks. -/
def dwAt (x : Blk) (j s : ℕ) : FVec Ideal S1x128 .f32 := fun z =>
  ∑ t ∈ Finset.range s, ∑ r : Fin 512, dS (col x.b (z 1)) (col x.y (z 1)) 0 (512 * t + r.val) * mS (col x.c (z 1)) (col x.v (z 1)) j (512 * t + r.val)

theorem dwAt_succ (x : Blk) (j s : ℕ) (q : Fin 1) (d : Fin 128) : dwAt x j (s + 1) (ix2 q d) = dwAt x j s (ix2 q d)
    + ∑ r : Fin 512, dS (col x.b d) (col x.y d) 0 (512 * s + r.val) * mS (col x.c d) (col x.v d) j (512 * s + r.val) :=
  Finset.sum_range_succ _ _

section Loop

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S8x128 .f32) (harg9 : arg9.IsWhole) (x : Blk)

theorem rows (k : Fin k0_t1_loop.trips) : Rows x k.val (arg1.view.readAt (Elt Ideal) (Rect.unit (s := S4096x128) (k0_off1 k) S512x128.size (k0_off1_inb k)).toLoadRect (harg1.unread x.b)) (arg2.view.readAt (Elt Ideal) (Rect.unit (s := S4096x128) (k0_off1 k) S512x128.size (k0_off1_inb k)).toLoadRect (harg2.unread x.c)) (arg3.view.readAt (Elt Ideal) (Rect.unit (s := S4096x128) (k0_off1 k) S512x128.size (k0_off1_inb k)).toLoadRect (harg3.unread x.v)) (arg5.view.readAt (Elt Ideal) (Rect.unit (s := S4096x128) (k0_off1 k) S512x128.size (k0_off1_inb k)).toLoadRect (harg5.unread x.y)) (arg2.view.readAt (Elt Ideal) (Rect.unit (s := S4096x128) (k0_off2 k) S8x128.size (k0_off2_inb k)).toLoadRect (harg2.unread x.c)) (arg3.view.readAt (Elt Ideal) (Rect.unit (s := S4096x128) (k0_off2 k) S8x128.size (k0_off2_inb k)).toLoadRect (harg3.unread x.v)) := by
  have hk : k.val < 8 := lt_of_lt_of_eq k.isLt trips
  exact ⟨ld512 harg1 _ _ (off1 k), ld512 harg2 _ _ (off1 k), ld512 harg3 _ _ (off1 k), ld512 harg5 _ _ (off1 k), fun _ => ld8 harg2 _ _ (off2 k), fun _ => ld8 harg3 _ _ (off2 k)⟩

theorem next (k : Fin k0_t1_loop.trips) : Next x k.val (arg5.view.readAt (Elt Ideal) (Rect.unit (s := S4096x128) (k0_off3 k) S8x128.size (k0_off3_inb k)).toLoadRect (harg5.unread x.y)) (arg1.view.readAt (Elt Ideal) (Rect.unit (s := S4096x128) (k0_off3 k) S8x128.size (k0_off3_inb k)).toLoadRect (harg1.unread x.b)) := by
  have e : k.val < 7 → k0_off3 k = ![512 * k.val + 512, 0] := fun h => by rw [off3, min_eq_left (by omega)]
  exact ⟨fun h => ld8 harg5 _ _ (e h), fun h => ld8 harg1 _ _ (e h)⟩

theorem tripR_eq (k : Fin k0_t1_loop.trips) :
    tripR_k0_t1 (F := Ideal) 𝒱 c bd i arg1 harg1 arg2 harg2 arg3 harg3 arg4 harg4 arg5 harg5 arg6 harg6 arg7 harg7 arg8 harg8 arg9 harg9 x.w (harg1.unread x.b) (harg2.unread x.c) (harg3.unread x.v) (harg5.unread x.y) k (dwAt x 2 k.val, dwAt x 1 k.val, dwAt x 0 k.val)
      = (dwAt x 2 (k.val + 1), dwAt x 1 (k.val + 1), dwAt x 0 (k.val + 1)) := by
  have R := rows arg1 harg1 arg2 harg2 arg3 harg3 arg5 harg5 x k
  unfold tripR_k0_t1 trip_k0_t1
  dsimp only
  refine Prod.ext ?_ (Prod.ext ?_ ?_)
  · funext z
    idx_vars z
    refine (pay4_at _ _ _ z0 z1).trans ((congrArg _ (Finset.sum_congr rfl fun r _ => ?_)).trans (dwAt_succ x 2 k.val z0 z1).symm)
    exact congrArg₂ (· * ·) (pay14_at R r z1) (pay11_at R r z1)
  · funext z
    idx_vars z
    refine (pay5_at _ _ _ z0 z1).trans ((congrArg _ (Finset.sum_congr rfl fun r _ => ?_)).trans (dwAt_succ x 1 k.val z0 z1).symm)
    exact congrArg₂ (· * ·) (pay14_at R r z1) (pay10_at R r z1)
  · funext z
    idx_vars z
    refine (pay6_at _ _ _ z0 z1).trans ((congrArg _ (Finset.sum_congr rfl fun r _ => ?_)).trans (dwAt_succ x 0 k.val z0 z1).symm)
    exact congrArg₂ (· * ·) (pay14_at R r z1) (pay8_at R r z1)

theorem tripL_eq (k : Fin k0_t1_loop.trips) (acc : FVec Ideal S1x128 .f32 × FVec Ideal S1x128 .f32 × FVec Ideal S1x128 .f32)
    (V6 V7 V8 : View sig .tc .vmem S4096x128 .f32) (f6 : V6.ty.Contents (Elt Ideal)) (f7 : V7.ty.Contents (Elt Ideal)) (f8 : V8.ty.Contents (Elt Ideal)) (L6 L7 L8 : List (View.Piece (Elt Ideal) S4096x128 .f32))
    (h6 : Holds V6 (dbAt x) k.val f6 L6) (h7 : Holds V7 (dcAt x) k.val f7 L7) (h8 : Holds V8 (dvAt x) k.val f8 L8) :
    let T := tripL_k0_t1 (F := Ideal) 𝒱 c bd i arg1 harg1 arg2 harg2 arg3 harg3 arg4 harg4 arg5 harg5 arg6 harg6 arg7 harg7 arg8 harg8 arg9 harg9 x.w (harg1.unread x.b) (harg2.unread x.c) (harg3.unread x.v) (harg5.unread x.y) k acc
    Holds V6 (dbAt x) (k.val + 1) f6 (T.1 ++ L6) ∧ Holds V7 (dcAt x) (k.val + 1) f7 (T.2.1 ++ L7) ∧ Holds V8 (dvAt x) (k.val + 1) f8 (T.2.2 ++ L8) := by
  have R := rows arg1 harg1 arg2 harg2 arg3 harg3 arg5 harg5 x k
  have N := next arg1 harg1 arg5 harg5 x k
  unfold tripL_k0_t1 trip_k0_t1
  dsimp only
  refine ⟨h6.cons _ (off1 k) fun b d => ?_, h7.cons _ (off1 k) fun b d => ?_, h8.cons _ (off1 k) fun b d => ?_⟩
  · show k0_pay13 (F := Ideal) (k0_pay1 (F := Ideal) x.w) _ _ (k0_pay12 (F := Ideal) (k0_pay1 (F := Ideal) x.w) _ _ _ _ _ _ _) (ix2 b d) = _
    rw [pay1_eq]
    exact pay13_at R b d
  · show k0_pay16 (F := Ideal) (k0_pay1 (F := Ideal) x.w) _ _ _ _ _ _ (ix2 b d) = _
    rw [pay1_eq]
    exact pay16_at R N b d
  · show k0_pay3 (F := Ideal) _ (k0_pay15 (F := Ideal) (k0_pay1 (F := Ideal) x.w) _ _ _ _ _) (ix2 b d) = _
    rw [pay1_eq]
    exact pay3_at R N b d

theorem st_eq (V6 V7 V8 : View sig .tc .vmem S4096x128 .f32) (f6 : V6.ty.Contents (Elt Ideal)) (f7 : V7.ty.Contents (Elt Ideal)) (f8 : V8.ty.Contents (Elt Ideal))
    {init : FVec Ideal S1x128 .f32 × FVec Ideal S1x128 .f32 × FVec Ideal S1x128 .f32} (hi : init = (dwAt x 2 0, dwAt x 1 0, dwAt x 0 0)) (s : ℕ) (hs : s ≤ k0_t1_loop.trips) :
    let S := st_k0_t1 (F := Ideal) 𝒱 c bd i arg1 harg1 arg2 harg2 arg3 harg3 arg4 harg4 arg5 harg5 arg6 harg6 arg7 harg7 arg8 harg8 arg9 harg9 x.w (harg1.unread x.b) (harg2.unread x.c) (harg3.unread x.v) (harg5.unread x.y) init s
    S.1 = (dwAt x 2 s, dwAt x 1 s, dwAt x 0 s) ∧ Holds V6 (dbAt x) s f6 S.2.1 ∧ Holds V7 (dcAt x) s f7 S.2.2.1 ∧ Holds V8 (dvAt x) s f8 S.2.2.2 := by
  induction s with
  | zero => exact ⟨hi, fun r d h => absurd h (by omega), fun r d h => absurd h (by omega), fun r d h => absurd h (by omega)⟩
  | succ s ih =>
    obtain ⟨i1, i2, i3, i4⟩ := ih (by omega)
    have e := st_k0_t1_succ (F := Ideal) 𝒱 c bd i arg1 harg1 arg2 harg2 arg3 harg3 arg4 harg4 arg5 harg5 arg6 harg6 arg7 harg7 arg8 harg8 arg9 harg9 x.w (harg1.unread x.b) (harg2.unread x.c) (harg3.unread x.v) (harg5.unread x.y) init ⟨s, by omega⟩
    intro S
    have e' : S = _ := e
    have L := tripL_eq 𝒱 c bd i arg1 harg1 arg2 harg2 arg3 harg3 arg4 harg4 arg5 harg5 arg6 harg6 arg7 harg7 arg8 harg8 arg9 harg9 x ⟨s, by omega⟩ (st_k0_t1 (F := Ideal) 𝒱 c bd i arg1 harg1 arg2 harg2 arg3 harg3 arg4 harg4 arg5 harg5 arg6 harg6 arg7 harg7 arg8 harg8 arg9 harg9 x.w (harg1.unread x.b) (harg2.unread x.c) (harg3.unread x.v) (harg5.unread x.y) init s).1 V6 V7 V8 f6 f7 f8 _ _ _ i2 i3 i4
    rw [e']
    refine ⟨?_, L.1, L.2.1, L.2.2⟩
    dsimp only
    rw [i1]
    exact tripR_eq 𝒱 c bd i arg1 harg1 arg2 harg2 arg3 harg3 arg4 harg4 arg5 harg5 arg6 harg6 arg7 harg7 arg8 harg8 arg9 harg9 x ⟨s, by omega⟩

theorem init_eq : (k0_pay2 (F := Ideal), k0_pay2 (F := Ideal), k0_pay2 (F := Ideal)) = (dwAt x 2 0, dwAt x 1 0, dwAt x 0 0) := by
  have h : ∀ j, k0_pay2 (F := Ideal) = dwAt x j 0 := fun j => funext fun z => by
    idx_vars z
    exact pay2_at z0 z1
  rw [← h 2, ← h 1, ← h 0]

theorem full4 : (arg4.view.readAt (Elt Ideal) (Rect.unit (s := S8x128) ![0, 0] S8x128.size inb_S8x128_S8x128_0_0).toLoadRect (harg4.unread x.w)) = x.w := (View.readAt_full _ _ _).trans (harg4.read_unread _)

end Loop

end Cert.Conv

end
-- ==== Proof.ConvRef.lean ====
/- The convolution's backward pass as sums over rows, and the reference's results in that form. -/
module

public import proofs.«01_k».proof.Proof.ConvPay
public import proofs.«01_k».proof.Proof.Gen.Reference16Ideal.Run
public import Idealize.ShloMosaic.Lib.Claim

@[expose] public section

set_option maxRecDepth 16384

noncomputable section

namespace Cert.Conv

open Idealize.ShloMosaic Idealize.ShloMosaic.TcCoe Idealize.SL.Sem
open scoped BigOperators

section Right

open Cert.Reference16Ideal Cert.Reference16Ideal.Gen

/-- The columns of the output gate, the input gate, the value and the incoming gradient. -/
def cB (p : FVec Ideal S4096x5760 .f32) (j : Fin 512) : ℕ → EReal := cf fun r => p (ix2 r ⟨j.val, by omega⟩)
def cC (p : FVec Ideal S4096x5760 .f32) (j : Fin 512) : ℕ → EReal := cf fun r => p (ix2 r ⟨512 + j.val, by omega⟩)
def cV (p : FVec Ideal S4096x5760 .f32) (j : Fin 512) : ℕ → EReal := cf fun r => p (ix2 r ⟨1024 + j.val, by omega⟩)
def cY (y : FVec Ideal S4096x512 .f32) (j : Fin 512) : ℕ → EReal := cf fun r => y (ix2 r j)

/-- The gradient of the output gate. -/
def outB (p : FVec Ideal S4096x5760 .f32) (w : FVec Ideal S3x512 .f32) (y : FVec Ideal S4096x512 .f32) : FVec Ideal S4096x512 .f32 := fun z =>
  cY y (z 1) (z 0).val * zF (w (ix2 0 (z 1))) (w (ix2 1 (z 1))) (w (ix2 2 (z 1))) (cC p (z 1)) (cV p (z 1)) (z 0).val
/-- The gradient of the input gate. -/
def outC (p : FVec Ideal S4096x5760 .f32) (w : FVec Ideal S3x512 .f32) (y : FVec Ideal S4096x512 .f32) : FVec Ideal S4096x512 .f32 := fun z =>
  gF (w (ix2 0 (z 1))) (w (ix2 1 (z 1))) (w (ix2 2 (z 1))) (cB p (z 1)) (cY y (z 1)) (z 0).val * cV p (z 1) (z 0).val
/-- The gradient of the value. -/
def outV (p : FVec Ideal S4096x5760 .f32) (w : FVec Ideal S3x512 .f32) (y : FVec Ideal S4096x512 .f32) : FVec Ideal S4096x512 .f32 := fun z =>
  gF (w (ix2 0 (z 1))) (w (ix2 1 (z 1))) (w (ix2 2 (z 1))) (cB p (z 1)) (cY y (z 1)) (z 0).val * cC p (z 1) (z 0).val
/-- The gradient of the tap `j` rows back. -/
def tap (p : FVec Ideal S4096x5760 .f32) (y : FVec Ideal S4096x512 .f32) (j : ℕ) (q : Fin 512) : EReal := ∑ n : Fin 4096, dS (cB p q) (cY y q) 0 n.val * mS (cC p q) (cV p q) j n.val
/-- The gradient of the weights, below it five rows of zeros. -/
def outW (p : FVec Ideal S4096x5760 .f32) (y : FVec Ideal S4096x512 .f32) : FVec Ideal S8x512 .f32 := fun z => if (z 0).val < 3 then tap p y (2 - (z 0).val) (z 1) else 0

/-- The gated input below two rows of zeros. -/
def xp (p : FVec Ideal S4096x5760 .f32) : FVec Ideal S4098x512 .f32 := (concatenate S4098x512 0 [⟨S2x512, (broadcastInDim S2x512 ![] bcast_S_S2x512 (constant S_ .f32 0x00000000#32))⟩, ⟨S4096x512, (mulf (extractStridedSlice S4096x512 ![0, 512] p slices_S4096x5760_S4096x512_0_512) (extractStridedSlice S4096x512 ![0, 1024] p slices_S4096x5760_S4096x512_0_1024))⟩] concatenates_S2x512_S4096x512_S4098x512_d0)
/-- The gradient of the convolution's result. -/
def dz (p : FVec Ideal S4096x5760 .f32) (y : FVec Ideal S4096x512 .f32) : FVec Ideal S4096x512 .f32 := (mulf (extractStridedSlice S4096x512 ![0, 0] p slices_S4096x5760_S4096x512_0_0) y)
/-- Tap 0 of the weights on every row. -/
def wr0 (w : FVec Ideal S3x512 .f32) : FVec Ideal S4096x512 .f32 := (broadcastInDim S4096x512 ![0, 1] bcast_S1x512_S4096x512_0_1 (broadcastInDim S1x512 ![1] bcast_S512_S1x512_1 (shapeCast _ (extractStridedSlice S1x512 ![0, 0] w slices_S3x512_S1x512_0_0) shapeCasts_S1x512_S512)))
/-- Tap 1 of the weights on every row. -/
def wr1 (w : FVec Ideal S3x512 .f32) : FVec Ideal S4096x512 .f32 := (broadcastInDim S4096x512 ![0, 1] bcast_S1x512_S4096x512_0_1 (broadcastInDim S1x512 ![1] bcast_S512_S1x512_1 (shapeCast _ (extractStridedSlice S1x512 ![1, 0] w slices_S3x512_S1x512_1_0) shapeCasts_S1x512_S512)))
/-- Tap 2 of the weights on every row. -/
def wr2 (w : FVec Ideal S3x512 .f32) : FVec Ideal S4096x512 .f32 := (broadcastInDim S4096x512 ![0, 1] bcast_S1x512_S4096x512_0_1 (broadcastInDim S1x512 ![1] bcast_S512_S1x512_1 (shapeCast _ (extractStridedSlice S1x512 ![2, 0] w slices_S3x512_S1x512_2_0) shapeCasts_S1x512_S512)))
/-- The gradient of the gated input. -/
def gx (p : FVec Ideal S4096x5760 .f32) (w : FVec Ideal S3x512 .f32) (y : FVec Ideal S4096x512 .f32) : FVec Ideal S4096x512 .f32 := (extractStridedSlice S4096x512 ![2, 0] (addf (addf (pad S4098x512 ![2, 0] ![0, 0] ![0, 0] (mulf (wr2 w) (dz p y)) (constant S_ .f32 0x00000000#32) pads_S4096x512_S4098x512_200_000 h_S_) (pad S4098x512 ![1, 0] ![1, 0] ![0, 0] (mulf (wr1 w) (dz p y)) (constant S_ .f32 0x00000000#32) pads_S4096x512_S4098x512_110_000 h_S_)) (pad S4098x512 ![0, 0] ![2, 0] ![0, 0] (mulf (wr0 w) (dz p y)) (constant S_ .f32 0x00000000#32) pads_S4096x512_S4098x512_020_000 h_S_)) slices_S4098x512_S4096x512_2_0)
/-- The gradient of tap 2. -/
def sm2 (p : FVec Ideal S4096x5760 .f32) (y : FVec Ideal S4096x512 .f32) : FVec Ideal S1x512 .f32 := (broadcastInDim S1x512 ![1] bcast_S512_S1x512_1 (Host.reduceAdd (shapeCast _ (Host.reduceAdd (mulf (dz p y) (extractStridedSlice S4096x512 ![2, 0] (xp p) slices_S4098x512_S4096x512_2_0)) (constant S_ .f32 0x00000000#32) reducesTo_S4096x512_S512_d0 h_S_) shapeCasts_S512_S1x512) (constant S_ .f32 0x00000000#32) reducesTo_S1x512_S512_d0 h_S_))
/-- The gradient of tap 1. -/
def sm1 (p : FVec Ideal S4096x5760 .f32) (y : FVec Ideal S4096x512 .f32) : FVec Ideal S1x512 .f32 := (broadcastInDim S1x512 ![1] bcast_S512_S1x512_1 (Host.reduceAdd (shapeCast _ (Host.reduceAdd (mulf (dz p y) (extractStridedSlice S4096x512 ![1, 0] (xp p) slices_S4098x512_S4096x512_1_0)) (constant S_ .f32 0x00000000#32) reducesTo_S4096x512_S512_d0 h_S_) shapeCasts_S512_S1x512) (constant S_ .f32 0x00000000#32) reducesTo_S1x512_S512_d0 h_S_))
/-- The gradient of tap 0. -/
def sm0 (p : FVec Ideal S4096x5760 .f32) (y : FVec Ideal S4096x512 .f32) : FVec Ideal S1x512 .f32 := (broadcastInDim S1x512 ![1] bcast_S512_S1x512_1 (Host.reduceAdd (shapeCast _ (Host.reduceAdd (mulf (dz p y) (extractStridedSlice S4096x512 ![0, 0] (xp p) slices_S4098x512_S4096x512_0_0)) (constant S_ .f32 0x00000000#32) reducesTo_S4096x512_S512_d0 h_S_) shapeCasts_S512_S1x512) (constant S_ .f32 0x00000000#32) reducesTo_S1x512_S512_d0 h_S_))

theorem xp_at (p : FVec Ideal S4096x5760 .f32) (i : Fin 4098) (j : Fin 512) : xp p (ix2 i j) = mS (cC p j) (cV p j) 2 i.val := by
  unfold xp mS
  by_cases h : 2 ≤ i.val
  · rw [if_pos h]
    pointwise
    rw [dif_neg (by omega)]
    unfold cC cV
    have e : ∀ (f : Fin 4096 → EReal), cf f (i.val - 2) = f ⟨i.val - 2, by omega⟩ := fun f => cf_lt f ⟨i.val - 2, by omega⟩
    rw [e, e]
  · rw [if_neg h]
    pointwise
    rw [dif_pos (by omega)]

theorem dz_at (p : FVec Ideal S4096x5760 .f32) (y : FVec Ideal S4096x512 .f32) (n : Fin 4096) (j : Fin 512) : dz p y (ix2 n j) = dS (cB p j) (cY y j) 0 n.val := by
  unfold dz dS cB cY
  rw [Nat.add_zero, cf_lt, cf_lt, mul_comm]
  pointwise

theorem wr0_at (w : FVec Ideal S3x512 .f32) (n : Fin 4096) (j : Fin 512) : wr0 w (ix2 n j) = w (ix2 0 j) := by
  unfold wr0
  pointwise
theorem wr1_at (w : FVec Ideal S3x512 .f32) (n : Fin 4096) (j : Fin 512) : wr1 w (ix2 n j) = w (ix2 1 j) := by
  unfold wr1
  pointwise
theorem wr2_at (w : FVec Ideal S3x512 .f32) (n : Fin 4096) (j : Fin 512) : wr2 w (ix2 n j) = w (ix2 2 j) := by
  unfold wr2
  pointwise

theorem mS_shift (C V : ℕ → EReal) (k m n : ℕ) : mS C V (k + m) (n + m) = mS C V k n := by
  unfold mS
  by_cases h : k ≤ n
  · rw [if_pos h, if_pos (by omega), show n + m - (k + m) = n - k from by omega]
  · rw [if_neg h, if_neg (by omega)]

theorem gx_at (p : FVec Ideal S4096x5760 .f32) (w : FVec Ideal S3x512 .f32) (y : FVec Ideal S4096x512 .f32) (n : Fin 4096) (j : Fin 512) : gx p w y (ix2 n j)
    = gF (w (ix2 0 j)) (w (ix2 1 j)) (w (ix2 2 j)) (cB p j) (cY y j) n.val := by
  unfold gx gF
  have h0 := wr0_at w
  have h1 := wr1_at w
  have h2 := wr2_at w
  have hd := dz_at p y
  generalize wr0 w = W0 at *
  generalize wr1 w = W1 at *
  generalize wr2 w = W2 at *
  generalize dz p y = Z at *
  pointwise
  have e : ∀ m, dS (cB p j) (cY y j) 0 (n.val + m) = dS (cB p j) (cY y j) m n.val := fun m => rfl
  have z : ∀ m, ¬n.val + m < 4096 → dS (cB p j) (cY y j) m n.val = 0 := fun m h => by
    unfold dS cY
    rw [cf_ge _ h, zero_mul]
  refine congrArg₂ (· + ·) (congrArg₂ (· + ·) ?_ ?_) ?_
  · rw [h2, hd]
  · by_cases h : n.val + 1 < 4096
    · rw [dif_pos (by omega), h1, hd]
      show _ * dS _ _ 0 (2 + n.val - 1) = _
      rw [show 2 + n.val - 1 = n.val + 1 from by omega, e]
    · rw [dif_neg (by omega), z 1 h, mul_zero]
  · by_cases h : n.val + 2 < 4096
    · rw [dif_pos (by omega), h0, hd]
      show _ * dS _ _ 0 (2 + n.val) = _
      rw [show 2 + n.val = n.val + 2 from by omega, e]
    · rw [dif_neg (by omega), z 2 h, mul_zero]

theorem sm2_at (p : FVec Ideal S4096x5760 .f32) (y : FVec Ideal S4096x512 .f32) (q : Fin 1) (j : Fin 512) : sm2 p y (ix2 q j) = tap p y 0 j := by
  unfold sm2 tap
  have hx := xp_at p
  have hd := dz_at p y
  generalize xp p = X at *
  generalize dz p y = Z at *
  pointwise
  refine Fintype.sum_unique _ |>.trans ?_
  refine Finset.sum_congr rfl fun n _ => ?_
  rw [hd, hx]
  exact congrArg _ ((congrArg (mS _ _ 2) (Nat.add_comm 2 n.val)).trans (mS_shift _ _ 0 2 n.val))

theorem sm1_at (p : FVec Ideal S4096x5760 .f32) (y : FVec Ideal S4096x512 .f32) (q : Fin 1) (j : Fin 512) : sm1 p y (ix2 q j) = tap p y 1 j := by
  unfold sm1 tap
  have hx := xp_at p
  have hd := dz_at p y
  generalize xp p = X at *
  generalize dz p y = Z at *
  pointwise
  refine Fintype.sum_unique _ |>.trans ?_
  refine Finset.sum_congr rfl fun n _ => ?_
  rw [hd, hx]
  exact congrArg _ ((congrArg (mS _ _ 2) (Nat.add_comm 1 n.val)).trans (mS_shift _ _ 1 1 n.val))

theorem sm0_at (p : FVec Ideal S4096x5760 .f32) (y : FVec Ideal S4096x512 .f32) (q : Fin 1) (j : Fin 512) : sm0 p y (ix2 q j) = tap p y 2 j := by
  unfold sm0 tap
  have hx := xp_at p
  have hd := dz_at p y
  generalize xp p = X at *
  generalize dz p y = Z at *
  pointwise
  refine Fintype.sum_unique _ |>.trans ?_
  refine Finset.sum_congr rfl fun n _ => ?_
  rw [hd, hx]

theorem ref_b (p : FVec Ideal S4096x5760 .f32) (w : FVec Ideal S3x512 .f32) (y : FVec Ideal S4096x512 .f32) : mulf y (addf (addf (addf (broadcastInDim S4096x512 ![] bcast_S_S4096x512 (constant S_ .f32 0x00000000#32)) (mulf (wr0 w) (extractStridedSlice S4096x512 ![0, 0] (xp p) slices_S4098x512_S4096x512_0_0))) (mulf (wr1 w) (extractStridedSlice S4096x512 ![1, 0] (xp p) slices_S4098x512_S4096x512_1_0))) (mulf (wr2 w) (extractStridedSlice S4096x512 ![2, 0] (xp p) slices_S4098x512_S4096x512_2_0)))
    = outB p w y := by
  funext z
  idx_vars z
  show _ = cY y z1 z0.val * zF (w (ix2 0 z1)) (w (ix2 1 z1)) (w (ix2 2 z1)) (cC p z1) (cV p z1) z0.val
  unfold zF
  rw [← wr0_at w z0 z1, ← wr1_at w z0 z1, ← wr2_at w z0 z1]
  have hx := xp_at p
  generalize xp p = X at *
  generalize wr0 w = W0 at *
  generalize wr1 w = W1 at *
  generalize wr2 w = W2 at *
  pointwise
  refine congrArg₂ (· * ·) (cf_lt (fun r => y (ix2 r z1)) z0).symm ?_
  rw [hx, hx, hx]
  show W0 (ix2 z0 z1) * mS _ _ 2 z0.val + W1 (ix2 z0 z1) * mS _ _ 2 (1 + z0.val) + W2 (ix2 z0 z1) * mS _ _ 2 (2 + z0.val) = _
  rw [Nat.add_comm 1, Nat.add_comm 2, mS_shift _ _ 1 1, mS_shift _ _ 0 2, add_comm, add_comm (W0 (ix2 z0 z1) * _), ← add_assoc]

theorem ref_c (p : FVec Ideal S4096x5760 .f32) (w : FVec Ideal S3x512 .f32) (y : FVec Ideal S4096x512 .f32) : mulf (gx p w y) (extractStridedSlice S4096x512 ![0, 1024] p slices_S4096x5760_S4096x512_0_1024)
    = outC p w y := by
  funext z
  idx_vars z
  show _ = gF (w (ix2 0 z1)) (w (ix2 1 z1)) (w (ix2 2 z1)) (cB p z1) (cY y z1) z0.val * cV p z1 z0.val
  unfold cV
  rw [← gx_at, cf_lt]
  generalize gx p w y = G
  pointwise

theorem ref_v (p : FVec Ideal S4096x5760 .f32) (w : FVec Ideal S3x512 .f32) (y : FVec Ideal S4096x512 .f32) : mulf (extractStridedSlice S4096x512 ![0, 512] p slices_S4096x5760_S4096x512_0_512) (gx p w y)
    = outV p w y := by
  funext z
  idx_vars z
  show _ = gF (w (ix2 0 z1)) (w (ix2 1 z1)) (w (ix2 2 z1)) (cB p z1) (cY y z1) z0.val * cC p z1 z0.val
  unfold cC
  rw [← gx_at, cf_lt, mul_comm]
  generalize gx p w y = G
  pointwise

theorem ref_w (p : FVec Ideal S4096x5760 .f32) (y : FVec Ideal S4096x512 .f32) : concatenate S8x512 0 [⟨S3x512, (addf (addf (pad S3x512 ![2, 0] ![0, 0] ![0, 0] (sm2 p y) (constant S_ .f32 0x00000000#32) pads_S1x512_S3x512_200_000 h_S_) (pad S3x512 ![1, 0] ![1, 0] ![0, 0] (sm1 p y) (constant S_ .f32 0x00000000#32) pads_S1x512_S3x512_110_000 h_S_)) (pad S3x512 ![0, 0] ![2, 0] ![0, 0] (sm0 p y) (constant S_ .f32 0x00000000#32) pads_S1x512_S3x512_020_000 h_S_))⟩, ⟨S5x512, (broadcastInDim S5x512 ![] bcast_S_S5x512 (constant S_ .f32 0x00000000#32))⟩] concatenates_S3x512_S5x512_S8x512_d0
    = outW p y := by
  funext z
  idx_vars z
  show _ = if z0.val < 3 then tap p y (2 - z0.val) z1 else 0
  have h2 := fun q => sm2_at p y q z1
  have h1 := fun q => sm1_at p y q z1
  have h0 := fun q => sm0_at p y q z1
  generalize sm2 p y = S2 at *
  generalize sm1 p y = S1 at *
  generalize sm0 p y = S0 at *
  by_cases h : z0.val < 3
  · rw [if_pos h]
    pointwise
    rw [dif_pos h]
    have h3 : z0.val = 0 ∨ z0.val = 1 ∨ z0.val = 2 := by omega
    rcases h3 with h3 | h3 | h3
    · rw [dif_neg (show ¬(2 ≤ z0.val ∧ z0.val - 2 < 1) by omega), dif_neg (show ¬(1 ≤ z0.val ∧ z0.val - 1 < 1) by omega), dif_pos (show z0.val < 1 by omega), zero_add, zero_add, h0, show 2 - z0.val = 2 from by omega]
    · rw [dif_neg (show ¬(2 ≤ z0.val ∧ z0.val - 2 < 1) by omega), dif_pos (show 1 ≤ z0.val ∧ z0.val - 1 < 1 by omega), dif_neg (show ¬(z0.val < 1) by omega), zero_add, add_zero, h1, show 2 - z0.val = 1 from by omega]
    · rw [dif_pos (show 2 ≤ z0.val ∧ z0.val - 2 < 1 by omega), dif_neg (show ¬(1 ≤ z0.val ∧ z0.val - 1 < 1) by omega), dif_neg (show ¬(z0.val < 1) by omega), add_zero, add_zero, h2, show 2 - z0.val = 0 from by omega]
  · rw [if_neg h]
    pointwise
    rw [dif_neg h]

end Right

end Cert.Conv

end
-- ==== Proof.Conv.lean ====
/- The convolution's backward pass: the gradients of the two gates, of the value and of the weights. -/
module

public import proofs.«01_k».proof.Defs
public import proofs.«01_k».proof.Proof.ConvLoop
public import proofs.«01_k».proof.Proof.ConvRef
public import proofs.«01_k».proof.Proof.Gen.Kernel16Ideal.Value
public import Idealize.ShloMosaic.Lib.Claim
public import Idealize.ShloMosaic.Lib.Pipeline.ValueKit

@[expose] public section

set_option maxRecDepth 16384

noncomputable section

namespace Cert.Conv

open Idealize.ShloMosaic Idealize.ShloMosaic.TcCoe Idealize.SL.Sem
open scoped BigOperators

/-- A sum over the rows, block by block. -/
theorem sum_rows (f : ℕ → EReal) : ∑ t ∈ Finset.range 8, ∑ r : Fin 512, f (512 * t + r.val) = ∑ n : Fin 4096, f n.val := by
  rw [Finset.sum_range, ← (finProdFinEquiv (m := 8) (n := 512)).sum_comp, Fintype.sum_prod_type]
  refine Finset.sum_congr rfl fun t _ => Finset.sum_congr rfl fun r _ => congrArg f ?_
  show 512 * t.val + r.val = r.val + 512 * t.val
  omega

section Left

open Cert.Kernel16Ideal Cert.Kernel16Ideal.Gen

/-! ## The rows of the weights' gradient -/

theorem row_hit (vw : View sig .tc .vmem S8x128 .f32) (f : vw.ty.Contents (Elt Ideal)) (k : ℕ) (inb : ∀ a, (![k, 0] : Fin 2 → ℕ) a + S1x128.size a ≤ S8x128.size a)
    (w : FVec Ideal S1x128 .f32) (L : List (View.Piece (Elt Ideal) S8x128 .f32)) (r : Fin 8) (d : Fin 128) (h : r.val = k) :
    vw.read (Elt Ideal) (vw.writes (Elt Ideal) f ((⟨Rect.unit (s := S8x128) ![k, 0] S1x128.size inb, w⟩ : View.Piece (Elt Ideal) S8x128 .f32) :: L)) (ix2 r d) = w (ix2 0 d) :=
  View.read_writes_cons_unit_of_mem vw f inb w L (ix2 r d) (ix2 0 d) rfl (by
    intro a
    match a with
    | ⟨0, _⟩ => show r.val = k + 0; omega
    | ⟨1, _⟩ => show d.val = 0 + d.val; omega)

theorem row_miss (vw : View sig .tc .vmem S8x128 .f32) (f : vw.ty.Contents (Elt Ideal)) (k : ℕ) (inb : ∀ a, (![k, 0] : Fin 2 → ℕ) a + S1x128.size a ≤ S8x128.size a)
    (w : FVec Ideal S1x128 .f32) (L : List (View.Piece (Elt Ideal) S8x128 .f32)) (r : Fin 8) (d : Fin 128) (h : ¬r.val = k) :
    vw.read (Elt Ideal) (vw.writes (Elt Ideal) f ((⟨Rect.unit (s := S8x128) ![k, 0] S1x128.size inb, w⟩ : View.Piece (Elt Ideal) S8x128 .f32) :: L)) (ix2 r d)
      = vw.read (Elt Ideal) (vw.writes (Elt Ideal) f L) (ix2 r d) :=
  View.read_writes_cons_unit_of_not_mem vw f inb w L (ix2 r d) rfl 0 (by
    show r.val < k ∨ k + 1 ≤ r.val
    omega)

theorem whole_hit (vw : View sig .tc .vmem S8x128 .f32) (f : vw.ty.Contents (Elt Ideal)) (inb : ∀ a, (![0, 0] : Fin 2 → ℕ) a + S8x128.size a ≤ S8x128.size a)
    (w : FVec Ideal S8x128 .f32) (L : List (View.Piece (Elt Ideal) S8x128 .f32)) (r : Fin 8) (d : Fin 128) :
    vw.read (Elt Ideal) (vw.writes (Elt Ideal) f ((⟨Rect.unit (s := S8x128) ![0, 0] S8x128.size inb, w⟩ : View.Piece (Elt Ideal) S8x128 .f32) :: L)) (ix2 r d) = w (ix2 r d) :=
  View.read_writes_cons_unit_of_mem vw f inb w L (ix2 r d) (ix2 r d) rfl (by
    intro a
    match a with
    | ⟨0, _⟩ => show r.val = 0 + r.val; omega
    | ⟨1, _⟩ => show d.val = 0 + d.val; omega)

section Body

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S8x128 .f32) (harg9 : arg9.IsWhole) (x : Blk)

theorem full (arg4 : Memref sig .tc .vmem S8x128 .f32) (harg4 : arg4.IsWhole) (x : Blk) :
    (arg4.view.readAt (Elt Ideal) (Rect.unit (s := S8x128) ![0, 0] ![8, 128] inb_S8x128_S8x128_0_0).toLoadRect (harg4.unread x.w)) = x.w := (View.readAt_full _ _ _).trans (harg4.read_unread _)

theorem out5 (r : Fin 4096) (d : Fin 128) : out0_A_5 (F := Ideal) c i arg1 harg1 arg2 harg2 arg3 harg3 arg4 harg4 arg5 harg5 arg6 harg6 arg7 harg7 arg8 harg8 arg9 harg9 x.b x.c x.v x.w x.y (ix2 r d) = dbAt x r.val d := by
  unfold out0_A_5 kernelRun0_A
  dsimp only
  rw [full arg4 harg4 x]
  have S := st_eq Variants.none c none i arg1 harg1 arg2 harg2 arg3 harg3 arg4 harg4 arg5 harg5 arg6 harg6 arg7 harg7 arg8 harg8 arg9 harg9 x VO0_5 VO0_6 VO0_7 VO0_5.junk VO0_6.junk VO0_7.junk (init_eq x) k0_t1_loop.trips (le_refl _)
  exact S.2.1 r d (by rw [trips]; exact r.isLt)

theorem out6 (r : Fin 4096) (d : Fin 128) : out0_A_6 (F := Ideal) c i arg1 harg1 arg2 harg2 arg3 harg3 arg4 harg4 arg5 harg5 arg6 harg6 arg7 harg7 arg8 harg8 arg9 harg9 x.b x.c x.v x.w x.y (ix2 r d) = dcAt x r.val d := by
  unfold out0_A_6 kernelRun0_A
  dsimp only
  rw [full arg4 harg4 x]
  have S := st_eq Variants.none c none i arg1 harg1 arg2 harg2 arg3 harg3 arg4 harg4 arg5 harg5 arg6 harg6 arg7 harg7 arg8 harg8 arg9 harg9 x VO0_5 VO0_6 VO0_7 VO0_5.junk VO0_6.junk VO0_7.junk (init_eq x) k0_t1_loop.trips (le_refl _)
  exact S.2.2.1 r d (by rw [trips]; exact r.isLt)

theorem out7 (r : Fin 4096) (d : Fin 128) : out0_A_7 (F := Ideal) c i arg1 harg1 arg2 harg2 arg3 harg3 arg4 harg4 arg5 harg5 arg6 harg6 arg7 harg7 arg8 harg8 arg9 harg9 x.b x.c x.v x.w x.y (ix2 r d) = dvAt x r.val d := by
  unfold out0_A_7 kernelRun0_A
  dsimp only
  rw [full arg4 harg4 x]
  have S := st_eq Variants.none c none i arg1 harg1 arg2 harg2 arg3 harg3 arg4 harg4 arg5 harg5 arg6 harg6 arg7 harg7 arg8 harg8 arg9 harg9 x VO0_5 VO0_6 VO0_7 VO0_5.junk VO0_6.junk VO0_7.junk (init_eq x) k0_t1_loop.trips (le_refl _)
  exact S.2.2.2 r d (by rw [trips]; exact r.isLt)

theorem out8 (r : Fin 8) (d : Fin 128) : out0_A_8 (F := Ideal) c i arg1 harg1 arg2 harg2 arg3 harg3 arg4 harg4 arg5 harg5 arg6 harg6 arg7 harg7 arg8 harg8 arg9 harg9 x.b x.c x.v x.w x.y (ix2 r d)
    = if r.val < 3 then dwAt x (2 - r.val) 8 (ix2 0 d) else 0 := by
  unfold out0_A_8 kernelRun0_A
  dsimp only
  rw [full arg4 harg4 x]
  have S := (st_eq Variants.none c none i arg1 harg1 arg2 harg2 arg3 harg3 arg4 harg4 arg5 harg5 arg6 harg6 arg7 harg7 arg8 harg8 arg9 harg9 x VO0_5 VO0_6 VO0_7 VO0_5.junk VO0_6.junk VO0_7.junk (init_eq x) k0_t1_loop.trips (le_refl _)).1
  change _ = (dwAt x 2 8, dwAt x 1 8, dwAt x 0 8) at S
  generalize st_k0_t1 (F := Ideal) Variants.none c none i arg1 harg1 arg2 harg2 arg3 harg3 arg4 harg4 arg5 harg5 arg6 harg6 arg7 harg7 arg8 harg8 arg9 harg9 x.w (harg1.unread x.b) (harg2.unread x.c) (harg3.unread x.v) (harg5.unread x.y) (k0_pay2 (F := Ideal), k0_pay2 (F := Ideal), k0_pay2 (F := Ideal)) (Scf.trips (0#32) (Scalar.addi 0#32 8#32) 1#32) = T at *
  obtain ⟨⟨a1, a2, a3⟩, T'⟩ := T
  obtain ⟨S1, S'⟩ := Prod.mk.inj S
  obtain ⟨S2, S3⟩ := Prod.mk.inj S'
  subst S1 S2 S3
  dsimp only
  by_cases h2 : r.val = 2
  · refine (row_hit VO0_8 _ 2 _ _ _ r d h2).trans ?_
    rw [if_pos (by omega), show 2 - r.val = 0 from by omega]
  refine (row_miss VO0_8 _ 2 _ _ _ r d h2).trans ?_
  by_cases h1 : r.val = 1
  · refine (row_hit VO0_8 _ 1 _ _ _ r d h1).trans ?_
    rw [if_pos (by omega), show 2 - r.val = 1 from by omega]
  refine (row_miss VO0_8 _ 1 _ _ _ r d h1).trans ?_
  by_cases h0 : r.val = 0
  · refine (row_hit VO0_8 _ 0 _ _ _ r d h0).trans ?_
    rw [if_pos (by omega), show 2 - r.val = 2 from by omega]
  refine (row_miss VO0_8 _ 0 _ _ _ r d h0).trans ?_
  rw [if_neg (by omega)]
  refine (whole_hit VO0_8 _ _ _ _ r d).trans ?_
  exact pay7_at r d

end Body

variable (m : (ℓ : Loc nD τ sig) → Buf (Elt Ideal) ℓ) (c : Dev nD)

abbrev arg0 : FVec Ideal S4096x5760 .f32 := m ((c.tc : Thread nD τ).loc main_arg0)
abbrev arg1 : FVec Ideal S3x512 .f32 := m ((c.tc : Thread nD τ).loc main_arg1)
abbrev arg2 : FVec Ideal S4096x512 .f32 := m ((c.tc : Thread nD τ).loc main_arg2)

theorem entry_w (k : Fin 3) (q : Fin 512) : (V m c main_v1 : FVec Ideal S8x512 .f32) (ix2 ⟨k.val, by omega⟩ q) = arg1 m c (ix2 k q) := by
  simp only [V, List.flatten_cons, List.flatten_nil, List.append_nil, StableHlo.after_append]
  entry_read
  pointwise

theorem ix_0 : ∀ t : Fin cfg0.N, win0_0.index t = ![0, t.val] := by decide +kernel
theorem ix_1 : ∀ t : Fin cfg0.N, win0_1.index t = ![0, 4 + t.val] := by decide +kernel
theorem ix_2 : ∀ t : Fin cfg0.N, win0_2.index t = ![0, 8 + t.val] := by decide +kernel
theorem ix_3 : ∀ t : Fin cfg0.N, win0_3.index t = ![0, t.val] := by decide +kernel
theorem ix_4 : ∀ t : Fin cfg0.N, win0_4.index t = ![0, t.val] := by decide +kernel
theorem ix_5 : ∀ t : Fin cfg0.N, win0_5.index t = ![0, t.val] := by decide +kernel
theorem ix_6 : ∀ t : Fin cfg0.N, win0_6.index t = ![0, t.val] := by decide +kernel
theorem ix_7 : ∀ t : Fin cfg0.N, win0_7.index t = ![0, t.val] := by decide +kernel
theorem ix_8 : ∀ t : Fin cfg0.N, win0_8.index t = ![0, t.val] := by decide +kernel
theorem lt4 (t : Fin cfg0.N) : t.val < 4 := lt_of_lt_of_eq t.isLt N_0

/-- Channel `d` of group `t`. -/
def ch (t : Fin cfg0.N) (d : Fin 128) : Fin 512 := ⟨t.val * 128 + d.val, by have := lt4 t; omega⟩

/-- The blocks of group `t`. -/
def blkAt (t : Fin cfg0.N) : Blk := ⟨iblk m c 0 t, iblk m c 1 t, iblk m c 2 t, iblk m c 3 t, iblk m c 4 t⟩

theorem blk_b (t : Fin cfg0.N) (r : Fin 4096) (d : Fin 128) : (iblk m c 0 t : FVec Ideal S4096x128 .f32) (ix2 r d)
    = arg0 m c (ix2 r ⟨(ch t d).val, by omega⟩) := by
  unfold ch
  blk_ext! [iblk, V, ix_0 t]
theorem blk_c (t : Fin cfg0.N) (r : Fin 4096) (d : Fin 128) : (iblk m c 1 t : FVec Ideal S4096x128 .f32) (ix2 r d)
    = arg0 m c (ix2 r ⟨512 + (ch t d).val, by omega⟩) := by
  unfold ch
  blk_ext! [iblk, V, ix_1 t]
theorem blk_v (t : Fin cfg0.N) (r : Fin 4096) (d : Fin 128) : (iblk m c 2 t : FVec Ideal S4096x128 .f32) (ix2 r d)
    = arg0 m c (ix2 r ⟨1024 + (ch t d).val, by omega⟩) := by
  unfold ch
  blk_ext! [iblk, V, ix_2 t]
theorem blk_y (t : Fin cfg0.N) (r : Fin 4096) (d : Fin 128) : (iblk m c 4 t : FVec Ideal S4096x128 .f32) (ix2 r d)
    = arg2 m c (ix2 r (ch t d)) := by
  unfold ch
  blk_ext! [iblk, V, ix_4 t]
theorem blk_w (t : Fin cfg0.N) (k : Fin 3) (d : Fin 128) : (iblk m c 3 t : FVec Ideal S8x128 .f32) (ix2 ⟨k.val, by omega⟩ d)
    = arg1 m c (ix2 k (ch t d)) := by
  refine Eq.trans ?_ (entry_w m c k (ch t d))
  unfold ch
  blk_ext! [iblk, ix_3 t]

theorem col_b (t : Fin cfg0.N) (d : Fin 128) : col (blkAt m c t).b d = cB (arg0 m c) (ch t d) := congrArg cf (funext fun r => blk_b m c t r d)
theorem col_c (t : Fin cfg0.N) (d : Fin 128) : col (blkAt m c t).c d = cC (arg0 m c) (ch t d) := congrArg cf (funext fun r => blk_c m c t r d)
theorem col_v (t : Fin cfg0.N) (d : Fin 128) : col (blkAt m c t).v d = cV (arg0 m c) (ch t d) := congrArg cf (funext fun r => blk_v m c t r d)
theorem col_y (t : Fin cfg0.N) (d : Fin 128) : col (blkAt m c t).y d = cY (arg2 m c) (ch t d) := congrArg cf (funext fun r => blk_y m c t r d)
theorem row_w0 (t : Fin cfg0.N) (d : Fin 128) : (blkAt m c t).w (ix2 0 d) = arg1 m c (ix2 0 (ch t d)) := blk_w m c t 0 d
theorem row_w1 (t : Fin cfg0.N) (d : Fin 128) : (blkAt m c t).w (ix2 1 d) = arg1 m c (ix2 1 (ch t d)) := blk_w m c t 1 d
theorem row_w2 (t : Fin cfg0.N) (d : Fin 128) : (blkAt m c t).w (ix2 2 d) = arg1 m c (ix2 2 (ch t d)) := blk_w m c t 2 d

theorem point_b (t : Fin cfg0.N) (r : Fin 4096) (d : Fin 128) : (outsAt0 m c t).1 (ix2 r d) = outB (arg0 m c) (arg1 m c) (arg2 m c) (ix2 r (ch t d)) := by
  refine (out5 _ _ _ _ _ _ _ _ _ _ _ _ _ _ _ _ _ _ _ _ (blkAt m c t) r d).trans ?_
  unfold dbAt
  rw [col_y, col_c, col_v, row_w0, row_w1, row_w2]
  rfl

theorem point_c (t : Fin cfg0.N) (r : Fin 4096) (d : Fin 128) : (outsAt0 m c t).2.1 (ix2 r d) = outC (arg0 m c) (arg1 m c) (arg2 m c) (ix2 r (ch t d)) := by
  refine (out6 _ _ _ _ _ _ _ _ _ _ _ _ _ _ _ _ _ _ _ _ (blkAt m c t) r d).trans ?_
  unfold dcAt
  rw [col_b, col_y, col_v, row_w0, row_w1, row_w2]
  rfl

theorem point_v (t : Fin cfg0.N) (r : Fin 4096) (d : Fin 128) : (outsAt0 m c t).2.2.1 (ix2 r d) = outV (arg0 m c) (arg1 m c) (arg2 m c) (ix2 r (ch t d)) := by
  refine (out7 _ _ _ _ _ _ _ _ _ _ _ _ _ _ _ _ _ _ _ _ (blkAt m c t) r d).trans ?_
  unfold dvAt
  rw [col_b, col_y, col_c, row_w0, row_w1, row_w2]
  rfl

theorem point_w (t : Fin cfg0.N) (r : Fin 8) (d : Fin 128) : (outsAt0 m c t).2.2.2 (ix2 r d) = outW (arg0 m c) (arg2 m c) (ix2 r (ch t d)) := by
  refine (out8 _ _ _ _ _ _ _ _ _ _ _ _ _ _ _ _ _ _ _ _ (blkAt m c t) r d).trans ?_
  have h : ∀ j, dwAt (blkAt m c t) j 8 (ix2 0 d) = tap (arg0 m c) (arg2 m c) j (ch t d) := fun j => by
    show ∑ s ∈ Finset.range 8, ∑ r : Fin 512, dS (col (blkAt m c t).b d) (col (blkAt m c t).y d) 0 (512 * s + r.val) * mS (col (blkAt m c t).c d) (col (blkAt m c t).v d) j (512 * s + r.val) = _
    rw [col_b, col_y, col_c, col_v]
    exact sum_rows fun n => dS (cB (arg0 m c) (ch t d)) (cY (arg2 m c) (ch t d)) 0 n * mS (cC (arg0 m c) (ch t d)) (cV (arg0 m c) (ch t d)) j n
  rw [h]
  rfl

theorem final_b : (dats m 0 c).arrAt 5 cfg0.N = outB (arg0 m c) (arg1 m c) (arg2 m c) := by
  refine (dats m 0 c).arrAt_eq_of_covers 5 _ (by decide +kernel) fun t hf y => ?_
  rw [after0_5]
  have P := point_b m c t
  generalize outsAt0 m c t = O at *
  generalize outB (arg0 m c) (arg1 m c) (arg2 m c) = G at *
  idx_vars y
  refine (P y0 y1).trans ?_
  unfold ch
  blk_point [ix_5 t]

theorem final_c : (dats m 0 c).arrAt 6 cfg0.N = outC (arg0 m c) (arg1 m c) (arg2 m c) := by
  refine (dats m 0 c).arrAt_eq_of_covers 6 _ (by decide +kernel) fun t hf y => ?_
  rw [after0_6]
  have P := point_c m c t
  generalize outsAt0 m c t = O at *
  generalize outC (arg0 m c) (arg1 m c) (arg2 m c) = G at *
  idx_vars y
  refine (P y0 y1).trans ?_
  unfold ch
  blk_point [ix_6 t]

theorem final_v : (dats m 0 c).arrAt 7 cfg0.N = outV (arg0 m c) (arg1 m c) (arg2 m c) := by
  refine (dats m 0 c).arrAt_eq_of_covers 7 _ (by decide +kernel) fun t hf y => ?_
  rw [after0_7]
  have P := point_v m c t
  generalize outsAt0 m c t = O at *
  generalize outV (arg0 m c) (arg1 m c) (arg2 m c) = G at *
  idx_vars y
  refine (P y0 y1).trans ?_
  unfold ch
  blk_point [ix_7 t]

theorem final_w : (dats m 0 c).arrAt 8 cfg0.N = outW (arg0 m c) (arg2 m c) := by
  refine (dats m 0 c).arrAt_eq_of_covers 8 _ (by decide +kernel) fun t hf y => ?_
  rw [after0_8]
  have P := point_w m c t
  generalize outsAt0 m c t = O at *
  generalize outW (arg0 m c) (arg2 m c) = G at *
  idx_vars y
  refine (P y0 y1).trans ?_
  unfold ch
  blk_point [ix_8 t]

end Left

theorem algebraic : Cert.algebraic_Kernel16Ideal_Reference16Ideal (hKernel16Ideal := Cert.Kernel16Ideal.Gen.facts) (hReference16Ideal := Cert.Reference16Ideal.Gen.facts) := by
  intro m ρ m' ρ' _ hargs
  refine ⟨fun c => outB (arg0 m c) (arg1 m c) (arg2 m c), fun c => outC (arg0 m c) (arg1 m c) (arg2 m c), fun c => outV (arg0 m c) (arg1 m c) (arg2 m c), fun c => outW (arg0 m c) (arg2 m c), ?_, ?_⟩
  · refine (θ_run Cert.Kernel16Ideal.defs _ _).mono (fun _ h c => ?_) (Cert.Kernel16Ideal.Value.run_blocks (F := Ideal) m ρ)
    obtain ⟨h0, h1, h2, h3, h4⟩ := h c
    rw [final_b] at h0
    rw [final_c] at h1
    rw [final_v] at h2
    rw [final_w] at h3
    exact ⟨h0, h1, h2, h3, h4⟩
  · refine (θ_run Cert.Reference16Ideal.defs _ _).mono (fun _ h c => ?_) (Cert.Reference16Ideal.Value.run (F := Ideal) m' ρ')
    obtain ⟨h0, h1, h2, h3, h4⟩ := h c
    rw [(hargs c).1, (hargs c).2.1, (hargs c).2.2] at h0 h1 h2
    rw [(hargs c).1, (hargs c).2.2] at h3
    exact ⟨h0.trans (ref_b (arg0 m c) (arg1 m c) (arg2 m c)), h1.trans (ref_c (arg0 m c) (arg1 m c) (arg2 m c)), h2.trans (ref_v (arg0 m c) (arg1 m c) (arg2 m c)), h3.trans (ref_w (arg0 m c) (arg2 m c)), h4⟩

end Cert.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Words
public import proofs.«01_k».proof.Proof.Alg
public import proofs.«01_k».proof.Proof.Dz
public import proofs.«01_k».proof.Proof.Dh
public import proofs.«01_k».proof.Proof.Dwin
public import proofs.«01_k».proof.Proof.Dwout
public import proofs.«01_k».proof.Proof.Dyn
public import proofs.«01_k».proof.Proof.Dwo
public import proofs.«01_k».proof.Proof.DhMix
public import proofs.«01_k».proof.Proof.Dwmix
public import proofs.«01_k».proof.Proof.FfnIn
public import proofs.«01_k».proof.Proof.FfnOut
public import proofs.«01_k».proof.Proof.MixIn
public import proofs.«01_k».proof.Proof.MixOut
public import proofs.«01_k».proof.Proof.RmsFwd
public import proofs.«01_k».proof.Proof.Rms
public import proofs.«01_k».proof.Proof.Conv
public import Idealize.ShloMosaic.Adequacy
public import Idealize.ShloMosaic.Init

@[expose] public section

noncomputable section

namespace Cert.Proof

open Idealize.ShloMosaic Idealize.SL.Sem

theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem reference4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem reference5_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem reference6_frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem reference7_frame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem reference8_frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem reference9_frame : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem reference10_frame : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem reference11_frame : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem reference12_frame : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem reference13_frame : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem reference14_frame : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem reference15_frame : Cert.quiescent_Reference15Ideal (hReference15Ideal := Cert.Reference15Ideal.Gen.facts) := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem reference16_frame : Cert.quiescent_Reference16Ideal (hReference16Ideal := Cert.Reference16Ideal.Gen.facts) := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.AttnBwd.preFacts, Cert.Dz.preFacts,
    fun m ρ _ => Cert.AttnBwd.Words.frame_words m ρ, fun m ρ _ => Cert.AttnBwd.frame_ideal m ρ, fun m ρ _ => Cert.AttnBwd.frame_ideal m ρ,
    reference_frame, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    reference2_frame, fun m ρ _ => reference2_frame m ρ trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Kernel14.Gen.frame m ρ, fun m ρ _ => Cert.Kernel14Ideal.Gen.frame m ρ, reference14_frame,
    fun m ρ _ => Cert.Kernel15.Gen.frame m ρ, fun m ρ _ => Cert.Kernel15Ideal.Gen.frame m ρ, reference15_frame,
    fun m ρ _ => Cert.Kernel16.Gen.frame m ρ, fun m ρ _ => Cert.Kernel16Ideal.Gen.frame m ρ, reference16_frame,
    trivial, Cert.AttnBwd.algebraic, trivial, Cert.Dz.algebraic, trivial, Cert.Dh.algebraic, trivial, Cert.Dwin.algebraic, trivial, Cert.Dwout.algebraic,
    trivial, Cert.Dyn.algebraic, trivial, Cert.Dwo.algebraic, trivial, Cert.DhMix.algebraic, trivial, Cert.Dwmix.algebraic, trivial, Cert.FfnIn.algebraic, trivial, Cert.FfnOut.algebraic, trivial, Cert.MixIn.algebraic, trivial, Cert.MixOut.algebraic,
    trivial, Cert.Rms.algebraic, trivial, Cert.RmsFwd.algebraic, trivial, Cert.Conv.algebraic⟩

end Cert.Proof

end
